-- ==== Defs.lean ====
def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkIdeal_tame [hPre_tame : Cert.Pre_tame.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_tame.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1)) (m ((c.tc : Thread Cert.ChunkIdeal.nD Cert.ChunkIdeal.τ).loc Cert.ChunkIdeal.main_arg2))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_tame [hPre_tame : Cert.Pre_tame.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_tame.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1)) (m ((c.tc : Thread Cert.ChunkRefIdeal.nD Cert.ChunkRefIdeal.τ).loc Cert.ChunkRefIdeal.main_arg2))) = (fun _ => 1#1)

def Pre_Causal (m : (ℓ : Loc Cert.Causal.nD Cert.Causal.τ Cert.Causal.sig) → Buf (Elt Bits) ℓ) : Prop :=
  True

def Pre_CausalIdeal (m : (ℓ : Loc Cert.CausalIdeal.nD Cert.CausalIdeal.τ Cert.CausalIdeal.sig) → Buf (Elt Ideal) ℓ) : Prop :=
  True

def Pre_CausalIdeal_tame [hPre_tame : Cert.Pre_tame.Facts] (m : (ℓ : Loc Cert.CausalIdeal.nD Cert.CausalIdeal.τ Cert.CausalIdeal.sig) → Buf (Elt Ideal) ℓ) : Prop :=
  ∀ c : Dev Cert.CausalIdeal.nD,
    (Cert.Pre_tame.fn (F := Ideal) (m ((c.tc : Thread Cert.CausalIdeal.nD Cert.CausalIdeal.τ).loc Cert.CausalIdeal.main_arg0)) (m ((c.tc : Thread Cert.CausalIdeal.nD Cert.CausalIdeal.τ).loc Cert.CausalIdeal.main_arg1)) (m ((c.tc : Thread Cert.CausalIdeal.nD Cert.CausalIdeal.τ).loc Cert.CausalIdeal.main_arg2))) = (fun _ => 1#1)

def Pre_CausalRefIdeal (m : (ℓ : Loc Cert.CausalRefIdeal.nD Cert.CausalRefIdeal.τ Cert.CausalRefIdeal.sig) → Buf (Elt Ideal) ℓ) : Prop :=
  True

def Pre_CausalRefIdeal_tame [hPre_tame : Cert.Pre_tame.Facts] (m : (ℓ : Loc Cert.CausalRefIdeal.nD Cert.CausalRefIdeal.τ Cert.CausalRefIdeal.sig) → Buf (Elt Ideal) ℓ) : Prop :=
  ∀ c : Dev Cert.CausalRefIdeal.nD,
    (Cert.Pre_tame.fn (F := Ideal) (m ((c.tc : Thread Cert.CausalRefIdeal.nD Cert.CausalRefIdeal.τ).loc Cert.CausalRefIdeal.main_arg0)) (m ((c.tc : Thread Cert.CausalRefIdeal.nD Cert.CausalRefIdeal.τ).loc Cert.CausalRefIdeal.main_arg1)) (m ((c.tc : Thread Cert.CausalRefIdeal.nD Cert.CausalRefIdeal.τ).loc Cert.CausalRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1)
      ∧ r.2.mem ((c.tc : Thread Cert.Chunk.nD Cert.Chunk.τ).loc Cert.Chunk.main_arg2) = m ((c.tc : Thread Cert.Chunk.nD Cert.Chunk.τ).loc Cert.Chunk.main_arg2))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2))
      ∧ r.2.sem = fun _ => 0)

def quiescent_ChunkIdeal_pre_tame [hChunkIdeal : Cert.ChunkIdeal.Facts] [hPre_tame : Cert.Pre_tame.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal_tame m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
      ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2))
      ∧ r.2.sem = fun _ => 0)

def quiescent_ChunkRefIdeal_pre_tame [hChunkRefIdeal : Cert.ChunkRefIdeal.Facts] [hPre_tame : Cert.Pre_tame.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_tame m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2))
      ∧ r.2.sem = fun _ => 0)

def quiescent_Causal [hCausal : Cert.Causal.Facts] : Prop :=
  ∀ (m : (ℓ : Loc Cert.Causal.nD Cert.Causal.τ Cert.Causal.sig) → Buf (Elt Bits) ℓ) (g : Dev Cert.Causal.nD → PrngReg), Pre_Causal m →
    θ_run (Cert.Causal.defs (F := Bits)) (onTc (τ := Cert.Causal.τ) (Cert.Causal.main (F := Bits))) ⟨m, fun _ => 0, g⟩ (fun r => (∀ c : Dev Cert.Causal.nD,
      r.2.mem ((c.tc : Thread Cert.Causal.nD Cert.Causal.τ).loc Cert.Causal.main_arg0) = m ((c.tc : Thread Cert.Causal.nD Cert.Causal.τ).loc Cert.Causal.main_arg0)
      ∧ r.2.mem ((c.tc : Thread Cert.Causal.nD Cert.Causal.τ).loc Cert.Causal.main_arg1) = m ((c.tc : Thread Cert.Causal.nD Cert.Causal.τ).loc Cert.Causal.main_arg1)
      ∧ r.2.mem ((c.tc : Thread Cert.Causal.nD Cert.Causal.τ).loc Cert.Causal.main_arg2) = m ((c.tc : Thread Cert.Causal.nD Cert.Causal.τ).loc Cert.Causal.main_arg2))
      ∧ r.2.sem = fun _ => 0)

def quiescent_CausalIdeal [hCausalIdeal : Cert.CausalIdeal.Facts] : Prop :=
  ∀ (m : (ℓ : Loc Cert.CausalIdeal.nD Cert.CausalIdeal.τ Cert.CausalIdeal.sig) → Buf (Elt Ideal) ℓ) (g : Dev Cert.CausalIdeal.nD → PrngReg), Pre_CausalIdeal m →
    θ_run (Cert.CausalIdeal.defs (F := Ideal)) (onTc (τ := Cert.CausalIdeal.τ) (Cert.CausalIdeal.main (F := Ideal))) ⟨m, fun _ => 0, g⟩ (fun r => (∀ c : Dev Cert.CausalIdeal.nD,
      r.2.mem ((c.tc : Thread Cert.CausalIdeal.nD Cert.CausalIdeal.τ).loc Cert.CausalIdeal.main_arg0) = m ((c.tc : Thread Cert.CausalIdeal.nD Cert.CausalIdeal.τ).loc Cert.CausalIdeal.main_arg0)
      ∧ r.2.mem ((c.tc : Thread Cert.CausalIdeal.nD Cert.CausalIdeal.τ).loc Cert.CausalIdeal.main_arg1) = m ((c.tc : Thread Cert.CausalIdeal.nD Cert.CausalIdeal.τ).loc Cert.CausalIdeal.main_arg1)
      ∧ r.2.mem ((c.tc : Thread Cert.CausalIdeal.nD Cert.CausalIdeal.τ).loc Cert.CausalIdeal.main_arg2) = m ((c.tc : Thread Cert.CausalIdeal.nD Cert.CausalIdeal.τ).loc Cert.CausalIdeal.main_arg2))
      ∧ r.2.sem = fun _ => 0)

def quiescent_CausalIdeal_pre_tame [hCausalIdeal : Cert.CausalIdeal.Facts] [hPre_tame : Cert.Pre_tame.Facts] : Prop :=
  ∀ (m : (ℓ : Loc Cert.CausalIdeal.nD Cert.CausalIdeal.τ Cert.CausalIdeal.sig) → Buf (Elt Ideal) ℓ) (g : Dev Cert.CausalIdeal.nD → PrngReg), Pre_CausalIdeal_tame m →
    θ_run (Cert.CausalIdeal.defs (F := Ideal)) (onTc (τ := Cert.CausalIdeal.τ) (Cert.CausalIdeal.main (F := Ideal))) ⟨m, fun _ => 0, g⟩ (fun r => (∀ c : Dev Cert.CausalIdeal.nD,
      r.2.mem ((c.tc : Thread Cert.CausalIdeal.nD Cert.CausalIdeal.τ).loc Cert.CausalIdeal.main_arg0) = m ((c.tc : Thread Cert.CausalIdeal.nD Cert.CausalIdeal.τ).loc Cert.CausalIdeal.main_arg0)
      ∧ r.2.mem ((c.tc : Thread Cert.CausalIdeal.nD Cert.CausalIdeal.τ).loc Cert.CausalIdeal.main_arg1) = m ((c.tc : Thread Cert.CausalIdeal.nD Cert.CausalIdeal.τ).loc Cert.CausalIdeal.main_arg1)
      ∧ r.2.mem ((c.tc : Thread Cert.CausalIdeal.nD Cert.CausalIdeal.τ).loc Cert.CausalIdeal.main_arg2) = m ((c.tc : Thread Cert.CausalIdeal.nD Cert.CausalIdeal.τ).loc Cert.CausalIdeal.main_arg2))
      ∧ r.2.sem = fun _ => 0)

def quiescent_CausalRefIdeal [hCausalRefIdeal : Cert.CausalRefIdeal.Facts] : Prop :=
  ∀ (m : (ℓ : Loc Cert.CausalRefIdeal.nD Cert.CausalRefIdeal.τ Cert.CausalRefIdeal.sig) → Buf (Elt Ideal) ℓ) (g : Dev Cert.CausalRefIdeal.nD → PrngReg), Pre_CausalRefIdeal m →
    θ_run (Cert.CausalRefIdeal.defs (F := Ideal)) (onTc (τ := Cert.CausalRefIdeal.τ) (Cert.CausalRefIdeal.main (F := Ideal))) ⟨m, fun _ => 0, g⟩ (fun r => (∀ c : Dev Cert.CausalRefIdeal.nD,
      r.2.mem ((c.tc : Thread Cert.CausalRefIdeal.nD Cert.CausalRefIdeal.τ).loc Cert.CausalRefIdeal.main_arg0) = m ((c.tc : Thread Cert.CausalRefIdeal.nD Cert.CausalRefIdeal.τ).loc Cert.CausalRefIdeal.main_arg0)
      ∧ r.2.mem ((c.tc : Thread Cert.CausalRefIdeal.nD Cert.CausalRefIdeal.τ).loc Cert.CausalRefIdeal.main_arg1) = m ((c.tc : Thread Cert.CausalRefIdeal.nD Cert.CausalRefIdeal.τ).loc Cert.CausalRefIdeal.main_arg1)
      ∧ r.2.mem ((c.tc : Thread Cert.CausalRefIdeal.nD Cert.CausalRefIdeal.τ).loc Cert.CausalRefIdeal.main_arg2) = m ((c.tc : Thread Cert.CausalRefIdeal.nD Cert.CausalRefIdeal.τ).loc Cert.CausalRefIdeal.main_arg2))
      ∧ r.2.sem = fun _ => 0)

def quiescent_CausalRefIdeal_pre_tame [hCausalRefIdeal : Cert.CausalRefIdeal.Facts] [hPre_tame : Cert.Pre_tame.Facts] : Prop :=
  ∀ (m : (ℓ : Loc Cert.CausalRefIdeal.nD Cert.CausalRefIdeal.τ Cert.CausalRefIdeal.sig) → Buf (Elt Ideal) ℓ) (g : Dev Cert.CausalRefIdeal.nD → PrngReg), Pre_CausalRefIdeal_tame m →
    θ_run (Cert.CausalRefIdeal.defs (F := Ideal)) (onTc (τ := Cert.CausalRefIdeal.τ) (Cert.CausalRefIdeal.main (F := Ideal))) ⟨m, fun _ => 0, g⟩ (fun r => (∀ c : Dev Cert.CausalRefIdeal.nD,
      r.2.mem ((c.tc : Thread Cert.CausalRefIdeal.nD Cert.CausalRefIdeal.τ).loc Cert.CausalRefIdeal.main_arg0) = m ((c.tc : Thread Cert.CausalRefIdeal.nD Cert.CausalRefIdeal.τ).loc Cert.CausalRefIdeal.main_arg0)
      ∧ r.2.mem ((c.tc : Thread Cert.CausalRefIdeal.nD Cert.CausalRefIdeal.τ).loc Cert.CausalRefIdeal.main_arg1) = m ((c.tc : Thread Cert.CausalRefIdeal.nD Cert.CausalRefIdeal.τ).loc Cert.CausalRefIdeal.main_arg1)
      ∧ r.2.mem ((c.tc : Thread Cert.CausalRefIdeal.nD Cert.CausalRefIdeal.τ).loc Cert.CausalRefIdeal.main_arg2) = m ((c.tc : Thread Cert.CausalRefIdeal.nD Cert.CausalRefIdeal.τ).loc Cert.CausalRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10))
      ∧ r.2.sem = fun _ => 0)

def preserves_Chunk_ChunkIdeal : Prop :=
  True

def algebraic_ChunkIdeal_ChunkRefIdeal_pre_tame [hChunkIdeal : Cert.ChunkIdeal.Facts] [hChunkRefIdeal : Cert.ChunkRefIdeal.Facts] [hPre_tame : Cert.Pre_tame.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal_tame m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)
      ∧ m' ((c.tc : Thread Cert.ChunkRefIdeal.nD Cert.ChunkRefIdeal.τ).loc Cert.ChunkRefIdeal.main_arg2) = m ((c.tc : Thread Cert.ChunkIdeal.nD Cert.ChunkIdeal.τ).loc Cert.ChunkIdeal.main_arg2)) →
    ∃ (v0 : (c : Dev Cert.ChunkIdeal.nD) → Buf (Elt Ideal) ((c.tc : Thread Cert.ChunkIdeal.nD Cert.ChunkIdeal.τ).loc Cert.ChunkIdeal.main_v1)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v1) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1)
          ∧ r.2.mem ((c.tc : Thread Cert.ChunkIdeal.nD Cert.ChunkIdeal.τ).loc Cert.ChunkIdeal.main_arg2) = m ((c.tc : Thread Cert.ChunkIdeal.nD Cert.ChunkIdeal.τ).loc Cert.ChunkIdeal.main_arg2))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v36) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1)
          ∧ r.2.mem ((c.tc : Thread Cert.ChunkRefIdeal.nD Cert.ChunkRefIdeal.τ).loc Cert.ChunkRefIdeal.main_arg2) = m' ((c.tc : Thread Cert.ChunkRefIdeal.nD Cert.ChunkRefIdeal.τ).loc Cert.ChunkRefIdeal.main_arg2))

def preserves_Causal_CausalIdeal : Prop :=
  True

def algebraic_CausalIdeal_CausalRefIdeal_pre_tame [hCausalIdeal : Cert.CausalIdeal.Facts] [hCausalRefIdeal : Cert.CausalRefIdeal.Facts] [hPre_tame : Cert.Pre_tame.Facts] : Prop :=
  ∀ (m : (ℓ : Loc Cert.CausalIdeal.nD Cert.CausalIdeal.τ Cert.CausalIdeal.sig) → Buf (Elt Ideal) ℓ) (g : Dev Cert.CausalIdeal.nD → PrngReg)
    (m' : (ℓ : Loc Cert.CausalRefIdeal.nD Cert.CausalRefIdeal.τ Cert.CausalRefIdeal.sig) → Buf (Elt Ideal) ℓ) (g' : Dev Cert.CausalRefIdeal.nD → PrngReg), Pre_CausalIdeal_tame m →
    (∀ c : Dev Cert.CausalIdeal.nD,
      m' ((c.tc : Thread Cert.CausalRefIdeal.nD Cert.CausalRefIdeal.τ).loc Cert.CausalRefIdeal.main_arg0) = m ((c.tc : Thread Cert.CausalIdeal.nD Cert.CausalIdeal.τ).loc Cert.CausalIdeal.main_arg0)
      ∧ m' ((c.tc : Thread Cert.CausalRefIdeal.nD Cert.CausalRefIdeal.τ).loc Cert.CausalRefIdeal.main_arg1) = m ((c.tc : Thread Cert.CausalIdeal.nD Cert.CausalIdeal.τ).loc Cert.CausalIdeal.main_arg1)
      ∧ m' ((c.tc : Thread Cert.CausalRefIdeal.nD Cert.CausalRefIdeal.τ).loc Cert.CausalRefIdeal.main_arg2) = m ((c.tc : Thread Cert.CausalIdeal.nD Cert.CausalIdeal.τ).loc Cert.CausalIdeal.main_arg2)) →
    ∃ (v0 : (c : Dev Cert.CausalIdeal.nD) → Buf (Elt Ideal) ((c.tc : Thread Cert.CausalIdeal.nD Cert.CausalIdeal.τ).loc Cert.CausalIdeal.main_v1)),
      θ_run (Cert.CausalIdeal.defs (F := Ideal)) (onTc (τ := Cert.CausalIdeal.τ) (Cert.CausalIdeal.main (F := Ideal))) ⟨m, fun _ => 0, g⟩ (fun r => ∀ c : Dev Cert.CausalIdeal.nD,
          r.2.mem ((c.tc : Thread Cert.CausalIdeal.nD Cert.CausalIdeal.τ).loc Cert.CausalIdeal.main_v1) = v0 c
          ∧ r.2.mem ((c.tc : Thread Cert.CausalIdeal.nD Cert.CausalIdeal.τ).loc Cert.CausalIdeal.main_arg0) = m ((c.tc : Thread Cert.CausalIdeal.nD Cert.CausalIdeal.τ).loc Cert.CausalIdeal.main_arg0)
          ∧ r.2.mem ((c.tc : Thread Cert.CausalIdeal.nD Cert.CausalIdeal.τ).loc Cert.CausalIdeal.main_arg1) = m ((c.tc : Thread Cert.CausalIdeal.nD Cert.CausalIdeal.τ).loc Cert.CausalIdeal.main_arg1)
          ∧ r.2.mem ((c.tc : Thread Cert.CausalIdeal.nD Cert.CausalIdeal.τ).loc Cert.CausalIdeal.main_arg2) = m ((c.tc : Thread Cert.CausalIdeal.nD Cert.CausalIdeal.τ).loc Cert.CausalIdeal.main_arg2))
      ∧ θ_run (Cert.CausalRefIdeal.defs (F := Ideal)) (onTc (τ := Cert.CausalRefIdeal.τ) (Cert.CausalRefIdeal.main (F := Ideal))) ⟨m', fun _ => 0, g'⟩ (fun r => ∀ c : Dev Cert.CausalRefIdeal.nD,
          r.2.mem ((c.tc : Thread Cert.CausalRefIdeal.nD Cert.CausalRefIdeal.τ).loc Cert.CausalRefIdeal.main_v34) = v0 c
          ∧ r.2.mem ((c.tc : Thread Cert.CausalRefIdeal.nD Cert.CausalRefIdeal.τ).loc Cert.CausalRefIdeal.main_arg0) = m' ((c.tc : Thread Cert.CausalRefIdeal.nD Cert.CausalRefIdeal.τ).loc Cert.CausalRefIdeal.main_arg0)
          ∧ r.2.mem ((c.tc : Thread Cert.CausalRefIdeal.nD Cert.CausalRefIdeal.τ).loc Cert.CausalRefIdeal.main_arg1) = m' ((c.tc : Thread Cert.CausalRefIdeal.nD Cert.CausalRefIdeal.τ).loc Cert.CausalRefIdeal.main_arg1)
          ∧ r.2.mem ((c.tc : Thread Cert.CausalRefIdeal.nD Cert.CausalRefIdeal.τ).loc Cert.CausalRefIdeal.main_arg2) = m' ((c.tc : Thread Cert.CausalRefIdeal.nD Cert.CausalRefIdeal.τ).loc Cert.CausalRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v108) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)) →
    ∃ (v0 : (c : Dev Cert.InprojIdeal.nD) → Buf (Elt Ideal) ((c.tc : Thread Cert.InprojIdeal.nD Cert.InprojIdeal.τ).loc Cert.InprojIdeal.main_v126_0)) (v1 : (c : Dev Cert.InprojIdeal.nD) → Buf (Elt Ideal) ((c.tc : Thread Cert.InprojIdeal.nD Cert.InprojIdeal.τ).loc Cert.InprojIdeal.main_v126_1)) (v2 : (c : Dev Cert.InprojIdeal.nD) → Buf (Elt Ideal) ((c.tc : Thread Cert.InprojIdeal.nD Cert.InprojIdeal.τ).loc Cert.InprojIdeal.main_v126_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v126_0) = v0 c
          ∧ r.2.mem ((c.tc : Thread Cert.InprojIdeal.nD Cert.InprojIdeal.τ).loc Cert.InprojIdeal.main_v126_1) = v1 c
          ∧ r.2.mem ((c.tc : Thread Cert.InprojIdeal.nD Cert.InprojIdeal.τ).loc Cert.InprojIdeal.main_v126_7) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v64) = v0 c
          ∧ r.2.mem ((c.tc : Thread Cert.InprojRefIdeal.nD Cert.InprojRefIdeal.τ).loc Cert.InprojRefIdeal.main_v72) = v1 c
          ∧ r.2.mem ((c.tc : Thread Cert.InprojRefIdeal.nD Cert.InprojRefIdeal.τ).loc Cert.InprojRefIdeal.main_v79) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10))

def Claim : Prop :=
  ∃ (hChunk : Cert.Chunk.Facts) (hChunkIdeal : Cert.ChunkIdeal.Facts) (hChunkRefIdeal : Cert.ChunkRefIdeal.Facts) (hCausal : Cert.Causal.Facts) (hCausalIdeal : Cert.CausalIdeal.Facts) (hCausalRefIdeal : Cert.CausalRefIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_tame : Cert.Pre_tame.Facts),
    quiescent_Chunk (hChunk := hChunk)
    ∧ quiescent_ChunkIdeal (hChunkIdeal := hChunkIdeal)
    ∧ quiescent_ChunkIdeal_pre_tame (hChunkIdeal := hChunkIdeal) (hPre_tame := hPre_tame)
    ∧ quiescent_ChunkRefIdeal (hChunkRefIdeal := hChunkRefIdeal)
    ∧ quiescent_ChunkRefIdeal_pre_tame (hChunkRefIdeal := hChunkRefIdeal) (hPre_tame := hPre_tame)
    ∧ quiescent_Causal (hCausal := hCausal)
    ∧ quiescent_CausalIdeal (hCausalIdeal := hCausalIdeal)
    ∧ quiescent_CausalIdeal_pre_tame (hCausalIdeal := hCausalIdeal) (hPre_tame := hPre_tame)
    ∧ quiescent_CausalRefIdeal (hCausalRefIdeal := hCausalRefIdeal)
    ∧ quiescent_CausalRefIdeal_pre_tame (hCausalRefIdeal := hCausalRefIdeal) (hPre_tame := hPre_tame)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Chunk_ChunkIdeal
    ∧ algebraic_ChunkIdeal_ChunkRefIdeal_pre_tame (hChunkIdeal := hChunkIdeal) (hChunkRefIdeal := hChunkRefIdeal) (hPre_tame := hPre_tame)
    ∧ preserves_Causal_CausalIdeal
    ∧ algebraic_CausalIdeal_CausalRefIdeal_pre_tame (hCausalIdeal := hCausalIdeal) (hCausalRefIdeal := hCausalRefIdeal) (hPre_tame := hPre_tame)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_tame.lean ====
abbrev S32768x512 : Shape := ⟨2, ![32768, 512]⟩
abbrev S64x320x512 : Shape := ⟨3, ![64, 320, 512]⟩
abbrev S64x4x80x512 : Shape := ⟨4, ![64, 4, 80, 512]⟩
abbrev S64x4x1x512 : Shape := ⟨4, ![64, 4, 1, 512]⟩
abbrev S64x4x512 : Shape := ⟨3, ![64, 4, 512]⟩
abbrev S_ : Shape := ⟨0, ![]⟩

class Facts : Prop where
  shapeCasts_S64x320x512_S64x4x80x512 : S64x320x512.ShapeCasts S64x4x80x512
  slices_S64x4x80x512_S64x4x1x512_0_0_64_0 : S64x4x80x512.Slices ![0, 0, 64, 0] S64x4x1x512
  shapeCasts_S64x4x1x512_S64x4x512 : S64x4x1x512.ShapeCasts S64x4x512
  bcast_S_S32768x512 : S_.BroadcastsInDim S32768x512 (![] : Fin 0 → Fin S32768x512.rank)
  reducesTo_S32768x512_S_d0_1 : S32768x512.ReducesTo [0, 1] S_
  h_S_ : 0 < S_.numel
  bcast_S_S64x4x512 : S_.BroadcastsInDim S64x4x512 (![] : Fin 0 → Fin S64x4x512.rank)
  reducesTo_S64x4x512_S_d0_1_2 : S64x4x512.ReducesTo [0, 1, 2] S_

variable [Facts]

def fn {F : FTy → Type} [FloatOps F] (main_arg0 : FVec F S32768x512 .bf16) (main_arg1 : FVec F S32768x512 .bf16) (main_arg2 : FVec F S64x320x512 .bf16) : IVec S_ 1 :=
  let main_v0 : FVec F S64x4x80x512 .bf16 := shapeCast S64x4x80x512 main_arg2 shapeCasts_S64x320x512_S64x4x80x512
  let main_v1 : FVec F S64x4x1x512 .bf16 := (extractStridedSlice S64x4x1x512 ![0, 0, 64, 0] · slices_S64x4x80x512_S64x4x1x512_0_0_64_0) main_v0
  let main_v2 : FVec F S64x4x512 .bf16 := shapeCast S64x4x512 main_v1 shapeCasts_S64x4x1x512_S64x4x512
  let main_v3 : FVec F S32768x512 .bf16 := Host.absf main_arg0
  let main_cst : FVec F S_ .bf16 := constant S_ .bf16 0x7F80#16
  let main_v4 : FVec F S32768x512 .bf16 := broadcastInDim S32768x512 ![] bcast_S_S32768x512 main_cst
  let main_v5 : IVec S32768x512 1 := cmpf .olt main_v3 main_v4
  let main_c : IVec S_ 1 := constantI S_ 1 1#1
  let main_v6 : IVec S_ 1 := (fun x v => Host.reduce IntOp.andi x v reducesTo_S32768x512_S_d0_1 h_S_) main_v5 main_c
  let main_v7 : FVec F S32768x512 .bf16 := Host.absf main_arg1
  let main_cst_0 : FVec F S_ .bf16 := constant S_ .bf16 0x7F80#16
  let main_v8 : FVec F S32768x512 .bf16 := broadcastInDim S32768x512 ![] bcast_S_S32768x512 main_cst_0
  let main_v9 : IVec S32768x512 1 := cmpf .olt main_v7 main_v8
  let main_c_1 : IVec S_ 1 := constantI S_ 1 1#1
  let main_v10 : IVec S_ 1 := (fun x v => Host.reduce IntOp.andi x v reducesTo_S32768x512_S_d0_1 h_S_) main_v9 main_c_1
  let main_v11 : IVec S_ 1 := andi main_v6 main_v10
  let main_cst_2 : FVec F S_ .bf16 := constant S_ .bf16 0x3F80#16
  let main_v12 : FVec F S64x4x512 .bf16 := broadcastInDim S64x4x512 ![] bcast_S_S64x4x512 main_cst_2
  let main_v13 : IVec S64x4x512 1 := cmpf .oeq main_v2 main_v12
  let main_c_3 : IVec S_ 1 := constantI S_ 1 1#1
  let main_v14 : IVec S_ 1 := (fun x v => Host.reduce IntOp.andi x v reducesTo_S64x4x512_S_d0_1_2 h_S_) main_v13 main_c_3
  let main_v15 : IVec S_ 1 := andi main_v11 main_v14
  main_v15
-- ==== Chunk.lean ====
abbrev S32768x512 : Shape := ⟨2, ![32768, 512]⟩
abbrev S64x320x512 : Shape := ⟨3, ![64, 320, 512]⟩
abbrev S64x512x512 : Shape := ⟨3, ![64, 512, 512]⟩
abbrev S32768x256 : Shape := ⟨2, ![32768, 256]⟩
abbrev S512x512 : Shape := ⟨2, ![512, 512]⟩
abbrev S8x512x512 : Shape := ⟨3, ![8, 512, 512]⟩
abbrev S8x320x512 : Shape := ⟨3, ![8, 320, 512]⟩
abbrev S512x256 : Shape := ⟨2, ![512, 256]⟩
abbrev S4x1x512 : Shape := ⟨3, ![4, 1, 512]⟩
abbrev S4x80x512 : Shape := ⟨3, ![4, 80, 512]⟩
abbrev S2x4x512x512 : Shape := ⟨4, ![2, 4, 512, 512]⟩
abbrev S1x512x128 : Shape := ⟨3, ![1, 512, 128]⟩
abbrev S512x128 : Shape := ⟨2, ![512, 128]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S64x512 : Shape := ⟨2, ![64, 512]⟩
abbrev S256x512 : Shape := ⟨2, ![256, 512]⟩

abbrev nBuf : Space → Nat
  | .hbm => 5
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S64x320x512, .bf16⟩
  | .hbm, ⟨3, _⟩ => ⟨S64x512x512, .bf16⟩
  | .hbm, ⟨4, _⟩ => ⟨S32768x256, .bf16⟩
  | .local _ .vmem, ⟨0, _⟩ => ⟨S512x512, .bf16⟩
  | .local _ .vmem, ⟨1, _⟩ => ⟨S512x512, .bf16⟩
  | .local _ .vmem, ⟨2, _⟩ => ⟨S8x512x512, .bf16⟩
  | .local _ .vmem, ⟨3, _⟩ => ⟨S8x512x512, .bf16⟩
  | .local _ .vmem, ⟨4, _⟩ => ⟨S8x320x512, .bf16⟩
  | .local _ .vmem, ⟨5, _⟩ => ⟨S8x320x512, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | .local _ .vmem, ⟨10, _⟩ => ⟨S2x4x512x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_47 : BitVec 32 := 1#32
  ⟨c0_i32_45, v57, c1_i32_47⟩
def k0_off1 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off2 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v141 : Index := Scalar.indexCast v120
  let c0_110 : Index := 0#32
  let c0_111 : Index := 0#32
  ![v141.toNat, 0, 0]
def k0_off3 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off4 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v178 : Index := Scalar.indexCast v120
  let c80 : Index := 80#32
  let c0_140 : Index := 0#32
  ![v178.toNat, 80, 0]
def k0_off5 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off6 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v215 : Index := Scalar.indexCast v120
  let c160 : Index := 160#32
  let c0_169 : Index := 0#32
  ![v215.toNat, 160, 0]
def k0_off7 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off8 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v252 : Index := Scalar.indexCast v120
  let c240 : Index := 240#32
  let c0_198 : Index := 0#32
  ![v252.toNat, 240, 0]
def k0_off9 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_211 : BitVec 32 := 1#32
  let v271 : BitVec 32 := Scalar.addi v270 c1_i32_211
  let v272 : Index := Scalar.indexCast v271
  let c0_212 : Index := 0#32
  let c0_213 : Index := 0#32
  ![v272.toNat, 0, 0]
def k0_off10 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v291 : Index := Scalar.indexCast v270
  let c0_229 : Index := 0#32
  let c0_230 : Index := 0#32
  ![v291.toNat, 0, 0]
def k0_off11 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_241 : BitVec 32 := 1#32
  let v308 : BitVec 32 := Scalar.addi v270 c1_i32_241
  let v309 : Index := Scalar.indexCast v308
  let c0_242 : Index := 0#32
  let c128_243 : Index := 128#32
  ![v309.toNat, 0, 128]
def k0_off12 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v328 : Index := Scalar.indexCast v270
  let c80_259 : Index := 80#32
  let c0_260 : Index := 0#32
  ![v328.toNat, 80, 0]
def k0_off13 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_271 : BitVec 32 := 1#32
  let v345 : BitVec 32 := Scalar.addi v270 c1_i32_271
  let v346 : Index := Scalar.indexCast v345
  let c0_272 : Index := 0#32
  let c256_273 : Index := 256#32
  ![v346.toNat, 0, 256]
def k0_off14 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v365 : Index := Scalar.indexCast v270
  let c160_289 : Index := 160#32
  let c0_290 : Index := 0#32
  ![v365.toNat, 160, 0]
def k0_off15 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_301 : BitVec 32 := 1#32
  let v382 : BitVec 32 := Scalar.addi v270 c1_i32_301
  let v383 : Index := Scalar.indexCast v382
  let c0_302 : Index := 0#32
  let c384_303 : Index := 384#32
  ![v383.toNat, 0, 384]
def k0_off16 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v402 : Index := Scalar.indexCast v270
  let c240_319 : Index := 240#32
  let c0_320 : Index := 0#32
  ![v402.toNat, 240, 0]
@[reducible] def k0_t2_loop (i : grid0.Coords) : Scf.Loop 32 :=
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let v54 : BitVec 32 := Scalar.addi c0_i32_45 v53
  let c1_i32_48 : BitVec 32 := 1#32
  ⟨v57, v54, c1_i32_48⟩
def k0_off17 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off18 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v141 : Index := Scalar.indexCast v120
  let c0_110 : Index := 0#32
  let c0_111 : Index := 0#32
  ![v141.toNat, 0, 0]
def k0_off19 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off20 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v178 : Index := Scalar.indexCast v120
  let c80 : Index := 80#32
  let c0_140 : Index := 0#32
  ![v178.toNat, 80, 0]
def k0_off21 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off22 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v215 : Index := Scalar.indexCast v120
  let c160 : Index := 160#32
  let c0_169 : Index := 0#32
  ![v215.toNat, 160, 0]
def k0_off23 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off24 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v252 : Index := Scalar.indexCast v120
  let c240 : Index := 240#32
  let c0_198 : Index := 0#32
  ![v252.toNat, 240, 0]
def k0_off25 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_211 : BitVec 32 := 1#32
  let v271 : BitVec 32 := Scalar.addi v270 c1_i32_211
  let v272 : Index := Scalar.indexCast v271
  let c0_212 : Index := 0#32
  let c0_213 : Index := 0#32
  ![v272.toNat, 0, 0]
def k0_off26 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v291 : Index := Scalar.indexCast v270
  let c0_229 : Index := 0#32
  let c0_230 : Index := 0#32
  ![v291.toNat, 0, 0]
def k0_off27 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_241 : BitVec 32 := 1#32
  let v308 : BitVec 32 := Scalar.addi v270 c1_i32_241
  let v309 : Index := Scalar.indexCast v308
  let c0_242 : Index := 0#32
  let c128_243 : Index := 128#32
  ![v309.toNat, 0, 128]
def k0_off28 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v328 : Index := Scalar.indexCast v270
  let c80_259 : Index := 80#32
  let c0_260 : Index := 0#32
  ![v328.toNat, 80, 0]
def k0_off29 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_271 : BitVec 32 := 1#32
  let v345 : BitVec 32 := Scalar.addi v270 c1_i32_271
  let v346 : Index := Scalar.indexCast v345
  let c0_272 : Index := 0#32
  let c256_273 : Index := 256#32
  ![v346.toNat, 0, 256]
def k0_off30 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v365 : Index := Scalar.indexCast v270
  let c160_289 : Index := 160#32
  let c0_290 : Index := 0#32
  ![v365.toNat, 160, 0]
def k0_off31 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_301 : BitVec 32 := 1#32
  let v382 : BitVec 32 := Scalar.addi v270 c1_i32_301
  let v383 : Index := Scalar.indexCast v382
  let c0_302 : Index := 0#32
  let c384_303 : Index := 384#32
  ![v383.toNat, 0, 384]
def k0_off32 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v402 : Index := Scalar.indexCast v270
  let c240_319 : Index := 240#32
  let c0_320 : Index := 0#32
  ![v402.toNat, 240, 0]
def k0_cond1 (i : grid0.Coords) : BitVec 1 :=
  let arg1 : BitVec 32 := BitVec.ofNat 32 (i 1).val
  let c2_i32_49 : BitVec 32 := 2#32
  let c0_i32_50 : BitVec 32 := 0#32
  let v58 : BitVec 1 := Scalar.cmpi .eq c2_i32_49 c0_i32_50
  let c1_i32_51 : BitVec 32 := 1#32
  let v59 : BitVec 32 := Scalar.select v58 c1_i32_51 c2_i32_49
  let v60 : BitVec 32 := Scalar.remsi arg1 v59
  let c0_i32_53 : BitVec 32 := 0#32
  let v62 : BitVec 1 := Scalar.cmpi .slt v60 c0_i32_53
  let c0_i32_54 : BitVec 32 := 0#32
  let v63 : BitVec 1 := Scalar.cmpi .slt v59 c0_i32_54
  let v64 : BitVec 1 := Scalar.xori v62 v63
  let c0_i32_52 : BitVec 32 := 0#32
  let v61 : BitVec 1 := Scalar.cmpi .ne v60 c0_i32_52
  let v65 : BitVec 1 := Scalar.andi v64 v61
  let v66 : BitVec 32 := Scalar.addi v60 v59
  let v67 : BitVec 32 := Scalar.select v65 v66 v60
  let c0_i32_55 : BitVec 32 := 0#32
  let v68 : BitVec 1 := Scalar.cmpi .eq v67 c0_i32_55
  let v69 : BitVec 32 := Scalar.extui v68
  let c0_i32_56 : BitVec 32 := 0#32
  let v70 : BitVec 1 := Scalar.cmpi .ne v69 c0_i32_56
  v70

def k0_off33 (i : grid0.Coords) : Fin 3 → Nat :=
  let arg1 : BitVec 32 := BitVec.ofNat 32 (i 1).val
  let v140 : Index := Scalar.indexCast arg1
  let c0_101 : Index := 0#32
  let c0_102 : Index := 0#32
  ![v140.toNat, 0, 0]
def k0_off34 (i : grid0.Coords) : Fin 3 → Nat :=
  let arg1 : BitVec 32 := BitVec.ofNat 32 (i 1).val
  let v177 : Index := Scalar.indexCast arg1
  let c80 : Index := 80#32
  let c0_124 : Index := 0#32
  ![v177.toNat, 80, 0]
def k0_off35 (i : grid0.Coords) : Fin 3 → Nat :=
  let arg1 : BitVec 32 := BitVec.ofNat 32 (i 1).val
  let v214 : Index := Scalar.indexCast arg1
  let c160 : Index := 160#32
  let c0_146 : Index := 0#32
  ![v214.toNat, 160, 0]
def k0_off36 (i : grid0.Coords) : Fin 3 → Nat :=
  let arg1 : BitVec 32 := BitVec.ofNat 32 (i 1).val
  let v251 : Index := Scalar.indexCast arg1
  let c240 : Index := 240#32
  let c0_168 : Index := 0#32
  ![v251.toNat, 240, 0]
def k0_cond2 (i : grid0.Coords) : BitVec 1 :=
  let arg1 : BitVec 32 := BitVec.ofNat 32 (i 1).val
  let c2_i32_57 : BitVec 32 := 2#32
  let c0_i32_58 : BitVec 32 := 0#32
  let v71 : BitVec 1 := Scalar.cmpi .eq c2_i32_57 c0_i32_58
  let c1_i32_59 : BitVec 32 := 1#32
  let v72 : BitVec 32 := Scalar.select v71 c1_i32_59 c2_i32_57
  let v73 : BitVec 32 := Scalar.remsi arg1 v72
  let c0_i32_61 : BitVec 32 := 0#32
  let v75 : BitVec 1 := Scalar.cmpi .slt v73 c0_i32_61
  let c0_i32_62 : BitVec 32 := 0#32
  let v76 : BitVec 1 := Scalar.cmpi .slt v72 c0_i32_62
  let v77 : BitVec 1 := Scalar.xori v75 v76
  let c0_i32_60 : BitVec 32 := 0#32
  let v74 : BitVec 1 := Scalar.cmpi .ne v73 c0_i32_60
  let v78 : BitVec 1 := Scalar.andi v77 v74
  let v79 : BitVec 32 := Scalar.addi v73 v72
  let v80 : BitVec 32 := Scalar.select v78 v79 v73
  let c1_i32_63 : BitVec 32 := 1#32
  let v81 : BitVec 1 := Scalar.cmpi .eq v80 c1_i32_63
  let v82 : BitVec 32 := Scalar.extui v81
  let c0_i32_64 : BitVec 32 := 0#32
  let v83 : BitVec 1 := Scalar.cmpi .ne v82 c0_i32_64
  v83

def k0_off37 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off38 (i : grid0.Coords) : Fin 3 → Nat :=
  let arg1 : BitVec 32 := BitVec.ofNat 32 (i 1).val
  let c1_i32_91 : BitVec 32 := 1#32
  let v120 : BitVec 32 := Scalar.subi arg1 c1_i32_91
  let v141 : Index := Scalar.indexCast v120
  let c0_110 : Index := 0#32
  let c0_111 : Index := 0#32
  ![v141.toNat, 0, 0]
def k0_off39 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off40 (i : grid0.Coords) : Fin 3 → Nat :=
  let arg1 : BitVec 32 := BitVec.ofNat 32 (i 1).val
  let c1_i32_91 : BitVec 32 := 1#32
  let v120 : BitVec 32 := Scalar.subi arg1 c1_i32_91
  let v178 : Index := Scalar.indexCast v120
  let c80 : Index := 80#32
  let c0_140 : Index := 0#32
  ![v178.toNat, 80, 0]
def k0_off41 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off42 (i : grid0.Coords) : Fin 3 → Nat :=
  let arg1 : BitVec 32 := BitVec.ofNat 32 (i 1).val
  let c1_i32_91 : BitVec 32 := 1#32
  let v120 : BitVec 32 := Scalar.subi arg1 c1_i32_91
  let v215 : Index := Scalar.indexCast v120
  let c160 : Index := 160#32
  let c0_169 : Index := 0#32
  ![v215.toNat, 160, 0]
def k0_off43 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off44 (i : grid0.Coords) : Fin 3 → Nat :=
  let arg1 : BitVec 32 := BitVec.ofNat 32 (i 1).val
  let c1_i32_91 : BitVec 32 := 1#32
  let v120 : BitVec 32 := Scalar.subi arg1 c1_i32_91
  let v252 : Index := Scalar.indexCast v120
  let c240 : Index := 240#32
  let c0_198 : Index := 0#32
  ![v252.toNat, 240, 0]
def k0_off45 (i : grid0.Coords) : Fin 3 → Nat :=
  let arg1 : BitVec 32 := BitVec.ofNat 32 (i 1).val
  let v289 : Index := Scalar.indexCast arg1
  let c0_219 : Index := 0#32
  let c0_220 : Index := 0#32
  ![v289.toNat, 0, 0]
def k0_off46 (i : grid0.Coords) : Fin 3 → Nat :=
  let arg1 : BitVec 32 := BitVec.ofNat 32 (i 1).val
  let v326 : Index := Scalar.indexCast arg1
  let c80_242 : Index := 80#32
  let c0_243 : Index := 0#32
  ![v326.toNat, 80, 0]
def k0_off47 (i : grid0.Coords) : Fin 3 → Nat :=
  let arg1 : BitVec 32 := BitVec.ofNat 32 (i 1).val
  let v363 : Index := Scalar.indexCast arg1
  let c160_265 : Index := 160#32
  let c0_266 : Index := 0#32
  ![v363.toNat, 160, 0]
def k0_off48 (i : grid0.Coords) : Fin 3 → Nat :=
  let arg1 : BitVec 32 := BitVec.ofNat 32 (i 1).val
  let v400 : Index := Scalar.indexCast arg1
  let c240_288 : Index := 240#32
  let c0_289 : Index := 0#32
  ![v400.toNat, 240, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ChunkRefIdeal.lean ====
abbrev S32768x512 : Shape := ⟨2, ![32768, 512]⟩
abbrev S64x320x512 : Shape := ⟨3, ![64, 320, 512]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S4096x4096 : Shape := ⟨2, ![4096, 4096]⟩
abbrev S8x4096x4x128 : Shape := ⟨4, ![8, 4096, 4, 128]⟩
abbrev S8x8x4x80x512 : Shape := ⟨5, ![8, 8, 4, 80, 512]⟩
abbrev S8x8x4x64x512 : Shape := ⟨5, ![8, 8, 4, 64, 512]⟩
abbrev S8x8x512x4x64 : Shape := ⟨5, ![8, 8, 512, 4, 64]⟩
abbrev S8x4096x4x64 : Shape := ⟨4, ![8, 4096, 4, 64]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 82
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S64x320x512, .bf16⟩
  | .hbm, ⟨3, _⟩ => ⟨S4096, .i32⟩
  | .hbm, ⟨4, _⟩ => ⟨S1x4096, .i32⟩
  | .hbm, ⟨5, _⟩ => ⟨S_, .i32⟩
  | .hbm, ⟨6, _⟩ => ⟨S_, .i32⟩
  | .hbm, ⟨7, _⟩ => ⟨S1x4096, .i32⟩
  | .hbm, ⟨8, _⟩ => ⟨S1x4096, .i32⟩
  | .hbm, ⟨9, _⟩ => ⟨S1x4096, .i32⟩
  | .hbm, ⟨10, _⟩ => ⟨S_, .i32⟩
  | .hbm, ⟨11, _⟩ => ⟨S1x4096, .i32⟩
  | .hbm, ⟨12, _⟩ => ⟨S1x4096, .i1⟩
  | .hbm, ⟨13, _⟩ => ⟨S1x4096, .i32⟩
  | .hbm, ⟨14, _⟩ => ⟨S1x4096, .i32⟩
  | .hbm, ⟨15, _⟩ => ⟨S_, .i32⟩
  | .hbm, ⟨16, _⟩ => ⟨S1x4096, .i32⟩
  | .hbm, ⟨17, _⟩ => ⟨S1x4096, .i1⟩
  | .hbm, ⟨18, _⟩ => ⟨S1x4096, .i1⟩
  | .hbm, ⟨19, _⟩ => ⟨S_, .i32⟩
  | .hbm, ⟨20, _⟩ => ⟨S1x4096, .i32⟩
  | .hbm, ⟨21, _⟩ => ⟨S1x4096, .i32⟩
  | .hbm, ⟨22, _⟩ => ⟨S1x4096, .i32⟩
  | .hbm, ⟨23, _⟩ => ⟨S4096x1, .i32⟩
  | .hbm, ⟨24, _⟩ => ⟨S_, .i32⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i1⟩
  | .hbm, ⟨32, _⟩ => ⟨S4096x1, .i32⟩
  | .hbm, ⟨33, _⟩ => ⟨S4096x1, .i32⟩
  | .hbm, ⟨34, _⟩ => ⟨S_, .i32⟩
  | .hbm, ⟨35, _⟩ => ⟨S4096x1, .i32⟩
  | .hbm, ⟨36, _⟩ => ⟨S4096x1, .i1⟩
  | .hbm, ⟨37, _⟩ => ⟨S4096x1, .i1⟩
  | .hbm, ⟨38, _⟩ => ⟨S_, .i32⟩
  | .hbm, ⟨39, _⟩ => ⟨S4096x1, .i32⟩
  | .hbm, ⟨40, _⟩ => ⟨S4096x1, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S32768x512, .f32⟩
  | .hbm, ⟨46, _⟩ => ⟨S8x4096x4x128, .f32⟩
  | .hbm, ⟨47, _⟩ => ⟨S32768x512, .f32⟩
  | .hbm, ⟨48, _⟩ => ⟨S8x4096x4x128, .f32⟩
  | .hbm, ⟨49, _⟩ => ⟨S64x320x512, .f32⟩
  | .hbm, ⟨50, _⟩ => ⟨S8x8x4x80x512, .f32⟩
  | .hbm, ⟨51, _⟩ => ⟨S8x8x4x64x512, .f32⟩
  | .hbm, ⟨52, _⟩ => ⟨S8x8x512x4x64, .f32⟩
  | .hbm, ⟨53, _⟩ => ⟨S8x4096x4x64, .f32⟩
  | .hbm, ⟨54, _⟩ => ⟨S8x4x4096x4096, .f32⟩
  | .hbm, ⟨55, _⟩ => ⟨S_, .f32⟩
  | .hbm, ⟨56, _⟩ => ⟨S_, .f32⟩
  | .hbm, ⟨57, _⟩ => ⟨S8x4x4096x4096, .f32⟩
  | .hbm, ⟨58, _⟩ => ⟨S8x4x4096x4096, .f32⟩
  | .hbm, ⟨59, _⟩ => ⟨S_, .f32⟩
  | .hbm, ⟨60, _⟩ => ⟨S_, .f32⟩
  | .hbm, ⟨61, _⟩ => ⟨S8x4x4096x4096, .i1⟩
  | .hbm, ⟨62, _⟩ => ⟨S8x4x4096x4096, .f32⟩
  | .hbm, ⟨63, _⟩ => ⟨S8x4x4096x4096, .f32⟩
  | .hbm, ⟨64, _⟩ => ⟨S_, .f32⟩
  | .hbm, ⟨65, _⟩ => ⟨S8x4x4096, .f32⟩
  | .hbm, ⟨66, _⟩ => ⟨S_, .f32⟩
  | .hbm, ⟨67, _⟩ => ⟨S8x4x4096, .f32⟩
  | .hbm, ⟨68, _⟩ => ⟨S8x4x4096, .f32⟩
  | .hbm, ⟨69, _⟩ => ⟨S8x4x4096x1, .f32⟩
  | .hbm, ⟨70, _⟩ => ⟨S8x4x4096x4096, .f32⟩
  | .hbm, ⟨71, _⟩ => ⟨S8x4x4096x4096, .f32⟩
  | .hbm, ⟨72, _⟩ => ⟨S8x4x4096x4096, .f32⟩
  | .hbm, ⟨73, _⟩ => ⟨S_, .f32⟩
  | .hbm, ⟨74, _⟩ => ⟨S8x4x4096, .f32⟩
  | .hbm, ⟨75, _⟩ => ⟨S8x4x4096x1, .f32⟩
  | .hbm, ⟨76, _⟩ => ⟨S8x4x4096x4096, .f32⟩
  | .hbm, ⟨77, _⟩ => ⟨S8x4x4096x4096, .f32⟩
  | .hbm, ⟨78, _⟩ => ⟨S8x4x64x4096, .f32⟩
  | .hbm, ⟨79, _⟩ => ⟨S8x4096x4x64, .f32⟩
  | .hbm, ⟨80, _⟩ => ⟨S32768x256, .f32⟩
  | .hbm, ⟨81, _⟩ => ⟨S32768x256, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_cst : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v21 : Ref sig .tc := ⟨.hbm, 63, rfl⟩
abbrev main_cst_2 : Ref sig .tc := ⟨.hbm, 64, rfl⟩
abbrev main_v22 : Ref sig .tc := ⟨.hbm, 65, rfl⟩
abbrev main_cst_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩

abbrev nD : Nat := 1
abbrev τ : Topo := Topo.v7x

variable {F : FTy → Type} [FloatOps F]
-- ==== Causal.lean ====
abbrev S32768x512 : Shape := ⟨2, ![32768, 512]⟩
abbrev S64x320x512 : Shape := ⟨3, ![64, 320, 512]⟩
abbrev S64x512x512 : Shape := ⟨3, ![64, 512, 512]⟩
abbrev S32768x256 : Shape := ⟨2, ![32768, 256]⟩
abbrev S512x512 : Shape := ⟨2, ![512, 512]⟩
abbrev S8x512x512 : Shape := ⟨3, ![8, 512, 512]⟩
abbrev S8x320x512 : Shape := ⟨3, ![8, 320, 512]⟩
abbrev S512x256 : Shape := ⟨2, ![512, 256]⟩
abbrev S4x1x512 : Shape := ⟨3, ![4, 1, 512]⟩
abbrev S4x80x512 : Shape := ⟨3, ![4, 80, 512]⟩
abbrev S2x4x512x512 : Shape := ⟨4, ![2, 4, 512, 512]⟩
abbrev S1x512x128 : Shape := ⟨3, ![1, 512, 128]⟩
abbrev S512x128 : Shape := ⟨2, ![512, 128]⟩
abbrev S1x1x512x512 : Shape := ⟨4, ![1, 1, 512, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S64x512 : Shape := ⟨2, ![64, 512]⟩
abbrev S256x512 : Shape := ⟨2, ![256, 512]⟩

abbrev nBuf : Space → Nat
  | .hbm => 5
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S64x320x512, .bf16⟩
  | .hbm, ⟨3, _⟩ => ⟨S64x512x512, .bf16⟩
  | .hbm, ⟨4, _⟩ => ⟨S32768x256, .bf16⟩
  | .local _ .vmem, ⟨0, _⟩ => ⟨S512x512, .bf16⟩
  | .local _ .vmem, ⟨1, _⟩ => ⟨S512x512, .bf16⟩
  | .local _ .vmem, ⟨2, _⟩ => ⟨S8x512x512, .bf16⟩
  | .local _ .vmem, ⟨3, _⟩ => ⟨S8x512x512, .bf16⟩
  | .local _ .vmem, ⟨4, _⟩ => ⟨S8x320x512, .bf16⟩
  | .local _ .vmem, ⟨5, _⟩ => ⟨S8x320x512, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x80x512, .f32⟩
  | .local _ .vmem, ⟨10, _⟩ => ⟨S2x4x512x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_47 : BitVec 32 := 1#32
  ⟨c0_i32_45, v57, c1_i32_47⟩
def k0_off1 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off2 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v141 : Index := Scalar.indexCast v120
  let c0_110 : Index := 0#32
  let c0_111 : Index := 0#32
  ![v141.toNat, 0, 0]
def k0_off3 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off4 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v178 : Index := Scalar.indexCast v120
  let c80 : Index := 80#32
  let c0_140 : Index := 0#32
  ![v178.toNat, 80, 0]
def k0_off5 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off6 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v215 : Index := Scalar.indexCast v120
  let c160 : Index := 160#32
  let c0_169 : Index := 0#32
  ![v215.toNat, 160, 0]
def k0_off7 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off8 (i : grid0.Coords) (k0_t1 : Fin (k0_t1_loop i).trips) : Fin 3 → Nat :=
  let c2_i32_91 : BitVec 32 := 2#32
  let c0_i32_45 : BitVec 32 := 0#32
  let c1_i32_47 : BitVec 32 := 1#32
  let arg9 : BitVec 32 := Scf.iv c0_i32_45 c1_i32_47 k0_t1
  let v120 : BitVec 32 := Scalar.muli c2_i32_91 arg9
  let v252 : Index := Scalar.indexCast v120
  let c240 : Index := 240#32
  let c0_198 : Index := 0#32
  ![v252.toNat, 240, 0]
def k0_off9 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_211 : BitVec 32 := 1#32
  let v271 : BitVec 32 := Scalar.addi v270 c1_i32_211
  let v272 : Index := Scalar.indexCast v271
  let c0_212 : Index := 0#32
  let c0_213 : Index := 0#32
  ![v272.toNat, 0, 0]
def k0_off10 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v291 : Index := Scalar.indexCast v270
  let c0_229 : Index := 0#32
  let c0_230 : Index := 0#32
  ![v291.toNat, 0, 0]
def k0_off11 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_241 : BitVec 32 := 1#32
  let v308 : BitVec 32 := Scalar.addi v270 c1_i32_241
  let v309 : Index := Scalar.indexCast v308
  let c0_242 : Index := 0#32
  let c128_243 : Index := 128#32
  ![v309.toNat, 0, 128]
def k0_off12 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v328 : Index := Scalar.indexCast v270
  let c80_259 : Index := 80#32
  let c0_260 : Index := 0#32
  ![v328.toNat, 80, 0]
def k0_off13 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_271 : BitVec 32 := 1#32
  let v345 : BitVec 32 := Scalar.addi v270 c1_i32_271
  let v346 : Index := Scalar.indexCast v345
  let c0_272 : Index := 0#32
  let c256_273 : Index := 256#32
  ![v346.toNat, 0, 256]
def k0_off14 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v365 : Index := Scalar.indexCast v270
  let c160_289 : Index := 160#32
  let c0_290 : Index := 0#32
  ![v365.toNat, 160, 0]
def k0_off15 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let c1_i32_301 : BitVec 32 := 1#32
  let v382 : BitVec 32 := Scalar.addi v270 c1_i32_301
  let v383 : Index := Scalar.indexCast v382
  let c0_302 : Index := 0#32
  let c384_303 : Index := 384#32
  ![v383.toNat, 0, 384]
def k0_off16 (i : grid0.Coords) (k0_t1 : Fin (k0_t1_loop i).trips) : Fin 3 → Nat :=
  let c2_i32_209 : BitVec 32 := 2#32
  let c0_i32_45 : BitVec 32 := 0#32
  let c1_i32_47 : BitVec 32 := 1#32
  let arg9 : BitVec 32 := Scf.iv c0_i32_45 c1_i32_47 k0_t1
  let v269 : BitVec 32 := Scalar.muli c2_i32_209 arg9
  let c1_i32_210 : BitVec 32 := 1#32
  let v270 : BitVec 32 := Scalar.addi v269 c1_i32_210
  let v402 : Index := Scalar.indexCast v270
  let c240_319 : Index := 240#32
  let c0_320 : Index := 0#32
  ![v402.toNat, 240, 0]
@[reducible] def k0_t2_loop (i : grid0.Coords) : Scf.Loop 32 :=
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let v54 : BitVec 32 := Scalar.addi c0_i32_45 v53
  let c1_i32_48 : BitVec 32 := 1#32
  ⟨v57, v54, c1_i32_48⟩
def k0_off17 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off18 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v141 : Index := Scalar.indexCast v120
  let c0_110 : Index := 0#32
  let c0_111 : Index := 0#32
  ![v141.toNat, 0, 0]
def k0_off19 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off20 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v178 : Index := Scalar.indexCast v120
  let c80 : Index := 80#32
  let c0_140 : Index := 0#32
  ![v178.toNat, 80, 0]
def k0_off21 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off22 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v215 : Index := Scalar.indexCast v120
  let c160 : Index := 160#32
  let c0_169 : Index := 0#32
  ![v215.toNat, 160, 0]
def k0_off23 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off24 (i : grid0.Coords) (k0_t2 : Fin (k0_t2_loop i).trips) : Fin 3 → Nat :=
  let c2_i32_91 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v120 : BitVec 32 := Scalar.muli c2_i32_91 arg9
  let v252 : Index := Scalar.indexCast v120
  let c240 : Index := 240#32
  let c0_198 : Index := 0#32
  ![v252.toNat, 240, 0]
def k0_off25 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_211 : BitVec 32 := 1#32
  let v271 : BitVec 32 := Scalar.addi v270 c1_i32_211
  let v272 : Index := Scalar.indexCast v271
  let c0_212 : Index := 0#32
  let c0_213 : Index := 0#32
  ![v272.toNat, 0, 0]
def k0_off26 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v291 : Index := Scalar.indexCast v270
  let c0_229 : Index := 0#32
  let c0_230 : Index := 0#32
  ![v291.toNat, 0, 0]
def k0_off27 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_241 : BitVec 32 := 1#32
  let v308 : BitVec 32 := Scalar.addi v270 c1_i32_241
  let v309 : Index := Scalar.indexCast v308
  let c0_242 : Index := 0#32
  let c128_243 : Index := 128#32
  ![v309.toNat, 0, 128]
def k0_off28 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v328 : Index := Scalar.indexCast v270
  let c80_259 : Index := 80#32
  let c0_260 : Index := 0#32
  ![v328.toNat, 80, 0]
def k0_off29 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_271 : BitVec 32 := 1#32
  let v345 : BitVec 32 := Scalar.addi v270 c1_i32_271
  let v346 : Index := Scalar.indexCast v345
  let c0_272 : Index := 0#32
  let c256_273 : Index := 256#32
  ![v346.toNat, 0, 256]
def k0_off30 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v365 : Index := Scalar.indexCast v270
  let c160_289 : Index := 160#32
  let c0_290 : Index := 0#32
  ![v365.toNat, 160, 0]
def k0_off31 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let c1_i32_301 : BitVec 32 := 1#32
  let v382 : BitVec 32 := Scalar.addi v270 c1_i32_301
  let v383 : Index := Scalar.indexCast v382
  let c0_302 : Index := 0#32
  let c384_303 : Index := 384#32
  ![v383.toNat, 0, 384]
def k0_off32 (i : grid0.Coords) (k0_t2 : Fin (k0_t2_loop i).trips) : Fin 3 → Nat :=
  let c2_i32_209 : BitVec 32 := 2#32
  let c0_i32_45 : BitVec 32 := 0#32
  let arg1 : BitVec 32 := BitVec.ofNat 32 (i 1).val
  let c0_i32 : BitVec 32 := 0#32
  let v37 : BitVec 1 := Scalar.cmpi .sgt arg1 c0_i32
  let v38 : BitVec 32 := Scalar.extui v37
  let c0_i32_40 : BitVec 32 := 0#32
  let v39 : BitVec 1 := Scalar.cmpi .slt arg1 c0_i32_40
  let v40 : BitVec 32 := Scalar.extui v39
  let v41 : BitVec 32 := Scalar.subi v38 v40
  let c2_i32 : BitVec 32 := 2#32
  let c0_i32_41 : BitVec 32 := 0#32
  let v42 : BitVec 1 := Scalar.cmpi .sgt c2_i32 c0_i32_41
  let v43 : BitVec 32 := Scalar.extui v42
  let c0_i32_42 : BitVec 32 := 0#32
  let v44 : BitVec 1 := Scalar.cmpi .slt c2_i32 c0_i32_42
  let v45 : BitVec 32 := Scalar.extui v44
  let v46 : BitVec 32 := Scalar.subi v43 v45
  let v47 : BitVec 1 := Scalar.cmpi .ne v41 v46
  let v48 : BitVec 32 := Scalar.remsi arg1 c2_i32
  let c0_i32_43 : BitVec 32 := 0#32
  let v49 : BitVec 1 := Scalar.cmpi .ne v48 c0_i32_43
  let v50 : BitVec 1 := Scalar.andi v47 v49
  let v36 : BitVec 32 := Scalar.divsi arg1 c2_i32
  let c1_i32 : BitVec 32 := 1#32
  let v51 : BitVec 32 := Scalar.subi v36 c1_i32
  let v52 : BitVec 32 := Scalar.select v50 v51 v36
  let v53 : BitVec 32 := Scalar.subi v52 c0_i32_45
  let c1_i32_46 : BitVec 32 := 1#32
  let v55 : BitVec 32 := Scalar.divsi v53 c1_i32_46
  let v56 : BitVec 32 := Scalar.muli v55 c1_i32_46
  let v57 : BitVec 32 := Scalar.addi c0_i32_45 v56
  let c1_i32_48 : BitVec 32 := 1#32
  let arg9 : BitVec 32 := Scf.iv v57 c1_i32_48 k0_t2
  let v269 : BitVec 32 := Scalar.muli c2_i32_209 arg9
  let c1_i32_210 : BitVec 32 := 1#32
  let v270 : BitVec 32 := Scalar.addi v269 c1_i32_210
  let v402 : Index := Scalar.indexCast v270
  let c240_319 : Index := 240#32
  let c0_320 : Index := 0#32
  ![v402.toNat, 240, 0]
def k0_cond1 (i : grid0.Coords) : BitVec 1 :=
  let arg1 : BitVec 32 := BitVec.ofNat 32 (i 1).val
  let c2_i32_49 : BitVec 32 := 2#32
  let c0_i32_50 : BitVec 32 := 0#32
  let v58 : BitVec 1 := Scalar.cmpi .eq c2_i32_49 c0_i32_50
  let c1_i32_51 : BitVec 32 := 1#32
  let v59 : BitVec 32 := Scalar.select v58 c1_i32_51 c2_i32_49
  let v60 : BitVec 32 := Scalar.remsi arg1 v59
  let c0_i32_53 : BitVec 32 := 0#32
  let v62 : BitVec 1 := Scalar.cmpi .slt v60 c0_i32_53
  let c0_i32_54 : BitVec 32 := 0#32
  let v63 : BitVec 1 := Scalar.cmpi .slt v59 c0_i32_54
  let v64 : BitVec 1 := Scalar.xori v62 v63
  let c0_i32_52 : BitVec 32 := 0#32
  let v61 : BitVec 1 := Scalar.cmpi .ne v60 c0_i32_52
  let v65 : BitVec 1 := Scalar.andi v64 v61
  let v66 : BitVec 32 := Scalar.addi v60 v59
  let v67 : BitVec 32 := Scalar.select v65 v66 v60
  let c0_i32_55 : BitVec 32 := 0#32
  let v68 : BitVec 1 := Scalar.cmpi .eq v67 c0_i32_55
  let v69 : BitVec 32 := Scalar.extui v68
  let c0_i32_56 : BitVec 32 := 0#32
  let v70 : BitVec 1 := Scalar.cmpi .ne v69 c0_i32_56
  v70

def k0_off33 (i : grid0.Coords) : Fin 3 → Nat :=
  let arg1 : BitVec 32 := BitVec.ofNat 32 (i 1).val
  let v136 : Index := Scalar.indexCast arg1
  let c0_100 : Index := 0#32
  let c0_101 : Index := 0#32
  ![v136.toNat, 0, 0]
def k0_off34 (i : grid0.Coords) : Fin 3 → Nat :=
  let arg1 : BitVec 32 := BitVec.ofNat 32 (i 1).val
  let v169 : Index := Scalar.indexCast arg1
  let c80 : Index := 80#32
  let c0_121 : Index := 0#32
  ![v169.toNat, 80, 0]
def k0_off35 (i : grid0.Coords) : Fin 3 → Nat :=
  let arg1 : BitVec 32 := BitVec.ofNat 32 (i 1).val
  let v202 : Index := Scalar.indexCast arg1
  let c160 : Index := 160#32
  let c0_141 : Index := 0#32
  ![v202.toNat, 160, 0]
def k0_off36 (i : grid0.Coords) : Fin 3 → Nat :=
  let arg1 : BitVec 32 := BitVec.ofNat 32 (i 1).val
  let v235 : Index := Scalar.indexCast arg1
  let c240 : Index := 240#32
  let c0_161 : Index := 0#32
  ![v235.toNat, 240, 0]
def k0_cond2 (i : grid0.Coords) : BitVec 1 :=
  let arg1 : BitVec 32 := BitVec.ofNat 32 (i 1).val
  let c2_i32_57 : BitVec 32 := 2#32
  let c0_i32_58 : BitVec 32 := 0#32
  let v71 : BitVec 1 := Scalar.cmpi .eq c2_i32_57 c0_i32_58
  let c1_i32_59 : BitVec 32 := 1#32
  let v72 : BitVec 32 := Scalar.select v71 c1_i32_59 c2_i32_57
  let v73 : BitVec 32 := Scalar.remsi arg1 v72
  let c0_i32_61 : BitVec 32 := 0#32
  let v75 : BitVec 1 := Scalar.cmpi .slt v73 c0_i32_61
  let c0_i32_62 : BitVec 32 := 0#32
  let v76 : BitVec 1 := Scalar.cmpi .slt v72 c0_i32_62
  let v77 : BitVec 1 := Scalar.xori v75 v76
  let c0_i32_60 : BitVec 32 := 0#32
  let v74 : BitVec 1 := Scalar.cmpi .ne v73 c0_i32_60
  let v78 : BitVec 1 := Scalar.andi v77 v74
  let v79 : BitVec 32 := Scalar.addi v73 v72
  let v80 : BitVec 32 := Scalar.select v78 v79 v73
  let c1_i32_63 : BitVec 32 := 1#32
  let v81 : BitVec 1 := Scalar.cmpi .eq v80 c1_i32_63
  let v82 : BitVec 32 := Scalar.extui v81
  let c0_i32_64 : BitVec 32 := 0#32
  let v83 : BitVec 1 := Scalar.cmpi .ne v82 c0_i32_64
  v83

def k0_off37 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_92 : BitVec 32 := 1#32
  let v121 : BitVec 32 := Scalar.addi v120 c1_i32_92
  let v122 : Index := Scalar.indexCast v121
  let c0_93 : Index := 0#32
  let c0_94 : Index := 0#32
  ![v122.toNat, 0, 0]
def k0_off38 (i : grid0.Coords) : Fin 3 → Nat :=
  let arg1 : BitVec 32 := BitVec.ofNat 32 (i 1).val
  let c1_i32_91 : BitVec 32 := 1#32
  let v120 : BitVec 32 := Scalar.subi arg1 c1_i32_91
  let v141 : Index := Scalar.indexCast v120
  let c0_110 : Index := 0#32
  let c0_111 : Index := 0#32
  ![v141.toNat, 0, 0]
def k0_off39 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_122 : BitVec 32 := 1#32
  let v158 : BitVec 32 := Scalar.addi v120 c1_i32_122
  let v159 : Index := Scalar.indexCast v158
  let c0_123 : Index := 0#32
  let c128_124 : Index := 128#32
  ![v159.toNat, 0, 128]
def k0_off40 (i : grid0.Coords) : Fin 3 → Nat :=
  let arg1 : BitVec 32 := BitVec.ofNat 32 (i 1).val
  let c1_i32_91 : BitVec 32 := 1#32
  let v120 : BitVec 32 := Scalar.subi arg1 c1_i32_91
  let v178 : Index := Scalar.indexCast v120
  let c80 : Index := 80#32
  let c0_140 : Index := 0#32
  ![v178.toNat, 80, 0]
def k0_off41 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_151 : BitVec 32 := 1#32
  let v195 : BitVec 32 := Scalar.addi v120 c1_i32_151
  let v196 : Index := Scalar.indexCast v195
  let c0_152 : Index := 0#32
  let c256_153 : Index := 256#32
  ![v196.toNat, 0, 256]
def k0_off42 (i : grid0.Coords) : Fin 3 → Nat :=
  let arg1 : BitVec 32 := BitVec.ofNat 32 (i 1).val
  let c1_i32_91 : BitVec 32 := 1#32
  let v120 : BitVec 32 := Scalar.subi arg1 c1_i32_91
  let v215 : Index := Scalar.indexCast v120
  let c160 : Index := 160#32
  let c0_169 : Index := 0#32
  ![v215.toNat, 160, 0]
def k0_off43 (i : grid0.Coords) : Fin 3 → Nat :=
  let arg1 : BitVec 32 := BitVec.ofNat 32 (i 1).val
  let c1_i32_91 : BitVec 32 := 1#32
  let v120 : BitVec 32 := Scalar.subi arg1 c1_i32_91
  let c1_i32_180 : BitVec 32 := 1#32
  let v232 : BitVec 32 := Scalar.addi v120 c1_i32_180
  let v233 : Index := Scalar.indexCast v232
  let c0_181 : Index := 0#32
  let c384_182 : Index := 384#32
  ![v233.toNat, 0, 384]
def k0_off44 (i : grid0.Coords) : Fin 3 → Nat :=
  let arg1 : BitVec 32 := BitVec.ofNat 32 (i 1).val
  let c1_i32_91 : BitVec 32 := 1#32
  let v120 : BitVec 32 := Scalar.subi arg1 c1_i32_91
  let v252 : Index := Scalar.indexCast v120
  let c240 : Index := 240#32
  let c0_198 : Index := 0#32
  ![v252.toNat, 240, 0]
def k0_off45 (i : grid0.Coords) : Fin 3 → Nat :=
  let arg1 : BitVec 32 := BitVec.ofNat 32 (i 1).val
  let v285 : Index := Scalar.indexCast arg1
  let c0_218 : Index := 0#32
  let c0_219 : Index := 0#32
  ![v285.toNat, 0, 0]
def k0_off46 (i : grid0.Coords) : Fin 3 → Nat :=
  let arg1 : BitVec 32 := BitVec.ofNat 32 (i 1).val
  let v318 : Index := Scalar.indexCast arg1
  let c80_239 : Index := 80#32
  let c0_240 : Index := 0#32
  ![v318.toNat, 80, 0]
def k0_off47 (i : grid0.Coords) : Fin 3 → Nat :=
  let arg1 : BitVec 32 := BitVec.ofNat 32 (i 1).val
  let v351 : Index := Scalar.indexCast arg1
  let c160_260 : Index := 160#32
  let c0_261 : Index := 0#32
  ![v351.toNat, 160, 0]
def k0_off48 (i : grid0.Coords) : Fin 3 → Nat :=
  let arg1 : BitVec 32 := BitVec.ofNat 32 (i 1).val
  let v384 : Index := Scalar.indexCast arg1
  let c240_281 : Index := 240#32
  let c0_282 : Index := 0#32
  ![v384.toNat, 240, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CausalRefIdeal.lean ====
abbrev S32768x512 : Shape := ⟨2, ![32768, 512]⟩
abbrev S64x320x512 : Shape := ⟨3, ![64, 320, 512]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x4x128 : Shape := ⟨4, ![8, 4096, 4, 128]⟩
abbrev S8x8x4x80x512 : Shape := ⟨5, ![8, 8, 4, 80, 512]⟩
abbrev S8x8x4x64x512 : Shape := ⟨5, ![8, 8, 4, 64, 512]⟩
abbrev S8x8x512x4x64 : Shape := ⟨5, ![8, 8, 512, 4, 64]⟩
abbrev S8x4096x4x64 : Shape := ⟨4, ![8, 4096, 4, 64]⟩
abbrev S8x4x4096x4096 : Shape := ⟨4, ![8, 4, 4096, 4096]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 46
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S64x320x512, .bf16⟩
  | .hbm, ⟨3, _⟩ => ⟨S4096, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S32768x512, .f32⟩
  | .hbm, ⟨10, _⟩ => ⟨S8x4096x4x128, .f32⟩
  | .hbm, ⟨11, _⟩ => ⟨S32768x512, .f32⟩
  | .hbm, ⟨12, _⟩ => ⟨S8x4096x4x128, .f32⟩
  | .hbm, ⟨13, _⟩ => ⟨S64x320x512, .f32⟩
  | .hbm, ⟨14, _⟩ => ⟨S8x8x4x80x512, .f32⟩
  | .hbm, ⟨15, _⟩ => ⟨S8x8x4x64x512, .f32⟩
  | .hbm, ⟨16, _⟩ => ⟨S8x8x512x4x64, .f32⟩
  | .hbm, ⟨17, _⟩ => ⟨S8x4096x4x64, .f32⟩
  | .hbm, ⟨18, _⟩ => ⟨S8x4x4096x4096, .f32⟩
  | .hbm, ⟨19, _⟩ => ⟨S_, .f32⟩
  | .hbm, ⟨20, _⟩ => ⟨S_, .f32⟩
  | .hbm, ⟨21, _⟩ => ⟨S8x4x4096x4096, .f32⟩
  | .hbm, ⟨22, _⟩ => ⟨S8x4x4096x4096, .f32⟩
  | .hbm, ⟨23, _⟩ => ⟨S_, .f32⟩
  | .hbm, ⟨24, _⟩ => ⟨S_, .f32⟩
  | .hbm, ⟨25, _⟩ => ⟨S8x4x4096x4096, .i1⟩
  | .hbm, ⟨26, _⟩ => ⟨S8x4x4096x4096, .f32⟩
  | .hbm, ⟨27, _⟩ => ⟨S8x4x4096x4096, .f32⟩
  | .hbm, ⟨28, _⟩ => ⟨S_, .f32⟩
  | .hbm, ⟨29, _⟩ => ⟨S8x4x4096, .f32⟩
  | .hbm, ⟨30, _⟩ => ⟨S_, .f32⟩
  | .hbm, ⟨31, _⟩ => ⟨S8x4x4096, .f32⟩
  | .hbm, ⟨32, _⟩ => ⟨S8x4x4096, .f32⟩
  | .hbm, ⟨33, _⟩ => ⟨S8x4x4096x1, .f32⟩
  | .hbm, ⟨34, _⟩ => ⟨S8x4x4096x4096, .f32⟩
  | .hbm, ⟨35, _⟩ => ⟨S8x4x4096x4096, .f32⟩
  | .hbm, ⟨36, _⟩ => ⟨S8x4x4096x4096, .f32⟩
  | .hbm, ⟨37, _⟩ => ⟨S_, .f32⟩
  | .hbm, ⟨38, _⟩ => ⟨S8x4x4096, .f32⟩
  | .hbm, ⟨39, _⟩ => ⟨S8x4x4096x1, .f32⟩
  | .hbm, ⟨40, _⟩ => ⟨S8x4x4096x4096, .f32⟩
  | .hbm, ⟨41, _⟩ => ⟨S8x4x4096x4096, .f32⟩
  | .hbm, ⟨42, _⟩ => ⟨S8x4x64x4096, .f32⟩
  | .hbm, ⟨43, _⟩ => ⟨S8x4096x4x64, .f32⟩
  | .hbm, ⟨44, _⟩ => ⟨S32768x256, .f32⟩
  | .hbm, ⟨45, _⟩ => ⟨S32768x256, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Merge.lean ====
abbrev S32768x1024 : Shape := ⟨2, ![32768, 1024]⟩
abbrev S32768x256 : Shape := ⟨2, ![32768, 256]⟩
abbrev S1024 : Shape := ⟨1, ![1024]⟩
abbrev S4x256x1024 : Shape := ⟨3, ![4, 256, 1024]⟩
abbrev S4x1024x1024 : Shape := ⟨3, ![4, 1024, 1024]⟩
abbrev S4x1024 : Shape := ⟨2, ![4, 1024]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x1024x1024 : Shape := ⟨3, ![1, 1024, 1024]⟩
abbrev S1x256x1024 : Shape := ⟨3, ![1, 256, 1024]⟩
abbrev S256x1024 : Shape := ⟨2, ![256, 1024]⟩

abbrev nBuf : Space → Nat
  | .hbm => 17
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1024, .f32⟩
  | .hbm, ⟨6, _⟩ => ⟨S1024, .f32⟩
  | .hbm, ⟨7, _⟩ => ⟨S4x256x1024, .f32⟩
  | .hbm, ⟨8, _⟩ => ⟨S4x1024x1024, .f32⟩
  | .hbm, ⟨9, _⟩ => ⟨S4x1024, .f32⟩
  | .hbm, ⟨10, _⟩ => ⟨S1024x1024, .f32⟩
  | .hbm, ⟨11, _⟩ => ⟨S1x1024, .f32⟩
  | .hbm, ⟨12, _⟩ => ⟨S4x1024x1024, .bf16⟩
  | .hbm, ⟨13, _⟩ => ⟨S4x256x1024, .bf16⟩
  | .hbm, ⟨14, _⟩ => ⟨S1024x1024, .bf16⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x1024, .f32⟩
  | .local _ .vmem, ⟨11, _⟩ => ⟨S4x1024x1024, .bf16⟩
  | .local _ .vmem, ⟨12, _⟩ => ⟨S4x1024, .f32⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S32768x1024 : Shape := ⟨2, ![32768, 1024]⟩
abbrev S32768x256 : Shape := ⟨2, ![32768, 256]⟩
abbrev S1024 : Shape := ⟨1, ![1024]⟩
abbrev S4x256x1024 : Shape := ⟨3, ![4, 256, 1024]⟩
abbrev S4x1024x1024 : Shape := ⟨3, ![4, 1024, 1024]⟩
abbrev S4x1024 : Shape := ⟨2, ![4, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩

abbrev nBuf : Space → Nat
  | .hbm => 135
  | .vmem => 0
  | .smem => 0
  | _ => 0

abbrev hbmTy0_0 (i : Nat) : BufTy := match i % 128 with
  | 0 => ⟨S32768x1024, .f32⟩
  | 1 => ⟨S32768x256, .bf16⟩
  | 2 => ⟨S32768x256, .bf16⟩
  | 3 => ⟨S32768x256, .bf16⟩
  | 4 => ⟨S32768x256, .bf16⟩
  | 5 => ⟨S1024, .f32⟩
  | 6 => ⟨S1024, .f32⟩
  | 7 => ⟨S4x256x1024, .f32⟩
  | 8 => ⟨S4x1024x1024, .f32⟩
  | 9 => ⟨S4x1024, .f32⟩
  | 10 => ⟨S1024x1024, .f32⟩
  | 11 => ⟨S32768x1024, .f32⟩
  | 12 => ⟨S_, .f32⟩
  | 13 => ⟨S32768, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S_, .f32⟩
  | 28 => ⟨S32768x1024, .f32⟩
  | 29 => ⟨S1x1024x1024, .f32⟩
  | 30 => ⟨S1024x1024, .f32⟩
  | 31 => ⟨S32768x1024, .f32⟩
  | 32 => ⟨S1x1024, .f32⟩
  | 33 => ⟨S1024, .f32⟩
  | 34 => ⟨S1x1024, .f32⟩
  | 35 => ⟨S32768x1024, .f32⟩
  | 36 => ⟨S32768x1024, .f32⟩
  | 37 => ⟨S32768x1024, .f32⟩
  | 38 => ⟨S32768x1024, .f32⟩
  | 39 => ⟨S_, .f32⟩
  | 40 => ⟨S32768x1024, .f32⟩
  | 41 => ⟨S32768x1024, .f32⟩
  | 42 => ⟨S_, .f32⟩
  | 43 => ⟨S32768x1024, .f32⟩
  | 44 => ⟨S32768x1024, .f32⟩
  | 45 => ⟨S32768x256, .f32⟩
  | 46 => ⟨S1x256x1024, .f32⟩
  | 47 => ⟨S256x1024, .f32⟩
  | 48 => ⟨S32768x1024, .f32⟩
  | 49 => ⟨S32768x1024, .f32⟩
  | 50 => ⟨S32768x1024, .f32⟩
  | 51 => ⟨S1x1024x1024, .f32⟩
  | 52 => ⟨S1024x1024, .f32⟩
  | 53 => ⟨S32768x1024, .f32⟩
  | 54 => ⟨S1x1024, .f32⟩
  | 55 => ⟨S1024, .f32⟩
  | 56 => ⟨S1x1024, .f32⟩
  | 57 => ⟨S32768x1024, .f32⟩
  | 58 => ⟨S32768x1024, .f32⟩
  | 59 => ⟨S32768x1024, .f32⟩
  | 60 => ⟨S32768x1024, .f32⟩
  | 61 => ⟨S_, .f32⟩
  | 62 => ⟨S32768x1024, .f32⟩
  | 63 => ⟨S32768x1024, .f32⟩
  | 64 => ⟨S_, .f32⟩
  | 65 => ⟨S32768x1024, .f32⟩
  | 66 => ⟨S32768x1024, .f32⟩
  | 67 => ⟨S32768x256, .f32⟩
  | 68 => ⟨S1x256x1024, .f32⟩
  | 69 => ⟨S256x1024, .f32⟩
  | 70 => ⟨S32768x1024, .f32⟩
  | 71 => ⟨S32768x1024, .f32⟩
  | 72 => ⟨S32768x1024, .f32⟩
  | 73 => ⟨S1x1024x1024, .f32⟩
  | 74 => ⟨S1024x1024, .f32⟩
  | 75 => ⟨S32768x1024, .f32⟩
  | 76 => ⟨S1x1024, .f32⟩
  | 77 => ⟨S1024, .f32⟩
  | 78 => ⟨S1x1024, .f32⟩
  | 79 => ⟨S32768x1024, .f32⟩
  | 80 => ⟨S32768x1024, .f32⟩
  | 81 => ⟨S32768x1024, .f32⟩
  | 82 => ⟨S32768x1024, .f32⟩
  | 83 => ⟨S_, .f32⟩
  | 84 => ⟨S32768x1024, .f32⟩
  | 85 => ⟨S32768x1024, .f32⟩
  | 86 => ⟨S_, .f32⟩
  | 87 => ⟨S32768x1024, .f32⟩
  | 88 => ⟨S32768x1024, .f32⟩
  | 89 => ⟨S32768x256, .f32⟩
  | 90 => ⟨S1x256x1024, .f32⟩
  | 91 => ⟨S256x1024, .f32⟩
  | 92 => ⟨S32768x1024, .f32⟩
  | 93 => ⟨S32768x1024, .f32⟩
  | 94 => ⟨S32768x1024, .f32⟩
  | 95 => ⟨S1x1024x1024, .f32⟩
  | 96 => ⟨S1024x1024, .f32⟩
  | 97 => ⟨S32768x1024, .f32⟩
  | 98 => ⟨S1x1024, .f32⟩
  | 99 => ⟨S1024, .f32⟩
  | 100 => ⟨S1x1024, .f32⟩
  | 101 => ⟨S32768x1024, .f32⟩
  | 102 => ⟨S32768x1024, .f32⟩
  | 103 => ⟨S32768x1024, .f32⟩
  | 104 => ⟨S32768x1024, .f32⟩
  | 105 => ⟨S_, .f32⟩
  | 106 => ⟨S32768x1024, .f32⟩
  | 107 => ⟨S32768x1024, .f32⟩
  | 108 => ⟨S_, .f32⟩
  | 109 => ⟨S32768x1024, .f32⟩
  | 110 => ⟨S32768x1024, .f32⟩
  | 111 => ⟨S32768x256, .f32⟩
  | 112 => ⟨S1x256x1024, .f32⟩
  | 113 => ⟨S256x1024, .f32⟩
  | 114 => ⟨S32768x1024, .f32⟩
  | 115 => ⟨S32768x1024, .f32⟩
  | 116 => ⟨S32768x1024, .f32⟩
  | 117 => ⟨S32768x1024, .f32⟩
  | 118 => ⟨S32768x1024, .f32⟩
  | 119 => ⟨S_, .f32⟩
  | 120 => ⟨S32768, .f32⟩
  | 121 => ⟨S32768x1, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x1024, .f32⟩

abbrev hbmTy0_1 (i : Nat) : BufTy := match i % 128 with
  | 0 => ⟨S32768x1, .f32⟩
  | 1 => ⟨S32768x1024, .f32⟩
  | 2 => ⟨S32768x1024, .f32⟩
  | 3 => ⟨S1x1024, .f32⟩
  | 4 => ⟨S32768x1024, .f32⟩
  | 5 => ⟨S32768x1024, .f32⟩
  | 6 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_9 : Ref sig .tc := ⟨.hbm, 105, rfl⟩
abbrev main_v84 : Ref sig .tc := ⟨.hbm, 106, rfl⟩
abbrev main_v85 : Ref sig .tc := ⟨.hbm, 107, rfl⟩
abbrev main_cst_10 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x3004 : Shape := ⟨2, ![1024, 3004]⟩
abbrev S4x768 : Shape := ⟨2, ![4, 768]⟩
abbrev S16x128 : Shape := ⟨2, ![16, 128]⟩
abbrev S128 : Shape := ⟨1, ![128]⟩
abbrev S256 : Shape := ⟨1, ![256]⟩
abbrev S256x384 : Shape := ⟨2, ![256, 384]⟩
abbrev S128x512 : Shape := ⟨2, ![128, 512]⟩
abbrev S4 : Shape := ⟨1, ![4]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S1x1024 : Shape := ⟨2, ![1, 1024]⟩
abbrev S1024x768 : Shape := ⟨2, ![1024, 768]⟩
abbrev S1024x256 : Shape := ⟨2, ![1024, 256]⟩
abbrev S1024x4 : Shape := ⟨2, ![1024, 4]⟩
abbrev S1024x128 : Shape := ⟨2, ![1024, 128]⟩
abbrev S1024x32 : Shape := ⟨2, ![1024, 32]⟩
abbrev S1024x16 : Shape := ⟨2, ![1024, 16]⟩
abbrev S1024x28 : Shape := ⟨2, ![1024, 28]⟩
abbrev S1024x64 : Shape := ⟨2, ![1024, 64]⟩
abbrev S1024x3200 : Shape := ⟨2, ![1024, 3200]⟩
abbrev S128x128 : Shape := ⟨2, ![128, 128]⟩
abbrev S1x128 : Shape := ⟨2, ![1, 128]⟩
abbrev S1x256 : Shape := ⟨2, ![1, 256]⟩
abbrev S256x64 : Shape := ⟨2, ![256, 64]⟩
abbrev S256x32 : Shape := ⟨2, ![256, 32]⟩
abbrev S256x16 : Shape := ⟨2, ![256, 16]⟩
abbrev S256x704 : Shape := ⟨2, ![256, 704]⟩
abbrev S256x320 : Shape := ⟨2, ![256, 320]⟩
abbrev S256x1024 : Shape := ⟨2, ![256, 1024]⟩
abbrev S128x64 : Shape := ⟨2, ![128, 64]⟩
abbrev S128x768 : Shape := ⟨2, ![128, 768]⟩
abbrev S32768x1152 : Shape := ⟨2, ![32768, 1152]⟩
abbrev S32768x896 : Shape := ⟨2, ![32768, 896]⟩
abbrev S32768x512 : Shape := ⟨2, ![32768, 512]⟩
abbrev S64x320x512 : Shape := ⟨3, ![64, 320, 512]⟩
abbrev S512x1024 : Shape := ⟨2, ![512, 1024]⟩
abbrev S512x128 : Shape := ⟨2, ![512, 128]⟩
abbrev S512x1152 : Shape := ⟨2, ![512, 1152]⟩
abbrev S512x896 : Shape := ⟨2, ![512, 896]⟩
abbrev S512x512 : Shape := ⟨2, ![512, 512]⟩
abbrev S1x320x512 : Shape := ⟨3, ![1, 320, 512]⟩
abbrev S520x768 : Shape := ⟨2, ![520, 768]⟩
abbrev S512 : Shape := ⟨1, ![512]⟩
abbrev S512x1 : Shape := ⟨2, ![512, 1]⟩
abbrev S8x768 : Shape := ⟨2, ![8, 768]⟩
abbrev S1024x896 : Shape := ⟨2, ![1024, 896]⟩
abbrev S512x768 : Shape := ⟨2, ![512, 768]⟩
abbrev S1024x512 : Shape := ⟨2, ![1024, 512]⟩
abbrev S512x256 : Shape := ⟨2, ![512, 256]⟩
abbrev S256x512 : Shape := ⟨2, ![256, 512]⟩
abbrev S16x512 : Shape := ⟨2, ![16, 512]⟩
abbrev S64x512 : Shape := ⟨2, ![64, 512]⟩
abbrev S1x64x512 : Shape := ⟨3, ![1, 64, 512]⟩
abbrev S1x16x512 : Shape := ⟨3, ![1, 16, 512]⟩
abbrev S8x256 : Shape := ⟨2, ![8, 256]⟩

abbrev nBuf : Space → Nat
  | .hbm => 176
  | .vmem => 34
  | .smem => 0
  | _ => 0

abbrev hbmTy0_0 (i : Nat) : BufTy := match i % 128 with
  | 0 => ⟨S32768x1024, .f32⟩
  | 1 => ⟨S1024, .f32⟩
  | 2 => ⟨S1024x3004, .f32⟩
  | 3 => ⟨S4x768, .f32⟩
  | 4 => ⟨S16x128, .f32⟩
  | 5 => ⟨S128, .f32⟩
  | 6 => ⟨S256, .f32⟩
  | 7 => ⟨S128, .f32⟩
  | 8 => ⟨S256x384, .f32⟩
  | 9 => ⟨S128x512, .f32⟩
  | 10 => ⟨S4, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x32, .f32⟩
  | 34 => ⟨S_, .f32⟩
  | 35 => ⟨S4096x32, .f32⟩
  | 36 => ⟨S_, .f32⟩
  | 37 => ⟨S4096x64, .f32⟩
  | 38 => ⟨S4096x32, .f32⟩
  | 39 => ⟨S4096x128, .f32⟩
  | 40 => ⟨S_, .f32⟩
  | 41 => ⟨S4096x64, .f32⟩
  | 42 => ⟨S4096x32, .f32⟩
  | 43 => ⟨S4096x128, .f32⟩
  | 44 => ⟨S1x1024, .f32⟩
  | 45 => ⟨S1024x768, .f32⟩
  | 46 => ⟨S1024x256, .f32⟩
  | 47 => ⟨S1024x4, .f32⟩
  | 48 => ⟨S1024x4, .f32⟩
  | 49 => ⟨S1024x256, .f32⟩
  | 50 => ⟨S1024x128, .f32⟩
  | 51 => ⟨S1024x32, .f32⟩
  | 52 => ⟨S1024x128, .f32⟩
  | 53 => ⟨S1024x128, .f32⟩
  | 54 => ⟨S1024x256, .f32⟩
  | 55 => ⟨S1024x256, .f32⟩
  | 56 => ⟨S1024x16, .f32⟩
  | 57 => ⟨S1024x256, .f32⟩
  | 58 => ⟨S1024x256, .f32⟩
  | 59 => ⟨S1024x256, .f32⟩
  | 60 => ⟨S1024x4, .f32⟩
  | 61 => ⟨S1024x28, .f32⟩
  | 62 => ⟨S_, .i32⟩
  | 63 => ⟨S_, .f32⟩
  | 64 => ⟨S1024x128, .f32⟩
  | 65 => ⟨S_, .f32⟩
  | 66 => ⟨S1024x64, .f32⟩
  | 67 => ⟨S1024x16, .f32⟩
  | 68 => ⟨S1024x16, .f32⟩
  | 69 => ⟨S1024x16, .f32⟩
  | 70 => ⟨S1024x32, .f32⟩
  | 71 => ⟨S1024x768, .bf16⟩
  | 72 => ⟨S1024x256, .bf16⟩
  | 73 => ⟨S1024x256, .bf16⟩
  | 74 => ⟨S1024x128, .bf16⟩
  | 75 => ⟨S1024x64, .bf16⟩
  | 76 => ⟨S1024x32, .bf16⟩
  | 77 => ⟨S1024x32, .bf16⟩
  | 78 => ⟨S1024x128, .bf16⟩
  | 79 => ⟨S1024x128, .bf16⟩
  | 80 => ⟨S1024x256, .bf16⟩
  | 81 => ⟨S1024x256, .bf16⟩
  | 82 => ⟨S1024x128, .bf16⟩
  | 83 => ⟨S1024x256, .bf16⟩
  | 84 => ⟨S1024x256, .bf16⟩
  | 85 => ⟨S1024x256, .bf16⟩
  | 86 => ⟨S1024x3200, .bf16⟩
  | 87 => ⟨S_, .i32⟩
  | 88 => ⟨S_, .f32⟩
  | 89 => ⟨S128x128, .f32⟩
  | 90 => ⟨S128x128, .bf16⟩
  | 91 => ⟨S1x128, .f32⟩
  | 92 => ⟨S1x256, .f32⟩
  | 93 => ⟨S1x128, .f32⟩
  | 94 => ⟨S256x64, .f32⟩
  | 95 => ⟨S256x32, .f32⟩
  | 96 => ⟨S_, .f32⟩
  | 97 => ⟨S256x32, .f32⟩
  | 98 => ⟨S_, .f32⟩
  | 99 => ⟨S256x64, .f32⟩
  | 100 => ⟨S256x16, .f32⟩
  | 101 => ⟨S256x16, .f32⟩
  | 102 => ⟨S256x16, .f32⟩
  | 103 => ⟨S256x32, .f32⟩
  | 104 => ⟨S_, .f32⟩
  | 105 => ⟨S256x32, .f32⟩
  | 106 => ⟨S256x64, .f32⟩
  | 107 => ⟨S256x32, .f32⟩
  | 108 => ⟨S_, .f32⟩
  | 109 => ⟨S256x32, .f32⟩
  | 110 => ⟨S_, .f32⟩
  | 111 => ⟨S256x64, .f32⟩
  | 112 => ⟨S256x16, .f32⟩
  | 113 => ⟨S256x16, .f32⟩
  | 114 => ⟨S256x16, .f32⟩
  | 115 => ⟨S256x32, .f32⟩
  | 116 => ⟨S_, .f32⟩
  | 117 => ⟨S256x32, .f32⟩
  | 118 => ⟨S256x64, .f32⟩
  | 119 => ⟨S256x32, .f32⟩
  | 120 => ⟨S_, .f32⟩
  | 121 => ⟨S256x32, .f32⟩
  | 122 => ⟨S_, .f32⟩
  | 123 => ⟨S256x64, .f32⟩
  | 124 => ⟨S256x16, .f32⟩
  | 125 => ⟨S256x16, .f32⟩
  | 126 => ⟨S256x16, .f32⟩
  | 127 => ⟨S256x32, .f32⟩
  | _ => ⟨S32768x1024, .f32⟩

abbrev hbmTy0_1 (i : Nat) : BufTy := match i % 128 with
  | 0 => ⟨S_, .f32⟩
  | 1 => ⟨S256x32, .f32⟩
  | 2 => ⟨S256x64, .f32⟩
  | 3 => ⟨S256x32, .f32⟩
  | 4 => ⟨S_, .f32⟩
  | 5 => ⟨S256x32, .f32⟩
  | 6 => ⟨S_, .f32⟩
  | 7 => ⟨S256x64, .f32⟩
  | 8 => ⟨S256x16, .f32⟩
  | 9 => ⟨S256x16, .f32⟩
  | 10 => ⟨S256x16, .f32⟩
  | 11 => ⟨S256x32, .f32⟩
  | 12 => ⟨S_, .f32⟩
  | 13 => ⟨S256x32, .f32⟩
  | 14 => ⟨S256x704, .f32⟩
  | 15 => ⟨S256x320, .f32⟩
  | 16 => ⟨S256x1024, .f32⟩
  | 17 => ⟨S256x1024, .bf16⟩
  | 18 => ⟨S128x64, .f32⟩
  | 19 => ⟨S_, .f32⟩
  | 20 => ⟨S128x64, .f32⟩
  | 21 => ⟨S128x64, .f32⟩
  | 22 => ⟨S128x64, .f32⟩
  | 23 => ⟨S_, .f32⟩
  | 24 => ⟨S128x64, .f32⟩
  | 25 => ⟨S128x64, .f32⟩
  | 26 => ⟨S128x64, .f32⟩
  | 27 => ⟨S_, .f32⟩
  | 28 => ⟨S128x64, .f32⟩
  | 29 => ⟨S128x64, .f32⟩
  | 30 => ⟨S128x64, .f32⟩
  | 31 => ⟨S_, .f32⟩
  | 32 => ⟨S128x64, .f32⟩
  | 33 => ⟨S128x64, .f32⟩
  | 34 => ⟨S128x768, .f32⟩
  | 35 => ⟨S128x768, .bf16⟩
  | 36 => ⟨S_, .i32⟩
  | 37 => ⟨S_, .f32⟩
  | 38 => ⟨S128, .f32⟩
  | 39 => ⟨S1x128, .f32⟩
  | 40 => ⟨S32768x1152, .f32⟩
  | 41 => ⟨S32768x896, .f32⟩
  | 42 => ⟨S32768x512, .bf16⟩
  | 43 => ⟨S32768x512, .bf16⟩
  | 44 => ⟨S64x320x512, .bf16⟩
  | 45 => ⟨S32768x512, .bf16⟩
  | 46 => ⟨S32768x512, .bf16⟩
  | 47 => ⟨S64x320x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S4x768, .f32⟩
  | .local _ .vmem, ⟨5, _⟩ => ⟨S128x128, .bf16⟩
  | .local _ .vmem, ⟨6, _⟩ => ⟨S1x128, .f32⟩
  | .local _ .vmem, ⟨7, _⟩ => ⟨S1x256, .f32⟩
  | .local _ .vmem, ⟨8, _⟩ => ⟨S1x128, .f32⟩
  | .local _ .vmem, ⟨9, _⟩ => ⟨S256x1024, .bf16⟩
  | .local _ .vmem, ⟨10, _⟩ => ⟨S128x768, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x128, .f32⟩
  | .local _ .vmem, ⟨16, _⟩ => ⟨S512x1152, .f32⟩
  | .local _ .vmem, ⟨17, _⟩ => ⟨S512x1152, .f32⟩
  | .local _ .vmem, ⟨18, _⟩ => ⟨S512x896, .f32⟩
  | .local _ .vmem, ⟨19, _⟩ => ⟨S512x896, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x320x512, .bf16⟩
  | .local _ .vmem, ⟨25, _⟩ => ⟨S1x320x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1x320x512, .bf16⟩
  | .local _ .vmem, ⟨31, _⟩ => ⟨S1x320x512, .bf16⟩
  | .local _ .vmem, ⟨32, _⟩ => ⟨S520x768, .f32⟩
  | .local _ .vmem, ⟨33, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_call0_v0 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_8 : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_9 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_11 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_12 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_cst_19 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_20 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_21 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_23 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_24 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_c_25 : Ref sig .tc := ⟨.hbm, 164, rfl⟩
abbrev main_call2_v0 : Ref sig .tc := ⟨.hbm, 165, rfl⟩
abbrev main_v124 : Ref sig .tc := ⟨.hbm, 166, rfl⟩
abbrev main_v125 : Ref sig .tc := ⟨.hbm, 167, rfl⟩
abbrev main_v126_0 : Ref sig .tc := ⟨.hbm, 168, rfl⟩
abbrev main_v126_1 : Ref sig .tc := ⟨.hbm, 169, rfl⟩
abbrev main_v126_2 : Ref sig .tc := ⟨.hbm, 170, rfl⟩
abbrev main_v126_3 : Ref sig .tc := ⟨.hbm, 171, rfl⟩
abbrev main_v126_4 : Ref sig .tc := ⟨.hbm, 172, rfl⟩
abbrev main_v126_5 : Ref sig .tc := ⟨.hbm, 173, rfl⟩
abbrev main_v126_6 : Ref sig .tc := ⟨.hbm, 174, rfl⟩
abbrev main_v126_7 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1152 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x896 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x320x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x320x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InprojRefIdeal.lean ====
abbrev S32768x1024 : Shape := ⟨2, ![32768, 1024]⟩
abbrev S1024 : Shape := ⟨1, ![1024]⟩
abbrev S1024x3004 : Shape := ⟨2, ![1024, 3004]⟩
abbrev S4x768 : Shape := ⟨2, ![4, 768]⟩
abbrev S16x128 : Shape := ⟨2, ![16, 128]⟩
abbrev S128 : Shape := ⟨1, ![128]⟩
abbrev S256 : Shape := ⟨1, ![256]⟩
abbrev S256x384 : Shape := ⟨2, ![256, 384]⟩
abbrev S128x512 : Shape := ⟨2, ![128, 512]⟩
abbrev S4 : Shape := ⟨1, ![4]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3004 : Shape := ⟨2, ![32768, 3004]⟩
abbrev S32768x768 : Shape := ⟨2, ![32768, 768]⟩
abbrev S32768x256 : Shape := ⟨2, ![32768, 256]⟩
abbrev S32768x4 : Shape := ⟨2, ![32768, 4]⟩
abbrev S32768x128 : Shape := ⟨2, ![32768, 128]⟩
abbrev S32768x32 : Shape := ⟨2, ![32768, 32]⟩
abbrev S32768x16 : Shape := ⟨2, ![32768, 16]⟩
abbrev S8x4096x768 : Shape := ⟨3, ![8, 4096, 768]⟩
abbrev S8x4099x768 : Shape := ⟨3, ![8, 4099, 768]⟩
abbrev S1x768 : Shape := ⟨2, ![1, 768]⟩
abbrev S768 : Shape := ⟨1, ![768]⟩
abbrev S1x1x768 : Shape := ⟨3, ![1, 1, 768]⟩
abbrev S32768x100 : Shape := ⟨2, ![32768, 100]⟩
abbrev S32768x1152 : Shape := ⟨2, ![32768, 1152]⟩
abbrev S1x128 : Shape := ⟨2, ![1, 128]⟩
abbrev S32768x896 : Shape := ⟨2, ![32768, 896]⟩
abbrev S64x512x4x64 : Shape := ⟨4, ![64, 512, 4, 64]⟩
abbrev S64x4x64x512 : Shape := ⟨4, ![64, 4, 64, 512]⟩
abbrev S64x4x1x512 : Shape := ⟨4, ![64, 4, 1, 512]⟩
abbrev S64x4x15x512 : Shape := ⟨4, ![64, 4, 15, 512]⟩
abbrev S64x4x80x512 : Shape := ⟨4, ![64, 4, 80, 512]⟩
abbrev S64x320x512 : Shape := ⟨3, ![64, 320, 512]⟩

abbrev nBuf : Space → Nat
  | .hbm => 124
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3004, .f32⟩
  | .hbm, ⟨3, _⟩ => ⟨S4x768, .f32⟩
  | .hbm, ⟨4, _⟩ => ⟨S16x128, .f32⟩
  | .hbm, ⟨5, _⟩ => ⟨S128, .f32⟩
  | .hbm, ⟨6, _⟩ => ⟨S256, .f32⟩
  | .hbm, ⟨7, _⟩ => ⟨S128, .f32⟩
  | .hbm, ⟨8, _⟩ => ⟨S256x384, .f32⟩
  | .hbm, ⟨9, _⟩ => ⟨S128x512, .f32⟩
  | .hbm, ⟨10, _⟩ => ⟨S4, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x3004, .f32⟩
  | .hbm, ⟨28, _⟩ => ⟨S32768x768, .f32⟩
  | .hbm, ⟨29, _⟩ => ⟨S32768x256, .f32⟩
  | .hbm, ⟨30, _⟩ => ⟨S32768x4, .f32⟩
  | .hbm, ⟨31, _⟩ => ⟨S32768x4, .f32⟩
  | .hbm, ⟨32, _⟩ => ⟨S32768x256, .f32⟩
  | .hbm, ⟨33, _⟩ => ⟨S32768x128, .f32⟩
  | .hbm, ⟨34, _⟩ => ⟨S32768x32, .f32⟩
  | .hbm, ⟨35, _⟩ => ⟨S32768x128, .f32⟩
  | .hbm, ⟨36, _⟩ => ⟨S32768x128, .f32⟩
  | .hbm, ⟨37, _⟩ => ⟨S32768x256, .f32⟩
  | .hbm, ⟨38, _⟩ => ⟨S32768x256, .f32⟩
  | .hbm, ⟨39, _⟩ => ⟨S32768x16, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x4, .f32⟩
  | .hbm, ⟨44, _⟩ => ⟨S8x4096x768, .f32⟩
  | .hbm, ⟨45, _⟩ => ⟨S_, .i32⟩
  | .hbm, ⟨46, _⟩ => ⟨S_, .f32⟩
  | .hbm, ⟨47, _⟩ => ⟨S8x4099x768, .f32⟩
  | .hbm, ⟨48, _⟩ => ⟨S1x768, .f32⟩
  | .hbm, ⟨49, _⟩ => ⟨S768, .f32⟩
  | .hbm, ⟨50, _⟩ => ⟨S8x4096x768, .f32⟩
  | .hbm, ⟨51, _⟩ => ⟨S1x1x768, .f32⟩
  | .hbm, ⟨52, _⟩ => ⟨S8x4096x768, .f32⟩
  | .hbm, ⟨53, _⟩ => ⟨S8x4096x768, .f32⟩
  | .hbm, ⟨54, _⟩ => ⟨S_, .f32⟩
  | .hbm, ⟨55, _⟩ => ⟨S8x4096x768, .f32⟩
  | .hbm, ⟨56, _⟩ => ⟨S8x4096x768, .f32⟩
  | .hbm, ⟨57, _⟩ => ⟨S1x768, .f32⟩
  | .hbm, ⟨58, _⟩ => ⟨S768, .f32⟩
  | .hbm, ⟨59, _⟩ => ⟨S8x4096x768, .f32⟩
  | .hbm, ⟨60, _⟩ => ⟨S1x1x768, .f32⟩
  | .hbm, ⟨61, _⟩ => ⟨S8x4096x768, .f32⟩
  | .hbm, ⟨62, _⟩ => ⟨S8x4096x768, .f32⟩
  | .hbm, ⟨63, _⟩ => ⟨S8x4096x768, .f32⟩
  | .hbm, ⟨64, _⟩ => ⟨S1x768, .f32⟩
  | .hbm, ⟨65, _⟩ => ⟨S768, .f32⟩
  | .hbm, ⟨66, _⟩ => ⟨S8x4096x768, .f32⟩
  | .hbm, ⟨67, _⟩ => ⟨S1x1x768, .f32⟩
  | .hbm, ⟨68, _⟩ => ⟨S8x4096x768, .f32⟩
  | .hbm, ⟨69, _⟩ => ⟨S8x4096x768, .f32⟩
  | .hbm, ⟨70, _⟩ => ⟨S8x4096x768, .f32⟩
  | .hbm, ⟨71, _⟩ => ⟨S1x768, .f32⟩
  | .hbm, ⟨72, _⟩ => ⟨S768, .f32⟩
  | .hbm, ⟨73, _⟩ => ⟨S8x4096x768, .f32⟩
  | .hbm, ⟨74, _⟩ => ⟨S1x1x768, .f32⟩
  | .hbm, ⟨75, _⟩ => ⟨S8x4096x768, .f32⟩
  | .hbm, ⟨76, _⟩ => ⟨S8x4096x768, .f32⟩
  | .hbm, ⟨77, _⟩ => ⟨S8x4096x768, .f32⟩
  | .hbm, ⟨78, _⟩ => ⟨S8x4096x768, .f32⟩
  | .hbm, ⟨79, _⟩ => ⟨S8x4096x768, .f32⟩
  | .hbm, ⟨80, _⟩ => ⟨S_, .f32⟩
  | .hbm, ⟨81, _⟩ => ⟨S8x4096x768, .f32⟩
  | .hbm, ⟨82, _⟩ => ⟨S8x4096x768, .f32⟩
  | .hbm, ⟨83, _⟩ => ⟨S_, .f32⟩
  | .hbm, ⟨84, _⟩ => ⟨S8x4096x768, .f32⟩
  | .hbm, ⟨85, _⟩ => ⟨S8x4096x768, .f32⟩
  | .hbm, ⟨86, _⟩ => ⟨S8x4096x768, .f32⟩
  | .hbm, ⟨87, _⟩ => ⟨S32768x768, .f32⟩
  | .hbm, ⟨88, _⟩ => ⟨S_, .f32⟩
  | .hbm, ⟨89, _⟩ => ⟨S32768x100, .f32⟩
  | .hbm, ⟨90, _⟩ => ⟨S32768x1152, .f32⟩
  | .hbm, ⟨91, _⟩ => ⟨S32768x128, .f32⟩
  | .hbm, ⟨92, _⟩ => ⟨S1x128, .f32⟩
  | .hbm, ⟨93, _⟩ => ⟨S32768x128, .f32⟩
  | .hbm, ⟨94, _⟩ => ⟨S32768x128, .f32⟩
  | .hbm, ⟨95, _⟩ => ⟨S32768x128, .f32⟩
  | .hbm, ⟨96, _⟩ => ⟨S_, .f32⟩
  | .hbm, ⟨97, _⟩ => ⟨S32768x128, .f32⟩
  | .hbm, ⟨98, _⟩ => ⟨S32768x128, .f32⟩
  | .hbm, ⟨99, _⟩ => ⟨S32768x128, .f32⟩
  | .hbm, ⟨100, _⟩ => ⟨S32768x128, .f32⟩
  | .hbm, ⟨101, _⟩ => ⟨S32768x128, .i1⟩
  | .hbm, ⟨102, _⟩ => ⟨S32768x128, .f32⟩
  | .hbm, ⟨103, _⟩ => ⟨S32768x128, .f32⟩
  | .hbm, ⟨104, _⟩ => ⟨S32768x128, .f32⟩
  | .hbm, ⟨105, _⟩ => ⟨S32768x128, .f32⟩
  | .hbm, ⟨106, _⟩ => ⟨S32768x128, .f32⟩
  | .hbm, ⟨107, _⟩ => ⟨S32768x128, .f32⟩
  | .hbm, ⟨108, _⟩ => ⟨S32768x128, .f32⟩
  | .hbm, ⟨109, _⟩ => ⟨S32768x128, .f32⟩
  | .hbm, ⟨110, _⟩ => ⟨S32768x128, .f32⟩
  | .hbm, ⟨111, _⟩ => ⟨S_, .f32⟩
  | .hbm, ⟨112, _⟩ => ⟨S32768x128, .f32⟩
  | .hbm, ⟨113, _⟩ => ⟨S32768x128, .f32⟩
  | .hbm, ⟨114, _⟩ => ⟨S32768x896, .f32⟩
  | .hbm, ⟨115, _⟩ => ⟨S64x512x4x64, .f32⟩
  | .hbm, ⟨116, _⟩ => ⟨S64x4x64x512, .f32⟩
  | .hbm, ⟨117, _⟩ => ⟨S_, .f32⟩
  | .hbm, ⟨118, _⟩ => ⟨S64x4x1x512, .f32⟩
  | .hbm, ⟨119, _⟩ => ⟨S_, .f32⟩
  | .hbm, ⟨120, _⟩ => ⟨S64x4x15x512, .f32⟩
  | .hbm, ⟨121, _⟩ => ⟨S64x4x80x512, .f32⟩
  | .hbm, ⟨122, _⟩ => ⟨S64x320x512, .f32⟩
  | .hbm, ⟨123, _⟩ => ⟨S64x320x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v61 : Ref sig .tc := ⟨.hbm, 86, rfl⟩
abbrev main_v62 : Ref sig .tc := ⟨.hbm, 87, rfl⟩
abbrev main_cst_3 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_v0 : Ref sig .tc := ⟨.hbm, 95, rfl⟩
abbrev main_call2_call0_cst : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_call0_v2 : Ref sig .tc := ⟨.hbm, 99, rfl⟩
abbrev main_call2_call0_v3 : Ref sig .tc := ⟨.hbm, 100, rfl⟩
abbrev main_call2_call0_v4 : Ref sig .tc := ⟨.hbm, 101, rfl⟩
abbrev main_call2_call0_v5 : Ref sig .tc := ⟨.hbm, 102, rfl⟩
abbrev main_call2_call0_v6 : Ref sig .tc := ⟨.hbm, 103, rfl⟩
abbrev main_call2_call0_v7 : Ref sig .tc := ⟨.hbm, 104, rfl⟩
abbrev main_call2_call0_v8 : Ref sig .tc := ⟨.hbm, 105, rfl⟩
abbrev main_call2_call0_v9 : Ref sig .tc := ⟨.hbm, 106, rfl⟩
abbrev main_call2_call0_v10 : Ref sig .tc := ⟨.hbm, 107, rfl⟩
abbrev main_call2_call0_v11 : Ref sig .tc := ⟨.hbm, 108, rfl⟩
abbrev main_call2_v1 : Ref sig .tc := ⟨.hbm, 109, rfl⟩
abbrev main_v69 : Ref sig .tc := ⟨.hbm, 110, rfl⟩
abbrev main_cst_4 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_5 : Ref sig .tc := ⟨.hbm, 117, rfl⟩
abbrev main_v75 : Ref sig .tc := ⟨.hbm, 118, rfl⟩
abbrev main_cst_6 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩

abbrev nD : Nat := 1
abbrev τ : Topo := Topo.v7x

variable {F : FTy → Type} [FloatOps F]
-- ==== Proof.ChunkIdeal.State.lean ====
/- The state of the chunk-causal flash kernel (`cc0_flash_chunk`) at one grid point, as a recursion over the key
   blocks: per head the running column maxima and the running accumulator, and the final masked step. Also the
   closed forms of the offsets the kernel computes, and the lemmas that read a buffer back at one head's window. -/
module

public import proofs.«01_k».proof.Proof.Gen.ChunkIdeal.Skeleton
public import Idealize.ShloMosaic.Lib.VecWindow
public import Idealize.ShloMosaic.Lib.WritesUnit
public import Idealize.ShloMosaic.Lib.WholeRead

@[expose] public section

set_option maxRecDepth 16384

noncomputable section

namespace Cert.ChunkIdeal

open Idealize.ShloMosaic Idealize.SL.Sem Cert.ChunkIdeal.Gen

variable {F : FTy → Type} [FloatOps F]

/-- The queries of head `h` in a block of queries. -/
def qW (x : Vec F S512x512 .bf16) (h : Fin 4) : Vec F S512x128 .bf16 :=
  View.ld x (Rect.unit (s := S512x512) ![0, 128 * h.val] S512x128.size
    (by have := h.isLt; intro a; fin_cases a <;> simp <;> omega))

/-- The keys of head `h` in key block `n` (taken modulo the eight blocks, so that it is total). -/
def kW (x : Vec F S8x512x512 .bf16) (n : ℕ) (h : Fin 4) : Vec F S1x512x128 .bf16 :=
  View.ld x (Rect.unit (s := S8x512x512) ![n % 8, 0, 128 * h.val] S1x512x128.size
    (by have := h.isLt; have := Nat.mod_lt n (show 8 > 0 by decide); intro a; fin_cases a <;> simp <;> omega))

/-- The value rows of head `h` in key block `n`: 64 rows of values, the row of ones, and the padding. -/
def vW (x : Vec F S8x320x512 .bf16) (n : ℕ) (h : Fin 4) : Vec F S1x80x512 .bf16 :=
  View.ld x (Rect.unit (s := S8x320x512) ![n % 8, 80 * h.val, 0] S1x80x512.size
    (by have := h.isLt; have := Nat.mod_lt n (show 8 > 0 by decide); intro a; fin_cases a <;> simp <;> omega))

/-- The scores of head `h` against key block `n`. -/
def scoreB (x2 : Vec F S512x512 .bf16) (x3 : Vec F S8x512x512 .bf16) (n : ℕ) (h : Fin 4) : Vec F S1x1x512x512 .f32 :=
  k0_pay2 (kW x3 n h) (qW x2 h)

/-- The column maxima before the first key block. -/
def m0 : Vec F S1x1x512 .f32 := fun _ => Scalar.ofBits .f32 0xFF800000#32

/-- The accumulator before the first key block. -/
def acc0 : Vec F S1x80x512 .f32 := fun _ => Scalar.ofBits .f32 0x00000000#32

/-- The running maxima and accumulator of head `h` after the first `n` key blocks, none of them masked. -/
def st (x2 : Vec F S512x512 .bf16) (x3 : Vec F S8x512x512 .bf16) (x4 : Vec F S8x320x512 .bf16) (h : Fin 4) :
    ℕ → Vec F S1x1x512 .f32 × Vec F S1x80x512 .f32
  | 0 => (m0, acc0)
  | n + 1 =>
    (k0_pay8 (k0_pay5 (scoreB x2 x3 n h) (st x2 x3 x4 h n).1),
     k0_pay7 (k0_pay6 (scoreB x2 x3 n h) (st x2 x3 x4 h n).1 (vW x4 n h) (st x2 x3 x4 h n).2))

/-- The accumulator of head `h` after the last, masked, key block `n`. -/
def fin (x2 : Vec F S512x512 .bf16) (x3 : Vec F S8x512x512 .bf16) (x4 : Vec F S8x320x512 .bf16) (n : ℕ) (h : Fin 4) :
    Vec F S1x80x512 .f32 :=
  k0_pay115 (scoreB x2 x3 n h) (st x2 x3 x4 h n).1 (vW x4 n h) (st x2 x3 x4 h n).2

/-- The block of the result the kernel stores: every head's accumulator divided by its row of sums, transposed. -/
def outB (x2 : Vec F S512x512 .bf16) (x3 : Vec F S8x512x512 .bf16) (x4 : Vec F S8x320x512 .bf16) (n : ℕ) :
    Vec F S512x256 .bf16 :=
  k0_pay1 (k0_pay197 (fin x2 x3 x4 n 0)) (fin x2 x3 x4 n 0) (fin x2 x3 x4 n 1) (fin x2 x3 x4 n 1)
    (fin x2 x3 x4 n 2) (fin x2 x3 x4 n 2) (fin x2 x3 x4 n 3) (fin x2 x3 x4 n 3)

/-! ## The offsets -/

/-- The first loop runs one trip for every two whole blocks before the query block. -/
theorem trips1 : ∀ i : grid0.Coords, (k0_t1_loop i).trips = (i 1).val / 2 := by decide +kernel
/-- The second loop runs no trip. -/
theorem trips2 : ∀ i : grid0.Coords, (k0_t2_loop i).trips = 0 := by decide +kernel

/-- Where the keys of a trip lie. -/
theorem offs_k1 : ∀ (i : grid0.Coords) (k : Fin (k0_t1_loop i).trips),
    (k0_off1 i k = ![(2 * k.val + 1) % 8, 0, 128 * (0 : Fin 4).val] ∧ k0_off3 i k = ![(2 * k.val + 1) % 8, 0, 128 * (1 : Fin 4).val]
    ∧ k0_off5 i k = ![(2 * k.val + 1) % 8, 0, 128 * (2 : Fin 4).val] ∧ k0_off7 i k = ![(2 * k.val + 1) % 8, 0, 128 * (3 : Fin 4).val])
    ∧ k0_off9 i k = ![(2 * k.val + 1 + 1) % 8, 0, 128 * (0 : Fin 4).val] ∧ k0_off11 i k = ![(2 * k.val + 1 + 1) % 8, 0, 128 * (1 : Fin 4).val]
    ∧ k0_off13 i k = ![(2 * k.val + 1 + 1) % 8, 0, 128 * (2 : Fin 4).val] ∧ k0_off15 i k = ![(2 * k.val + 1 + 1) % 8, 0, 128 * (3 : Fin 4).val] := by
  decide +kernel

/-- Where the values of a trip lie. -/
theorem offs_v1 : ∀ (i : grid0.Coords) (k : Fin (k0_t1_loop i).trips),
    (k0_off2 i k = ![(2 * k.val) % 8, 80 * (0 : Fin 4).val, 0] ∧ k0_off4 i k = ![(2 * k.val) % 8, 80 * (1 : Fin 4).val, 0]
    ∧ k0_off6 i k = ![(2 * k.val) % 8, 80 * (2 : Fin 4).val, 0] ∧ k0_off8 i k = ![(2 * k.val) % 8, 80 * (3 : Fin 4).val, 0])
    ∧ k0_off10 i k = ![(2 * k.val + 1) % 8, 80 * (0 : Fin 4).val, 0] ∧ k0_off12 i k = ![(2 * k.val + 1) % 8, 80 * (1 : Fin 4).val, 0]
    ∧ k0_off14 i k = ![(2 * k.val + 1) % 8, 80 * (2 : Fin 4).val, 0] ∧ k0_off16 i k = ![(2 * k.val + 1) % 8, 80 * (3 : Fin 4).val, 0] := by
  decide +kernel

/-- Whether the query block's number is even is what the kernel's two conditions test. -/
theorem conds : ∀ i : grid0.Coords,
    ((i 1).val % 2 = 0 ∧ k0_cond1 i = 1#1 ∧ ¬ k0_cond2 i = 1#1) ∨ ((i 1).val % 2 = 1 ∧ ¬ k0_cond1 i = 1#1 ∧ k0_cond2 i = 1#1) := by
  decide +kernel

/-- Where the keys and values of the last block lie. -/
theorem offs_even : ∀ i : grid0.Coords,
    k0_off33 i = ![(i 1).val % 8, 80 * (0 : Fin 4).val, 0] ∧ k0_off34 i = ![(i 1).val % 8, 80 * (1 : Fin 4).val, 0]
    ∧ k0_off35 i = ![(i 1).val % 8, 80 * (2 : Fin 4).val, 0] ∧ k0_off36 i = ![(i 1).val % 8, 80 * (3 : Fin 4).val, 0] := by
  decide +kernel

/-- Where the keys and values of the last whole block and of the masked one lie, at an odd query block. -/
theorem offs_odd : ∀ i : grid0.Coords, (i 1).val % 2 = 1 →
    (k0_off37 i = ![(2 * ((i 1).val / 2) + 1) % 8, 0, 128 * (0 : Fin 4).val] ∧ k0_off39 i = ![(2 * ((i 1).val / 2) + 1) % 8, 0, 128 * (1 : Fin 4).val]
    ∧ k0_off41 i = ![(2 * ((i 1).val / 2) + 1) % 8, 0, 128 * (2 : Fin 4).val] ∧ k0_off43 i = ![(2 * ((i 1).val / 2) + 1) % 8, 0, 128 * (3 : Fin 4).val])
    ∧ (k0_off38 i = ![(2 * ((i 1).val / 2)) % 8, 80 * (0 : Fin 4).val, 0] ∧ k0_off40 i = ![(2 * ((i 1).val / 2)) % 8, 80 * (1 : Fin 4).val, 0]
    ∧ k0_off42 i = ![(2 * ((i 1).val / 2)) % 8, 80 * (2 : Fin 4).val, 0] ∧ k0_off44 i = ![(2 * ((i 1).val / 2)) % 8, 80 * (3 : Fin 4).val, 0])
    ∧ k0_off45 i = ![(2 * ((i 1).val / 2) + 1) % 8, 80 * (0 : Fin 4).val, 0] ∧ k0_off46 i = ![(2 * ((i 1).val / 2) + 1) % 8, 80 * (1 : Fin 4).val, 0]
    ∧ k0_off47 i = ![(2 * ((i 1).val / 2) + 1) % 8, 80 * (2 : Fin 4).val, 0] ∧ k0_off48 i = ![(2 * ((i 1).val / 2) + 1) % 8, 80 * (3 : Fin 4).val, 0] := by
  decide +kernel

/-! ## Reading windows -/

section
variable {κ : Kind} {sp : Space}

/-- Reading the query window at a head's columns gives that head's queries. -/
theorem readAt_q (v : View sig κ sp S512x512 .bf16) (f : v.ty.Contents (Elt F)) {off : Fin 2 → ℕ} (h : Fin 4)
    (inb : ∀ a, off a + S512x128.size a ≤ S512x512.size a) (e : off = ![0, 128 * h.val]) :
    v.readAt (Elt F) (Rect.unit (s := S512x512) off S512x128.size inb).toLoadRect f = qW (v.read (Elt F) f) h := by
  subst e; rfl

/-- Reading the key window at a block and a head's columns gives that block of keys. -/
theorem readAt_k (v : View sig κ sp S8x512x512 .bf16) (f : v.ty.Contents (Elt F)) {off : Fin 3 → ℕ} (n : ℕ) (h : Fin 4)
    (inb : ∀ a, off a + S1x512x128.size a ≤ S8x512x512.size a) (e : off = ![n % 8, 0, 128 * h.val]) :
    v.readAt (Elt F) (Rect.unit (s := S8x512x512) off S1x512x128.size inb).toLoadRect f = kW (v.read (Elt F) f) n h := by
  subst e; rfl

/-- Reading the value window at a block and a head's rows gives that block of values. -/
theorem readAt_v (v : View sig κ sp S8x320x512 .bf16) (f : v.ty.Contents (Elt F)) {off : Fin 3 → ℕ} (n : ℕ) (h : Fin 4)
    (inb : ∀ a, off a + S1x80x512.size a ≤ S8x320x512.size a) (e : off = ![n % 8, 80 * h.val, 0]) :
    v.readAt (Elt F) (Rect.unit (s := S8x320x512) off S1x80x512.size inb).toLoadRect f = vW (v.read (Elt F) f) n h := by
  subst e; rfl

/-- A window read just after it was written holds what was written. -/
theorem readAt_hit {s : Shape} {e : EltTy} (v : View sig κ sp s e) (f : v.ty.Contents (Elt F)) (off size : Fin s.rank → ℕ)
    (inb inb' : ∀ a, off a + size a ≤ s.size a) (w : (Rect.unit (s := s) off size inb').shape.Idx → Elt F e)
    (L : List (View.Piece (Elt F) s e)) :
    v.readAt (Elt F) (Rect.unit off size inb).toLoadRect (v.writes (Elt F) f (⟨Rect.unit off size inb', w⟩ :: L)) = w := by
  show VecWindow.window (v.read (Elt F) _) off size inb = w
  rw [View.read_writes_cons_put (h := rfl)]
  exact VecWindow.window_put_same _ _ _ _ _

/-- A window does not see what was written to a window apart from it along the axis `a`. -/
theorem readAt_miss {s : Shape} {e : EltTy} (v : View sig κ sp s e) (f : v.ty.Contents (Elt F)) (off size off' size' : Fin s.rank → ℕ)
    (inb : ∀ a, off a + size a ≤ s.size a) (inb' : ∀ a, off' a + size' a ≤ s.size a) (w : (Rect.unit (s := s) off' size' inb').shape.Idx → Elt F e)
    (L : List (View.Piece (Elt F) s e)) (a : Fin s.rank) (ha : off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  show VecWindow.window (v.read (Elt F) _) off size inb = VecWindow.window (v.read (Elt F) _) off size inb
  rw [View.read_writes_cons_put (h := rfl)]
  exact VecWindow.window_put_of_disjoint _ _ _ _ _ _ _ a ha

/-- A store to one head of the maxima does not change another head. -/
theorem miss6 (v : View sig κ sp S4x1x512 .f32) (f : v.ty.Contents (Elt F)) (p q : ℕ) (hp hq) (w) (L : List (View.Piece (Elt F) S4x1x512 .f32)) (h : p ≠ q) :
    v.readAt (Elt F) (Rect.unit (s := S4x1x512) ![q, 0, 0] S1x1x512.size hq).toLoadRect
        (v.writes (Elt F) f (⟨Rect.unit (s := S4x1x512) ![p, 0, 0] S1x1x512.size hp, w⟩ :: L))
      = v.readAt (Elt F) (Rect.unit (s := S4x1x512) ![q, 0, 0] S1x1x512.size hq).toLoadRect (v.writes (Elt F) f L) :=
  readAt_miss v f _ _ _ _ hq hp w L 0 (by show q + 1 ≤ p ∨ p + 1 ≤ q; omega)

/-- A store to one head of the accumulator does not change another head. -/
theorem miss7 (v : View sig κ sp S4x80x512 .f32) (f : v.ty.Contents (Elt F)) (p q : ℕ) (hp hq) (w) (L : List (View.Piece (Elt F) S4x80x512 .f32)) (h : p ≠ q) :
    v.readAt (Elt F) (Rect.unit (s := S4x80x512) ![q, 0, 0] S1x80x512.size hq).toLoadRect
        (v.writes (Elt F) f (⟨Rect.unit (s := S4x80x512) ![p, 0, 0] S1x80x512.size hp, w⟩ :: L))
      = v.readAt (Elt F) (Rect.unit (s := S4x80x512) ![q, 0, 0] S1x80x512.size hq).toLoadRect (v.writes (Elt F) f L) :=
  readAt_miss v f _ _ _ _ hq hp w L 0 (by show q + 1 ≤ p ∨ p + 1 ≤ q; omega)

/-- A store to one slot or head of the scores does not change another. -/
theorem miss8 (v : View sig κ sp S2x4x512x512 .f32) (f : v.ty.Contents (Elt F)) (p p' q q' : ℕ) (hp hq) (w) (L : List (View.Piece (Elt F) S2x4x512x512 .f32))
    (h : ¬ (p = q ∧ p' = q')) :
    v.readAt (Elt F) (Rect.unit (s := S2x4x512x512) ![q, q', 0, 0] S1x1x512x512.size hq).toLoadRect
        (v.writes (Elt F) f (⟨Rect.unit (s := S2x4x512x512) ![p, p', 0, 0] S1x1x512x512.size hp, w⟩ :: L))
      = v.readAt (Elt F) (Rect.unit (s := S2x4x512x512) ![q, q', 0, 0] S1x1x512x512.size hq).toLoadRect (v.writes (Elt F) f L) := by
  by_cases hpq : p = q
  · exact readAt_miss v f _ _ _ _ hq hp w L 1 (by show q' + 1 ≤ p' ∨ p' + 1 ≤ q'; omega)
  · exact readAt_miss v f _ _ _ _ hq hp w L 0 (by show q + 1 ≤ p ∨ p + 1 ≤ q; omega)

/-- A load over pieces that cover it, as a read of what the pieces write over anything. -/
theorem readCov_eq {s : Shape} {e : EltTy} (v : View sig κ sp s e) (L : List (View.Piece (Elt F) s e)) (r : LoadRect s) :
    v.readCov L r = v.readAt (Elt F) r (v.writes (Elt F) v.junk L) := rfl
end

end Cert.ChunkIdeal

end
-- ==== Proof.ChunkIdeal.Trip.lean ====
/- One trip of the key-block loop of the chunk-causal flash kernel. -/
module

public import proofs.«01_k».proof.Proof.ChunkIdeal.State
public import proofs.«01_k».proof.Proof.Gen.ChunkIdeal.Launch
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.ChunkIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ChunkIdeal.Gen

variable {F : FTy → Type} [FloatOps F]

local notation "𝕄G" => MT nD τ sig Unit (Elt F) ℕ (UR sig nD τ) ℕ

section
variable (arg6 : Memref sig .tc .vmem S4x1x512 .f32) (arg7 : Memref sig .tc .vmem S4x80x512 .f32) (arg8 : Memref sig .tc .vmem S2x4x512x512 .f32)

/-- The three scratch buffers before key block `n`, read head by head: the running maxima, the accumulators, and in
    slot 0 the scores of block `n`. -/
def Holds (x2 : Vec F S512x512 .bf16) (x3 : Vec F S8x512x512 .bf16) (x4 : Vec F S8x320x512 .bf16) (n : ℕ)
    (f6 : BufTy.Contents (Elt F) arg6.view.ty) (f7 : BufTy.Contents (Elt F) arg7.view.ty) (f8 : BufTy.Contents (Elt F) arg8.view.ty) : Prop :=
  (arg6.view.readAt (Elt F) (Rect.unit (s := S4x1x512) ![0, 0, 0] S1x1x512.size inb_S4x1x512_S1x1x512_0_0_0).toLoadRect f6 = (st x2 x3 x4 0 n).1
  ∧ arg6.view.readAt (Elt F) (Rect.unit (s := S4x1x512) ![1, 0, 0] S1x1x512.size inb_S4x1x512_S1x1x512_1_0_0).toLoadRect f6 = (st x2 x3 x4 1 n).1
  ∧ arg6.view.readAt (Elt F) (Rect.unit (s := S4x1x512) ![2, 0, 0] S1x1x512.size inb_S4x1x512_S1x1x512_2_0_0).toLoadRect f6 = (st x2 x3 x4 2 n).1
  ∧ arg6.view.readAt (Elt F) (Rect.unit (s := S4x1x512) ![3, 0, 0] S1x1x512.size inb_S4x1x512_S1x1x512_3_0_0).toLoadRect f6 = (st x2 x3 x4 3 n).1)
  ∧ (arg7.view.readAt (Elt F) (Rect.unit (s := S4x80x512) ![0, 0, 0] S1x80x512.size inb_S4x80x512_S1x80x512_0_0_0).toLoadRect f7 = (st x2 x3 x4 0 n).2
  ∧ arg7.view.readAt (Elt F) (Rect.unit (s := S4x80x512) ![1, 0, 0] S1x80x512.size inb_S4x80x512_S1x80x512_1_0_0).toLoadRect f7 = (st x2 x3 x4 1 n).2
  ∧ arg7.view.readAt (Elt F) (Rect.unit (s := S4x80x512) ![2, 0, 0] S1x80x512.size inb_S4x80x512_S1x80x512_2_0_0).toLoadRect f7 = (st x2 x3 x4 2 n).2
  ∧ arg7.view.readAt (Elt F) (Rect.unit (s := S4x80x512) ![3, 0, 0] S1x80x512.size inb_S4x80x512_S1x80x512_3_0_0).toLoadRect f7 = (st x2 x3 x4 3 n).2)
  ∧ (arg8.view.readAt (Elt F) (Rect.unit (s := S2x4x512x512) ![0, 0, 0, 0] S1x1x512x512.size inb_S2x4x512x512_S1x1x512x512_0_0_0_0).toLoadRect f8 = scoreB x2 x3 n 0
  ∧ arg8.view.readAt (Elt F) (Rect.unit (s := S2x4x512x512) ![0, 1, 0, 0] S1x1x512x512.size inb_S2x4x512x512_S1x1x512x512_0_1_0_0).toLoadRect f8 = scoreB x2 x3 n 1
  ∧ arg8.view.readAt (Elt F) (Rect.unit (s := S2x4x512x512) ![0, 2, 0, 0] S1x1x512x512.size inb_S2x4x512x512_S1x1x512x512_0_2_0_0).toLoadRect f8 = scoreB x2 x3 n 2
  ∧ arg8.view.readAt (Elt F) (Rect.unit (s := S2x4x512x512) ![0, 3, 0, 0] S1x1x512x512.size inb_S2x4x512x512_S1x1x512x512_0_3_0_0).toLoadRect f8 = scoreB x2 x3 n 3)
end

/-- One trip of the loop takes the state after two whole blocks fewer to the state after them. -/
theorem trip (𝒱 : Variants) (c : Dev nD) (bd : Option 𝒱.V) (E : Set ℕ) (i : grid0.Coords) (arg2 : Memref sig .tc .vmem S512x512 .bf16) (harg2 : arg2.IsWhole) (arg3 : Memref sig .tc .vmem S8x512x512 .bf16) (harg3 : arg3.IsWhole) (arg4 : Memref sig .tc .vmem S8x320x512 .bf16) (harg4 : arg4.IsWhole) (arg5 : Memref sig .tc .vmem S512x256 .bf16) (harg5 : arg5.IsWhole) (arg6 : Memref sig .tc .vmem S4x1x512 .f32) (harg6 : arg6.IsWhole) (arg7 : Memref sig .tc .vmem S4x80x512 .f32) (harg7 : arg7.IsWhole) (arg8 : Memref sig .tc .vmem S2x4x512x512 .f32) (harg8 : arg8.IsWhole) (arg1 : BitVec 32) (c0_i32_45 : BitVec 32) (v53 : BitVec 32)
    (X2 : BufTy.Contents (Elt F) arg2.view.ty) (X3 : BufTy.Contents (Elt F) arg3.view.ty) (X4 : BufTy.Contents (Elt F) arg4.view.ty)
    (k : Fin (k0_t1_loop i).trips) (f6 : BufTy.Contents (Elt F) arg6.view.ty) (f7 : BufTy.Contents (Elt F) arg7.view.ty) (f8 : BufTy.Contents (Elt F) arg8.view.ty)
    (h : Holds arg6 arg7 arg8 (arg2.view.read (Elt F) X2) (arg3.view.read (Elt F) X3) (arg4.view.read (Elt F) X4) (2 * k.val) f6 f7 f8) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)) : sProp 𝕄G)
    ⊢ wp frame (wpE (defs₀ (F := F)) 𝒱 (c : Thread nD τ) bd) E (k0_t1_body (F := F) i arg2 harg2 arg3 harg3 arg4 harg4 arg5 harg5 arg6 harg6 arg7 harg7 arg8 harg8 arg1 c0_i32_45 v53 k PUnit.unit)
        (fun _ => iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ ⌜Holds arg6 arg7 arg8 (arg2.view.read (Elt F) X2) (arg3.view.read (Elt F) X3) (arg4.view.read (Elt F) X4) (2 * k.val + 1 + 1) f6 f7 f8⌝)) := by
  unfold k0_t1_body
  iintro ⟨HR_arg2, HR_arg3, HR_arg4, HW_arg6, HW_arg7, HW_arg8⟩
  sl_exec
  sl_step
  isplitl [HR_arg2]; · iexact HR_arg2
  isplitl [HR_arg3]; · iexact HR_arg3
  isplitl [HR_arg4]; · iexact HR_arg4
  iexists _, _, _
  isplitl [HW_arg6]; · iexact HW_arg6
  isplitl [HW_arg7]; · iexact HW_arg7
  isplitl [HW_arg8]; · iexact HW_arg8
  ipureintro
  obtain ⟨⟨h60, h61, h62, h63⟩, ⟨h70, h71, h72, h73⟩, h80, h81, h82, h83⟩ := h
  obtain ⟨⟨k10, k11, k12, k13⟩, k20, k21, k22, k23⟩ := offs_k1 i k
  obtain ⟨⟨v10, v11, v12, v13⟩, v20, v21, v22, v23⟩ := offs_v1 i k
  have q0 := readAt_q arg2.view X2 0 inb_S512x512_S512x128_0_0 rfl
  have q1 := readAt_q arg2.view X2 1 inb_S512x512_S512x128_0_128 rfl
  have q2 := readAt_q arg2.view X2 2 inb_S512x512_S512x128_0_256 rfl
  have q3 := readAt_q arg2.view X2 3 inb_S512x512_S512x128_0_384 rfl
  have a0 := readAt_k arg3.view X3 _ _ (k0_off1_inb i k) k10
  have a1 := readAt_k arg3.view X3 _ _ (k0_off3_inb i k) k11
  have a2 := readAt_k arg3.view X3 _ _ (k0_off5_inb i k) k12
  have a3 := readAt_k arg3.view X3 _ _ (k0_off7_inb i k) k13
  have b0 := readAt_k arg3.view X3 _ _ (k0_off9_inb i k) k20
  have b1 := readAt_k arg3.view X3 _ _ (k0_off11_inb i k) k21
  have b2 := readAt_k arg3.view X3 _ _ (k0_off13_inb i k) k22
  have b3 := readAt_k arg3.view X3 _ _ (k0_off15_inb i k) k23
  have c0 := readAt_v arg4.view X4 _ _ (k0_off2_inb i k) v10
  have c1 := readAt_v arg4.view X4 _ _ (k0_off4_inb i k) v11
  have c2 := readAt_v arg4.view X4 _ _ (k0_off6_inb i k) v12
  have c3 := readAt_v arg4.view X4 _ _ (k0_off8_inb i k) v13
  have d0 := readAt_v arg4.view X4 _ _ (k0_off10_inb i k) v20
  have d1 := readAt_v arg4.view X4 _ _ (k0_off12_inb i k) v21
  have d2 := readAt_v arg4.view X4 _ _ (k0_off14_inb i k) v22
  have d3 := readAt_v arg4.view X4 _ _ (k0_off16_inb i k) v23
  refine ⟨⟨?_, ?_, ?_, ?_⟩, ⟨?_, ?_, ?_, ?_⟩, ?_, ?_, ?_, ?_⟩
  all_goals
    sl_unfold_run_names
    simp -proj (disch := decide) only [readCov_eq, ↓miss6, ↓miss7, ↓miss8, ↓readAt_hit, q0, q1, q2, q3, a0, a1, a2, a3, b0, b1, b2, b3, c0, c1, c2, c3, d0, d1, d2, d3,
      h60, h61, h62, h63, h70, h71, h72, h73, h80, h81, h82, h83]
    rfl

end Cert.ChunkIdeal

end
-- ==== Proof.ChunkIdeal.Body.lean ====
/- The body of the chunk-causal flash kernel at one grid point. -/
module

public import proofs.«01_k».proof.Proof.ChunkIdeal.Trip

@[expose] public section

set_option maxRecDepth 16384
set_option maxHeartbeats 4000000

noncomputable section

namespace Cert.ChunkIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ChunkIdeal.Gen

variable {F : FTy → Type} [FloatOps F]

local notation "𝕄G" => MT nD τ sig Unit (Elt F) ℕ (UR sig nD τ) ℕ

/-- A counted loop before a continuation: the invariant holds at trip 0, a trip keeps it, and the continuation runs
    from the invariant at the trip count. -/
theorem for_bind {M : Type} [RA.URA M] {Mask : Type} {Ef : Type → Type} (Fr : Mask → sProp M) (wpE : Mask → ∀ ⦃β : Type⦄, Ef β → sWPT M β) (Es : Mask)
    [∀ ⦃β : Type⦄ (e : Ef β), sWPT.Frameable (wpE Es e)]
    {w : ℕ} {σ : Type} (lb ub st : BitVec w) (hok : Scf.OK lb ub st) (init : σ) (body : Fin (Scf.trips lb ub st) → σ → Prog Ef σ) (I : ℕ → σ → sProp M)
    (hbody : ∀ (k : Fin (Scf.trips lb ub st)) (acc : σ), I k acc ⊢ wp Fr wpE Es (body k acc) (I (k.val + 1)))
    {β : Type} {kk : σ → Prog Ef β} {Q : β → sProp M} :
    iprop(I 0 init ∗ (∀ acc, I (Scf.trips lb ub st) acc -∗ wp Fr wpE Es (kk acc) Q)) ⊢ wp Fr wpE Es (Scf.for lb ub st hok init body >>= kk) Q := by
  rw [wp_bind]
  iintro ⟨HI, HK⟩
  iapply (Scf.wp_for Fr wpE Es lb ub st hok init body I hbody)
  isplitl [HI] <;> iassumption

/-- What the key-block loop holds before block `n`: the three operands, and the scratch buffers as `Holds` says. -/
abbrev Inv (c : Dev nD) (arg2 : Memref sig .tc .vmem S512x512 .bf16) (arg3 : Memref sig .tc .vmem S8x512x512 .bf16) (arg4 : Memref sig .tc .vmem S8x320x512 .bf16) (arg6 : Memref sig .tc .vmem S4x1x512 .f32) (arg7 : Memref sig .tc .vmem S4x80x512 .f32) (arg8 : Memref sig .tc .vmem S2x4x512x512 .f32)
    (X2 : BufTy.Contents (Elt F) arg2.view.ty) (X3 : BufTy.Contents (Elt F) arg3.view.ty) (X4 : BufTy.Contents (Elt F) arg4.view.ty) (n : ℕ) : sProp 𝕄G :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ ⌜Holds arg6 arg7 arg8 (arg2.view.read (Elt F) X2) (arg3.view.read (Elt F) X3) (arg4.view.read (Elt F) X4) n f6 f7 f8⌝)

/-- The body, from blocks of queries, keys and values, stores the block `outB` of them and leaves them as they were. -/
theorem sound_kernel (𝒱 : Variants) (c : Dev nD) (bd : Option 𝒱.V) (E : Set ℕ) (i : grid0.Coords) (arg2 : Memref sig .tc .vmem S512x512 .bf16) (harg2 : arg2.IsWhole) (arg3 : Memref sig .tc .vmem S8x512x512 .bf16) (harg3 : arg3.IsWhole) (arg4 : Memref sig .tc .vmem S8x320x512 .bf16) (harg4 : arg4.IsWhole) (arg5 : Memref sig .tc .vmem S512x256 .bf16) (harg5 : arg5.IsWhole) (arg6 : Memref sig .tc .vmem S4x1x512 .f32) (harg6 : arg6.IsWhole) (arg7 : Memref sig .tc .vmem S4x80x512 .f32) (harg7 : arg7.IsWhole) (arg8 : Memref sig .tc .vmem S2x4x512x512 .f32) (harg8 : arg8.IsWhole)
    (X2 : BufTy.Contents (Elt F) arg2.view.ty) (X3 : BufTy.Contents (Elt F) arg3.view.ty) (X4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)) : sProp 𝕄G)
    ⊢ wp frame (wpE (defs₀ (F := F)) 𝒱 (c : Thread nD τ) bd) E (cc0_flash_chunk (F := F) i arg2 harg2 arg3 harg3 arg4 harg4 arg5 harg5 arg6 harg6 arg7 harg7 arg8 harg8)
        (fun _ => iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} arg5.view.writes (Elt F) f5
          [⟨Rect.unit (s := S512x256) ![0, 0] S512x256.size inb_S512x256_S512x256_0_0, outB (arg2.view.read (Elt F) X2) (arg3.view.read (Elt F) X3) (arg4.view.read (Elt F) X4) (i 1).val⟩])
      ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8))) := by
  simp only [cc0_flash_chunk_eq_skeleton]; unfold cc0_flash_chunk_skel
  iintro ⟨HR_arg2, HR_arg3, HR_arg4, HW_arg5, HW_arg6, HW_arg7, HW_arg8⟩
  sl_exec
  iapply (for_bind frame (wpE (defs₀ (F := F)) 𝒱 (c : Thread nD τ) bd) E _ _ _ _ _ _
    (fun n _ => Inv c arg2 arg3 arg4 arg6 arg7 arg8 X2 X3 X4 (2 * n)) ?step1)
  case step1 =>
    intro k acc
    iintro ⟨HR_arg2, HR_arg3, HR_arg4, %f6, %f7, %f8, HW_arg6, HW_arg7, HW_arg8, %h⟩
    iapply (trip 𝒱 c bd E i arg2 harg2 arg3 harg3 arg4 harg4 arg5 harg5 arg6 harg6 arg7 harg7 arg8 harg8 _ _ _ X2 X3 X4 k f6 f7 f8 h)
    sl_close
  isplitl [HR_arg2 HR_arg3 HR_arg4 HW_arg6 HW_arg7 HW_arg8]
  · isplitl [HR_arg2]; · iexact HR_arg2
    isplitl [HR_arg3]; · iexact HR_arg3
    isplitl [HR_arg4]; · iexact HR_arg4
    iexists _, _, _
    isplitl [HW_arg6]; · iexact HW_arg6
    isplitl [HW_arg7]; · iexact HW_arg7
    isplitl [HW_arg8]; · iexact HW_arg8
    ipureintro
    have q0 := readAt_q arg2.view X2 0 inb_S512x512_S512x128_0_0 rfl
    have q1 := readAt_q arg2.view X2 1 inb_S512x512_S512x128_0_128 rfl
    have q2 := readAt_q arg2.view X2 2 inb_S512x512_S512x128_0_256 rfl
    have q3 := readAt_q arg2.view X2 3 inb_S512x512_S512x128_0_384 rfl
    have a0 := readAt_k arg3.view X3 0 0 inb_S8x512x512_S1x512x128_0_0_0 rfl
    have a1 := readAt_k arg3.view X3 0 1 inb_S8x512x512_S1x512x128_0_0_128 rfl
    have a2 := readAt_k arg3.view X3 0 2 inb_S8x512x512_S1x512x128_0_0_256 rfl
    have a3 := readAt_k arg3.view X3 0 3 inb_S8x512x512_S1x512x128_0_0_384 rfl
    refine ⟨⟨?_, ?_, ?_, ?_⟩, ⟨?_, ?_, ?_, ?_⟩, ?_, ?_, ?_, ?_⟩
    iterate 8 first
      | exact (congrArg (fun x => View.ld x _) (View.read_writes_full _ _ _ _ _)).trans rfl
    all_goals
      sl_unfold_run_names
      simp -proj (disch := decide) only [readCov_eq, ↓miss8, ↓readAt_hit, q0, q1, q2, q3, a0, a1, a2, a3]
      rfl
  iintro %acc ⟨HR_arg2, HR_arg3, HR_arg4, %g6, %g7, %g8, HW_arg6, HW_arg7, HW_arg8, %h⟩
  iapply (for_bind frame (wpE (defs₀ (F := F)) 𝒱 (c : Thread nD τ) bd) E _ _ _ _ _ _
    (fun n _ => Inv c arg2 arg3 arg4 arg6 arg7 arg8 X2 X3 X4 (2 * (k0_t1_loop i).trips)) ?step2)
  case step2 =>
    intro k acc
    exact absurd k.isLt (by have := trips2 i; change ¬ _ < (k0_t2_loop i).trips; omega)
  isplitl [HR_arg2 HR_arg3 HR_arg4 HW_arg6 HW_arg7 HW_arg8]
  · sl_close
  iintro %acc' ⟨HR_arg2, HR_arg3, HR_arg4, %g6, %g7, %g8, HW_arg6, HW_arg7, HW_arg8, %h⟩
  obtain ⟨⟨h60, h61, h62, h63⟩, ⟨h70, h71, h72, h73⟩, h80, h81, h82, h83⟩ := h
  rw [trips1 i] at h60 h61 h62 h63 h70 h71 h72 h73 h80 h81 h82 h83
  have q0 := readAt_q arg2.view X2 0 inb_S512x512_S512x128_0_0 rfl
  have q1 := readAt_q arg2.view X2 1 inb_S512x512_S512x128_0_128 rfl
  have q2 := readAt_q arg2.view X2 2 inb_S512x512_S512x128_0_256 rfl
  have q3 := readAt_q arg2.view X2 3 inb_S512x512_S512x128_0_384 rfl
  rcases conds i with ⟨he, hc1, hc2⟩ | ⟨ho, hc1, hc2⟩
  · have hn : 2 * ((i 1).val / 2) = (i 1).val := by omega
    rw [hn] at h60 h61 h62 h63 h70 h71 h72 h73 h80 h81 h82 h83
    sl_exec (disch := first | sl_exact hc1 | sl_exact hc2)
    sl_step
    isplitl [HR_arg2]; · iexact HR_arg2
    isplitl [HR_arg3]; · iexact HR_arg3
    isplitl [HR_arg4]; · iexact HR_arg4
    obtain ⟨v0, v1, v2, v3⟩ := offs_even i
    have c0 := readAt_v arg4.view X4 _ _ (k0_off33_inb i hc1) v0
    have c1 := readAt_v arg4.view X4 _ _ (k0_off34_inb i hc1) v1
    have c2 := readAt_v arg4.view X4 _ _ (k0_off35_inb i hc1) v2
    have c3 := readAt_v arg4.view X4 _ _ (k0_off36_inb i hc1) v3
    isplitl [HW_arg5]
    · sl_unfold_run_names
      simp -proj (disch := decide) only [readCov_eq, ↓miss6, ↓miss7, ↓miss8, ↓readAt_hit, q0, q1, q2, q3, c0, c1, c2, c3,
        h60, h61, h62, h63, h70, h71, h72, h73, h80, h81, h82, h83]
      iexact HW_arg5
    sl_close
  · have hn : (i 1).val = 2 * ((i 1).val / 2) + 1 := by omega
    sl_exec (disch := first | sl_exact hc1 | sl_exact hc2)
    sl_step
    isplitl [HR_arg2]; · iexact HR_arg2
    isplitl [HR_arg3]; · iexact HR_arg3
    isplitl [HR_arg4]; · iexact HR_arg4
    obtain ⟨⟨k0, k1, k2, k3⟩, ⟨v0, v1, v2, v3⟩, w0, w1, w2, w3⟩ := offs_odd i ho
    have a0 := readAt_k arg3.view X3 _ _ (k0_off37_inb i hc2) k0
    have a1 := readAt_k arg3.view X3 _ _ (k0_off39_inb i hc2) k1
    have a2 := readAt_k arg3.view X3 _ _ (k0_off41_inb i hc2) k2
    have a3 := readAt_k arg3.view X3 _ _ (k0_off43_inb i hc2) k3
    have c0 := readAt_v arg4.view X4 _ _ (k0_off38_inb i hc2) v0
    have c1 := readAt_v arg4.view X4 _ _ (k0_off40_inb i hc2) v1
    have c2 := readAt_v arg4.view X4 _ _ (k0_off42_inb i hc2) v2
    have c3 := readAt_v arg4.view X4 _ _ (k0_off44_inb i hc2) v3
    have d0 := readAt_v arg4.view X4 _ _ (k0_off45_inb i hc2) w0
    have d1 := readAt_v arg4.view X4 _ _ (k0_off46_inb i hc2) w1
    have d2 := readAt_v arg4.view X4 _ _ (k0_off47_inb i hc2) w2
    have d3 := readAt_v arg4.view X4 _ _ (k0_off48_inb i hc2) w3
    have ho' : outB (arg2.view.read (Elt F) X2) (arg3.view.read (Elt F) X3) (arg4.view.read (Elt F) X4) (i 1).val
        = outB (arg2.view.read (Elt F) X2) (arg3.view.read (Elt F) X3) (arg4.view.read (Elt F) X4) (2 * ((i 1).val / 2) + 1) :=
      congrArg (outB _ _ _) hn
    rw [ho']
    isplitl [HW_arg5]
    · sl_unfold_run_names
      simp -proj (disch := decide) only [readCov_eq, ↓miss6, ↓miss7, ↓miss8, ↓readAt_hit, q0, q1, q2, q3, a0, a1, a2, a3, c0, c1, c2, c3, d0, d1, d2, d3,
        h60, h61, h62, h63, h70, h71, h72, h73, h80, h81, h82, h83]
      iexact HW_arg5
    sl_close

end Cert.ChunkIdeal

end
-- ==== Proof.ChunkIdeal.Run.lean ====
/- The run of the chunk-causal flash kernel: the pipeline's proof data, the body obligation, the launch, the frame. -/
module

public import proofs.«01_k».proof.Proof.ChunkIdeal.Body
public import proofs.«01_k».proof.Proof.Gen.ChunkIdeal.Frame
public import proofs.«01_k».proof.Proof.Gen.ChunkIdeal.Points
public import Idealize.ShloMosaic.Lib.Pipeline.FrameBody
public import Idealize.ShloMosaic.Lib.Claim
public import Idealize.ShloMosaic.Lib.VecWindow

@[expose] public section

set_option maxRecDepth 16384

noncomputable section

namespace Cert.ChunkIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.ChunkIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What grid point `t` leaves in the output's staging buffer: the attention block of its query block. -/
def outAt (c : Dev nD) (t : Fin cfg0.N) : Vec F S512x256 .bf16 :=
  outB (iblk m c 0 t) (iblk m c 1 t) (iblk m c 2 t) (grid0.coords t 1).val

/-- The pipeline's proof data on core `c`: the arrays as the region finds them, every input's buffer at its block, the
    output's at the attention block, and an invariant that only keeps the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays of the proof data are the contents the region finds. -/
theorem A_eq (c : Dev nD) (w : Fin cfg0.W) : (dats m 0 c).A w = V m c (Pipeline.arrRef spec0 w) := by
  dsimp only [dats]

/-- What the body leaves in the query buffer. -/
theorem after0 (c : Dev nD) (t : Fin cfg0.N) : (dats m 0 c).after 0 t = iblk m c 0 t := by dsimp only [dats]
/-- What the body leaves in the key buffer. -/
theorem after1 (c : Dev nD) (t : Fin cfg0.N) : (dats m 0 c).after 1 t = iblk m c 1 t := by dsimp only [dats]
/-- What the body leaves in the value buffer. -/
theorem after2 (c : Dev nD) (t : Fin cfg0.N) : (dats m 0 c).after 2 t = iblk m c 2 t := by dsimp only [dats]
/-- What the body leaves in the output buffer. -/
theorem after3 (c : Dev nD) (t : Fin cfg0.N) : (dats m 0 c).after 3 t = outAt m c t := by dsimp only [dats]

/-- The query buffer holds its block before the body. -/
theorem before0 (c : Dev nD) (t : Fin cfg0.N) (d) : (dats m 0 c).before 0 t d = iblk m c 0 t :=
  before0_0_of m (dats m 0 c) (A_eq m c 0) (after0 m c) t d
/-- The key buffer holds its block before the body. -/
theorem before1 (c : Dev nD) (t : Fin cfg0.N) (d) : (dats m 0 c).before 1 t d = iblk m c 1 t :=
  before0_1_of m (dats m 0 c) (A_eq m c 1) (after1 m c) t d
/-- The value buffer holds its block before the body. -/
theorem before2 (c : Dev nD) (t : Fin cfg0.N) (d) : (dats m 0 c).before 2 t d = iblk m c 2 t :=
  before0_2_of m (dats m 0 c) (A_eq m c 2) (after2 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A full store over any contents is read back as the stored block. -/
theorem read_full (v : View sig .tc .vmem S512x256 .bf16) (f : BufTy.Contents (Elt F) v.ty) (x : Vec F S512x256 .bf16) :
    v.read (Elt F) (v.writes (Elt F) f [⟨Rect.unit (s := S512x256) ![0, 0] S512x256.size inb_S512x256_S512x256_0_0, x⟩]) = x :=
  View.read_writes_full v f _ x []

set_option maxHeartbeats 1000000 in
/-- The body at any point, from the buffers' blocks and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0, after1, after2, after3]
  unfold Pipeline.ΦA
  rw [scopedRest0_eq]
  unfold owns
  iintro ⟨⟨⟨⟨%g6, S6⟩, ⟨%g7, S7⟩, ⟨%g8, S8⟩⟩, Hr⟩, Ho, ⟨%d0, %f0, %hf0, H0⟩, ⟨%d1, %f1, %hf1, H1⟩, ⟨%d2, %f2, %hf2, H2⟩, ⟨%d3, %f3, -, H3⟩⟩
  have hk := sound_kernel (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) f0 f1 f2 f3 g6 g7 g8
  rw [show (Memref.whole cc0_scratch0).view.set = Finset.univ from View.set_whole _, show (Memref.whole cc0_scratch1).view.set = Finset.univ from View.set_whole _, show (Memref.whole cc0_scratch2).view.set = Finset.univ from View.set_whole _] at hk
  iapply (wp_wand_r frame (wpE (defs₀ (F := F)) Variants.none c none) Set.univ)
  isplitl [S6 S7 S8 H0 H1 H2 H3]
  · iapply hk
    isplitl [H0]; · iexact H0
    isplitl [H1]; · iexact H1
    isplitl [H2]; · iexact H2
    isplitl [H3]; · iexact H3
    isplitl [S6]; · iexact S6
    isplitl [S7]; · iexact S7
    iexact S8
  iintro %_ ⟨H0, H1, H2, H3, %e6, %e7, %e8, S6, S7, S8⟩
  isplitl [S6 S7 S8 Hr]
  · isplitl [S6 S7 S8]
    · isplitl [S6]; · iexists _; iexact S6
      isplitl [S7]; · iexists _; iexact S7
      iexists _; iexact S8
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [read_full, hf0, hf1, hf2]
  rfl

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every fair run ends, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- A run with the result array named and the arguments unchanged. -/
theorem run_out : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun _ h c => (h c).1 3) (run_main m ρ)) (frame_of m ρ (dats m) (A_eq m) (run_main m ρ)) |> fun h =>
    (θ_run defs _ _).mono (fun _ h c => ⟨h.1 c, h.2 c⟩) h

end Cert.ChunkIdeal

end
-- ==== Proof.CausalIdeal.State.lean ====
/- The state of the causal flash kernel (`cc0_flash_causal`) at one grid point, as a recursion over the key
   blocks: per head the running column maxima and the running accumulator, and the final masked step. Also the
   closed forms of the offsets the kernel computes, and the lemmas that read a buffer back at one head's window. -/
module

public import proofs.«01_k».proof.Proof.Gen.CausalIdeal.Skeleton
public import Idealize.ShloMosaic.Lib.VecWindow
public import Idealize.ShloMosaic.Lib.WritesUnit
public import Idealize.ShloMosaic.Lib.WholeRead

@[expose] public section

set_option maxRecDepth 16384

noncomputable section

namespace Cert.CausalIdeal

open Idealize.ShloMosaic Idealize.SL.Sem Cert.CausalIdeal.Gen

variable {F : FTy → Type} [FloatOps F]

/-- The queries of head `h` in a block of queries. -/
def qW (x : Vec F S512x512 .bf16) (h : Fin 4) : Vec F S512x128 .bf16 :=
  View.ld x (Rect.unit (s := S512x512) ![0, 128 * h.val] S512x128.size
    (by have := h.isLt; intro a; fin_cases a <;> simp <;> omega))

/-- The keys of head `h` in key block `n` (taken modulo the eight blocks, so that it is total). -/
def kW (x : Vec F S8x512x512 .bf16) (n : ℕ) (h : Fin 4) : Vec F S1x512x128 .bf16 :=
  View.ld x (Rect.unit (s := S8x512x512) ![n % 8, 0, 128 * h.val] S1x512x128.size
    (by have := h.isLt; have := Nat.mod_lt n (show 8 > 0 by decide); intro a; fin_cases a <;> simp <;> omega))

/-- The value rows of head `h` in key block `n`: 64 rows of values, the row of ones, and the padding. -/
def vW (x : Vec F S8x320x512 .bf16) (n : ℕ) (h : Fin 4) : Vec F S1x80x512 .bf16 :=
  View.ld x (Rect.unit (s := S8x320x512) ![n % 8, 80 * h.val, 0] S1x80x512.size
    (by have := h.isLt; have := Nat.mod_lt n (show 8 > 0 by decide); intro a; fin_cases a <;> simp <;> omega))

/-- The scores of head `h` against key block `n`. -/
def scoreB (x2 : Vec F S512x512 .bf16) (x3 : Vec F S8x512x512 .bf16) (n : ℕ) (h : Fin 4) : Vec F S1x1x512x512 .f32 :=
  k0_pay2 (kW x3 n h) (qW x2 h)

/-- The column maxima before the first key block. -/
def m0 : Vec F S1x1x512 .f32 := fun _ => Scalar.ofBits .f32 0xFF800000#32

/-- The accumulator before the first key block. -/
def acc0 : Vec F S1x80x512 .f32 := fun _ => Scalar.ofBits .f32 0x00000000#32

/-- The running maxima and accumulator of head `h` after the first `n` key blocks, none of them masked. -/
def st (x2 : Vec F S512x512 .bf16) (x3 : Vec F S8x512x512 .bf16) (x4 : Vec F S8x320x512 .bf16) (h : Fin 4) :
    ℕ → Vec F S1x1x512 .f32 × Vec F S1x80x512 .f32
  | 0 => (m0, acc0)
  | n + 1 =>
    (k0_pay8 (k0_pay5 (scoreB x2 x3 n h) (st x2 x3 x4 h n).1),
     k0_pay7 (k0_pay6 (scoreB x2 x3 n h) (st x2 x3 x4 h n).1 (vW x4 n h) (st x2 x3 x4 h n).2))

/-- The accumulator of head `h` after the last, masked, key block `n`. -/
def fin (x2 : Vec F S512x512 .bf16) (x3 : Vec F S8x512x512 .bf16) (x4 : Vec F S8x320x512 .bf16) (n : ℕ) (h : Fin 4) :
    Vec F S1x80x512 .f32 :=
  k0_pay115 (scoreB x2 x3 n h) (st x2 x3 x4 h n).1 (vW x4 n h) (st x2 x3 x4 h n).2

/-- The block of the result the kernel stores: every head's accumulator divided by its row of sums, transposed. -/
def outB (x2 : Vec F S512x512 .bf16) (x3 : Vec F S8x512x512 .bf16) (x4 : Vec F S8x320x512 .bf16) (n : ℕ) :
    Vec F S512x256 .bf16 :=
  k0_pay1 (k0_pay195 (fin x2 x3 x4 n 0)) (fin x2 x3 x4 n 0) (fin x2 x3 x4 n 1) (fin x2 x3 x4 n 1)
    (fin x2 x3 x4 n 2) (fin x2 x3 x4 n 2) (fin x2 x3 x4 n 3) (fin x2 x3 x4 n 3)

/-! ## The offsets -/

/-- The first loop runs one trip for every two whole blocks before the query block. -/
theorem trips1 : ∀ i : grid0.Coords, (k0_t1_loop i).trips = (i 1).val / 2 := by decide +kernel
/-- The second loop runs no trip. -/
theorem trips2 : ∀ i : grid0.Coords, (k0_t2_loop i).trips = 0 := by decide +kernel

/-- Where the keys of a trip lie. -/
theorem offs_k1 : ∀ (i : grid0.Coords) (k : Fin (k0_t1_loop i).trips),
    (k0_off1 i k = ![(2 * k.val + 1) % 8, 0, 128 * (0 : Fin 4).val] ∧ k0_off3 i k = ![(2 * k.val + 1) % 8, 0, 128 * (1 : Fin 4).val]
    ∧ k0_off5 i k = ![(2 * k.val + 1) % 8, 0, 128 * (2 : Fin 4).val] ∧ k0_off7 i k = ![(2 * k.val + 1) % 8, 0, 128 * (3 : Fin 4).val])
    ∧ k0_off9 i k = ![(2 * k.val + 1 + 1) % 8, 0, 128 * (0 : Fin 4).val] ∧ k0_off11 i k = ![(2 * k.val + 1 + 1) % 8, 0, 128 * (1 : Fin 4).val]
    ∧ k0_off13 i k = ![(2 * k.val + 1 + 1) % 8, 0, 128 * (2 : Fin 4).val] ∧ k0_off15 i k = ![(2 * k.val + 1 + 1) % 8, 0, 128 * (3 : Fin 4).val] := by
  decide +kernel

/-- Where the values of a trip lie. -/
theorem offs_v1 : ∀ (i : grid0.Coords) (k : Fin (k0_t1_loop i).trips),
    (k0_off2 i k = ![(2 * k.val) % 8, 80 * (0 : Fin 4).val, 0] ∧ k0_off4 i k = ![(2 * k.val) % 8, 80 * (1 : Fin 4).val, 0]
    ∧ k0_off6 i k = ![(2 * k.val) % 8, 80 * (2 : Fin 4).val, 0] ∧ k0_off8 i k = ![(2 * k.val) % 8, 80 * (3 : Fin 4).val, 0])
    ∧ k0_off10 i k = ![(2 * k.val + 1) % 8, 80 * (0 : Fin 4).val, 0] ∧ k0_off12 i k = ![(2 * k.val + 1) % 8, 80 * (1 : Fin 4).val, 0]
    ∧ k0_off14 i k = ![(2 * k.val + 1) % 8, 80 * (2 : Fin 4).val, 0] ∧ k0_off16 i k = ![(2 * k.val + 1) % 8, 80 * (3 : Fin 4).val, 0] := by
  decide +kernel

/-- Whether the query block's number is even is what the kernel's two conditions test. -/
theorem conds : ∀ i : grid0.Coords,
    ((i 1).val % 2 = 0 ∧ k0_cond1 i = 1#1 ∧ ¬ k0_cond2 i = 1#1) ∨ ((i 1).val % 2 = 1 ∧ ¬ k0_cond1 i = 1#1 ∧ k0_cond2 i = 1#1) := by
  decide +kernel

/-- Where the keys and values of the last block lie. -/
theorem offs_even : ∀ i : grid0.Coords,
    k0_off33 i = ![(i 1).val % 8, 80 * (0 : Fin 4).val, 0] ∧ k0_off34 i = ![(i 1).val % 8, 80 * (1 : Fin 4).val, 0]
    ∧ k0_off35 i = ![(i 1).val % 8, 80 * (2 : Fin 4).val, 0] ∧ k0_off36 i = ![(i 1).val % 8, 80 * (3 : Fin 4).val, 0] := by
  decide +kernel

/-- Where the keys and values of the last whole block and of the masked one lie, at an odd query block. -/
theorem offs_odd : ∀ i : grid0.Coords, (i 1).val % 2 = 1 →
    (k0_off37 i = ![(2 * ((i 1).val / 2) + 1) % 8, 0, 128 * (0 : Fin 4).val] ∧ k0_off39 i = ![(2 * ((i 1).val / 2) + 1) % 8, 0, 128 * (1 : Fin 4).val]
    ∧ k0_off41 i = ![(2 * ((i 1).val / 2) + 1) % 8, 0, 128 * (2 : Fin 4).val] ∧ k0_off43 i = ![(2 * ((i 1).val / 2) + 1) % 8, 0, 128 * (3 : Fin 4).val])
    ∧ (k0_off38 i = ![(2 * ((i 1).val / 2)) % 8, 80 * (0 : Fin 4).val, 0] ∧ k0_off40 i = ![(2 * ((i 1).val / 2)) % 8, 80 * (1 : Fin 4).val, 0]
    ∧ k0_off42 i = ![(2 * ((i 1).val / 2)) % 8, 80 * (2 : Fin 4).val, 0] ∧ k0_off44 i = ![(2 * ((i 1).val / 2)) % 8, 80 * (3 : Fin 4).val, 0])
    ∧ k0_off45 i = ![(2 * ((i 1).val / 2) + 1) % 8, 80 * (0 : Fin 4).val, 0] ∧ k0_off46 i = ![(2 * ((i 1).val / 2) + 1) % 8, 80 * (1 : Fin 4).val, 0]
    ∧ k0_off47 i = ![(2 * ((i 1).val / 2) + 1) % 8, 80 * (2 : Fin 4).val, 0] ∧ k0_off48 i = ![(2 * ((i 1).val / 2) + 1) % 8, 80 * (3 : Fin 4).val, 0] := by
  decide +kernel

/-! ## Reading windows -/

section
variable {κ : Kind} {sp : Space}

/-- Reading the query window at a head's columns gives that head's queries. -/
theorem readAt_q (v : View sig κ sp S512x512 .bf16) (f : v.ty.Contents (Elt F)) {off : Fin 2 → ℕ} (h : Fin 4)
    (inb : ∀ a, off a + S512x128.size a ≤ S512x512.size a) (e : off = ![0, 128 * h.val]) :
    v.readAt (Elt F) (Rect.unit (s := S512x512) off S512x128.size inb).toLoadRect f = qW (v.read (Elt F) f) h := by
  subst e; rfl

/-- Reading the key window at a block and a head's columns gives that block of keys. -/
theorem readAt_k (v : View sig κ sp S8x512x512 .bf16) (f : v.ty.Contents (Elt F)) {off : Fin 3 → ℕ} (n : ℕ) (h : Fin 4)
    (inb : ∀ a, off a + S1x512x128.size a ≤ S8x512x512.size a) (e : off = ![n % 8, 0, 128 * h.val]) :
    v.readAt (Elt F) (Rect.unit (s := S8x512x512) off S1x512x128.size inb).toLoadRect f = kW (v.read (Elt F) f) n h := by
  subst e; rfl

/-- Reading the value window at a block and a head's rows gives that block of values. -/
theorem readAt_v (v : View sig κ sp S8x320x512 .bf16) (f : v.ty.Contents (Elt F)) {off : Fin 3 → ℕ} (n : ℕ) (h : Fin 4)
    (inb : ∀ a, off a + S1x80x512.size a ≤ S8x320x512.size a) (e : off = ![n % 8, 80 * h.val, 0]) :
    v.readAt (Elt F) (Rect.unit (s := S8x320x512) off S1x80x512.size inb).toLoadRect f = vW (v.read (Elt F) f) n h := by
  subst e; rfl

/-- A window read just after it was written holds what was written. -/
theorem readAt_hit {s : Shape} {e : EltTy} (v : View sig κ sp s e) (f : v.ty.Contents (Elt F)) (off size : Fin s.rank → ℕ)
    (inb inb' : ∀ a, off a + size a ≤ s.size a) (w : (Rect.unit (s := s) off size inb').shape.Idx → Elt F e)
    (L : List (View.Piece (Elt F) s e)) :
    v.readAt (Elt F) (Rect.unit off size inb).toLoadRect (v.writes (Elt F) f (⟨Rect.unit off size inb', w⟩ :: L)) = w := by
  show VecWindow.window (v.read (Elt F) _) off size inb = w
  rw [View.read_writes_cons_put (h := rfl)]
  exact VecWindow.window_put_same _ _ _ _ _

/-- A window does not see what was written to a window apart from it along the axis `a`. -/
theorem readAt_miss {s : Shape} {e : EltTy} (v : View sig κ sp s e) (f : v.ty.Contents (Elt F)) (off size off' size' : Fin s.rank → ℕ)
    (inb : ∀ a, off a + size a ≤ s.size a) (inb' : ∀ a, off' a + size' a ≤ s.size a) (w : (Rect.unit (s := s) off' size' inb').shape.Idx → Elt F e)
    (L : List (View.Piece (Elt F) s e)) (a : Fin s.rank) (ha : off a + size a ≤ off' a ∨ off' a + size' a ≤ off a) :
    v.readAt (Elt F) (Rect.unit off size inb).toLoadRect (v.writes (Elt F) f (⟨Rect.unit off' size' inb', w⟩ :: L))
      = v.readAt (Elt F) (Rect.unit off size inb).toLoadRect (v.writes (Elt F) f L) := by
  show VecWindow.window (v.read (Elt F) _) off size inb = VecWindow.window (v.read (Elt F) _) off size inb
  rw [View.read_writes_cons_put (h := rfl)]
  exact VecWindow.window_put_of_disjoint _ _ _ _ _ _ _ a ha

/-- A store to one head of the maxima does not change another head. -/
theorem miss6 (v : View sig κ sp S4x1x512 .f32) (f : v.ty.Contents (Elt F)) (p q : ℕ) (hp hq) (w) (L : List (View.Piece (Elt F) S4x1x512 .f32)) (h : p ≠ q) :
    v.readAt (Elt F) (Rect.unit (s := S4x1x512) ![q, 0, 0] S1x1x512.size hq).toLoadRect
        (v.writes (Elt F) f (⟨Rect.unit (s := S4x1x512) ![p, 0, 0] S1x1x512.size hp, w⟩ :: L))
      = v.readAt (Elt F) (Rect.unit (s := S4x1x512) ![q, 0, 0] S1x1x512.size hq).toLoadRect (v.writes (Elt F) f L) :=
  readAt_miss v f _ _ _ _ hq hp w L 0 (by show q + 1 ≤ p ∨ p + 1 ≤ q; omega)

/-- A store to one head of the accumulator does not change another head. -/
theorem miss7 (v : View sig κ sp S4x80x512 .f32) (f : v.ty.Contents (Elt F)) (p q : ℕ) (hp hq) (w) (L : List (View.Piece (Elt F) S4x80x512 .f32)) (h : p ≠ q) :
    v.readAt (Elt F) (Rect.unit (s := S4x80x512) ![q, 0, 0] S1x80x512.size hq).toLoadRect
        (v.writes (Elt F) f (⟨Rect.unit (s := S4x80x512) ![p, 0, 0] S1x80x512.size hp, w⟩ :: L))
      = v.readAt (Elt F) (Rect.unit (s := S4x80x512) ![q, 0, 0] S1x80x512.size hq).toLoadRect (v.writes (Elt F) f L) :=
  readAt_miss v f _ _ _ _ hq hp w L 0 (by show q + 1 ≤ p ∨ p + 1 ≤ q; omega)

/-- A store to one slot or head of the scores does not change another. -/
theorem miss8 (v : View sig κ sp S2x4x512x512 .f32) (f : v.ty.Contents (Elt F)) (p p' q q' : ℕ) (hp hq) (w) (L : List (View.Piece (Elt F) S2x4x512x512 .f32))
    (h : ¬ (p = q ∧ p' = q')) :
    v.readAt (Elt F) (Rect.unit (s := S2x4x512x512) ![q, q', 0, 0] S1x1x512x512.size hq).toLoadRect
        (v.writes (Elt F) f (⟨Rect.unit (s := S2x4x512x512) ![p, p', 0, 0] S1x1x512x512.size hp, w⟩ :: L))
      = v.readAt (Elt F) (Rect.unit (s := S2x4x512x512) ![q, q', 0, 0] S1x1x512x512.size hq).toLoadRect (v.writes (Elt F) f L) := by
  by_cases hpq : p = q
  · exact readAt_miss v f _ _ _ _ hq hp w L 1 (by show q' + 1 ≤ p' ∨ p' + 1 ≤ q'; omega)
  · exact readAt_miss v f _ _ _ _ hq hp w L 0 (by show q + 1 ≤ p ∨ p + 1 ≤ q; omega)

/-- A load over pieces that cover it, as a read of what the pieces write over anything. -/
theorem readCov_eq {s : Shape} {e : EltTy} (v : View sig κ sp s e) (L : List (View.Piece (Elt F) s e)) (r : LoadRect s) :
    v.readCov L r = v.readAt (Elt F) r (v.writes (Elt F) v.junk L) := rfl
end

end Cert.CausalIdeal

end
-- ==== Proof.CausalIdeal.Trip.lean ====
/- One trip of the key-block loop of the causal flash kernel. -/
module

public import proofs.«01_k».proof.Proof.CausalIdeal.State
public import proofs.«01_k».proof.Proof.Gen.CausalIdeal.Launch
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.CausalIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CausalIdeal.Gen

variable {F : FTy → Type} [FloatOps F]

local notation "𝕄G" => MT nD τ sig Unit (Elt F) ℕ (UR sig nD τ) ℕ

section
variable (arg6 : Memref sig .tc .vmem S4x1x512 .f32) (arg7 : Memref sig .tc .vmem S4x80x512 .f32) (arg8 : Memref sig .tc .vmem S2x4x512x512 .f32)

/-- The three scratch buffers before key block `n`, read head by head: the running maxima, the accumulators, and in
    slot 0 the scores of block `n`. -/
def Holds (x2 : Vec F S512x512 .bf16) (x3 : Vec F S8x512x512 .bf16) (x4 : Vec F S8x320x512 .bf16) (n : ℕ)
    (f6 : BufTy.Contents (Elt F) arg6.view.ty) (f7 : BufTy.Contents (Elt F) arg7.view.ty) (f8 : BufTy.Contents (Elt F) arg8.view.ty) : Prop :=
  (arg6.view.readAt (Elt F) (Rect.unit (s := S4x1x512) ![0, 0, 0] S1x1x512.size inb_S4x1x512_S1x1x512_0_0_0).toLoadRect f6 = (st x2 x3 x4 0 n).1
  ∧ arg6.view.readAt (Elt F) (Rect.unit (s := S4x1x512) ![1, 0, 0] S1x1x512.size inb_S4x1x512_S1x1x512_1_0_0).toLoadRect f6 = (st x2 x3 x4 1 n).1
  ∧ arg6.view.readAt (Elt F) (Rect.unit (s := S4x1x512) ![2, 0, 0] S1x1x512.size inb_S4x1x512_S1x1x512_2_0_0).toLoadRect f6 = (st x2 x3 x4 2 n).1
  ∧ arg6.view.readAt (Elt F) (Rect.unit (s := S4x1x512) ![3, 0, 0] S1x1x512.size inb_S4x1x512_S1x1x512_3_0_0).toLoadRect f6 = (st x2 x3 x4 3 n).1)
  ∧ (arg7.view.readAt (Elt F) (Rect.unit (s := S4x80x512) ![0, 0, 0] S1x80x512.size inb_S4x80x512_S1x80x512_0_0_0).toLoadRect f7 = (st x2 x3 x4 0 n).2
  ∧ arg7.view.readAt (Elt F) (Rect.unit (s := S4x80x512) ![1, 0, 0] S1x80x512.size inb_S4x80x512_S1x80x512_1_0_0).toLoadRect f7 = (st x2 x3 x4 1 n).2
  ∧ arg7.view.readAt (Elt F) (Rect.unit (s := S4x80x512) ![2, 0, 0] S1x80x512.size inb_S4x80x512_S1x80x512_2_0_0).toLoadRect f7 = (st x2 x3 x4 2 n).2
  ∧ arg7.view.readAt (Elt F) (Rect.unit (s := S4x80x512) ![3, 0, 0] S1x80x512.size inb_S4x80x512_S1x80x512_3_0_0).toLoadRect f7 = (st x2 x3 x4 3 n).2)
  ∧ (arg8.view.readAt (Elt F) (Rect.unit (s := S2x4x512x512) ![0, 0, 0, 0] S1x1x512x512.size inb_S2x4x512x512_S1x1x512x512_0_0_0_0).toLoadRect f8 = scoreB x2 x3 n 0
  ∧ arg8.view.readAt (Elt F) (Rect.unit (s := S2x4x512x512) ![0, 1, 0, 0] S1x1x512x512.size inb_S2x4x512x512_S1x1x512x512_0_1_0_0).toLoadRect f8 = scoreB x2 x3 n 1
  ∧ arg8.view.readAt (Elt F) (Rect.unit (s := S2x4x512x512) ![0, 2, 0, 0] S1x1x512x512.size inb_S2x4x512x512_S1x1x512x512_0_2_0_0).toLoadRect f8 = scoreB x2 x3 n 2
  ∧ arg8.view.readAt (Elt F) (Rect.unit (s := S2x4x512x512) ![0, 3, 0, 0] S1x1x512x512.size inb_S2x4x512x512_S1x1x512x512_0_3_0_0).toLoadRect f8 = scoreB x2 x3 n 3)
end

/-- One trip of the loop takes the state after two whole blocks fewer to the state after them. -/
theorem trip (𝒱 : Variants) (c : Dev nD) (bd : Option 𝒱.V) (E : Set ℕ) (i : grid0.Coords) (arg2 : Memref sig .tc .vmem S512x512 .bf16) (harg2 : arg2.IsWhole) (arg3 : Memref sig .tc .vmem S8x512x512 .bf16) (harg3 : arg3.IsWhole) (arg4 : Memref sig .tc .vmem S8x320x512 .bf16) (harg4 : arg4.IsWhole) (arg5 : Memref sig .tc .vmem S512x256 .bf16) (harg5 : arg5.IsWhole) (arg6 : Memref sig .tc .vmem S4x1x512 .f32) (harg6 : arg6.IsWhole) (arg7 : Memref sig .tc .vmem S4x80x512 .f32) (harg7 : arg7.IsWhole) (arg8 : Memref sig .tc .vmem S2x4x512x512 .f32) (harg8 : arg8.IsWhole) (arg1 : BitVec 32) (c0_i32_45 : BitVec 32) (v53 : BitVec 32)
    (X2 : BufTy.Contents (Elt F) arg2.view.ty) (X3 : BufTy.Contents (Elt F) arg3.view.ty) (X4 : BufTy.Contents (Elt F) arg4.view.ty)
    (k : Fin (k0_t1_loop i).trips) (f6 : BufTy.Contents (Elt F) arg6.view.ty) (f7 : BufTy.Contents (Elt F) arg7.view.ty) (f8 : BufTy.Contents (Elt F) arg8.view.ty)
    (h : Holds arg6 arg7 arg8 (arg2.view.read (Elt F) X2) (arg3.view.read (Elt F) X3) (arg4.view.read (Elt F) X4) (2 * k.val) f6 f7 f8) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)) : sProp 𝕄G)
    ⊢ wp frame (wpE (defs₀ (F := F)) 𝒱 (c : Thread nD τ) bd) E (k0_t1_body (F := F) i arg2 harg2 arg3 harg3 arg4 harg4 arg5 harg5 arg6 harg6 arg7 harg7 arg8 harg8 arg1 c0_i32_45 v53 k PUnit.unit)
        (fun _ => iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ ⌜Holds arg6 arg7 arg8 (arg2.view.read (Elt F) X2) (arg3.view.read (Elt F) X3) (arg4.view.read (Elt F) X4) (2 * k.val + 1 + 1) f6 f7 f8⌝)) := by
  unfold k0_t1_body
  iintro ⟨HR_arg2, HR_arg3, HR_arg4, HW_arg6, HW_arg7, HW_arg8⟩
  sl_exec
  sl_step
  isplitl [HR_arg2]; · iexact HR_arg2
  isplitl [HR_arg3]; · iexact HR_arg3
  isplitl [HR_arg4]; · iexact HR_arg4
  iexists _, _, _
  isplitl [HW_arg6]; · iexact HW_arg6
  isplitl [HW_arg7]; · iexact HW_arg7
  isplitl [HW_arg8]; · iexact HW_arg8
  ipureintro
  obtain ⟨⟨h60, h61, h62, h63⟩, ⟨h70, h71, h72, h73⟩, h80, h81, h82, h83⟩ := h
  obtain ⟨⟨k10, k11, k12, k13⟩, k20, k21, k22, k23⟩ := offs_k1 i k
  obtain ⟨⟨v10, v11, v12, v13⟩, v20, v21, v22, v23⟩ := offs_v1 i k
  have q0 := readAt_q arg2.view X2 0 inb_S512x512_S512x128_0_0 rfl
  have q1 := readAt_q arg2.view X2 1 inb_S512x512_S512x128_0_128 rfl
  have q2 := readAt_q arg2.view X2 2 inb_S512x512_S512x128_0_256 rfl
  have q3 := readAt_q arg2.view X2 3 inb_S512x512_S512x128_0_384 rfl
  have a0 := readAt_k arg3.view X3 _ _ (k0_off1_inb i k) k10
  have a1 := readAt_k arg3.view X3 _ _ (k0_off3_inb i k) k11
  have a2 := readAt_k arg3.view X3 _ _ (k0_off5_inb i k) k12
  have a3 := readAt_k arg3.view X3 _ _ (k0_off7_inb i k) k13
  have b0 := readAt_k arg3.view X3 _ _ (k0_off9_inb i k) k20
  have b1 := readAt_k arg3.view X3 _ _ (k0_off11_inb i k) k21
  have b2 := readAt_k arg3.view X3 _ _ (k0_off13_inb i k) k22
  have b3 := readAt_k arg3.view X3 _ _ (k0_off15_inb i k) k23
  have c0 := readAt_v arg4.view X4 _ _ (k0_off2_inb i k) v10
  have c1 := readAt_v arg4.view X4 _ _ (k0_off4_inb i k) v11
  have c2 := readAt_v arg4.view X4 _ _ (k0_off6_inb i k) v12
  have c3 := readAt_v arg4.view X4 _ _ (k0_off8_inb i k) v13
  have d0 := readAt_v arg4.view X4 _ _ (k0_off10_inb i k) v20
  have d1 := readAt_v arg4.view X4 _ _ (k0_off12_inb i k) v21
  have d2 := readAt_v arg4.view X4 _ _ (k0_off14_inb i k) v22
  have d3 := readAt_v arg4.view X4 _ _ (k0_off16_inb i k) v23
  refine ⟨⟨?_, ?_, ?_, ?_⟩, ⟨?_, ?_, ?_, ?_⟩, ?_, ?_, ?_, ?_⟩
  all_goals
    sl_unfold_run_names
    simp -proj (disch := decide) only [readCov_eq, ↓miss6, ↓miss7, ↓miss8, ↓readAt_hit, q0, q1, q2, q3, a0, a1, a2, a3, b0, b1, b2, b3, c0, c1, c2, c3, d0, d1, d2, d3,
      h60, h61, h62, h63, h70, h71, h72, h73, h80, h81, h82, h83]
    rfl

end Cert.CausalIdeal

end
-- ==== Proof.CausalIdeal.Body.lean ====
/- The body of the causal flash kernel at one grid point. -/
module

public import proofs.«01_k».proof.Proof.CausalIdeal.Trip

@[expose] public section

set_option maxRecDepth 16384
set_option maxHeartbeats 4000000

noncomputable section

namespace Cert.CausalIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.CausalIdeal.Gen

variable {F : FTy → Type} [FloatOps F]

local notation "𝕄G" => MT nD τ sig Unit (Elt F) ℕ (UR sig nD τ) ℕ

/-- A counted loop before a continuation: the invariant holds at trip 0, a trip keeps it, and the continuation runs
    from the invariant at the trip count. -/
theorem for_bind {M : Type} [RA.URA M] {Mask : Type} {Ef : Type → Type} (Fr : Mask → sProp M) (wpE : Mask → ∀ ⦃β : Type⦄, Ef β → sWPT M β) (Es : Mask)
    [∀ ⦃β : Type⦄ (e : Ef β), sWPT.Frameable (wpE Es e)]
    {w : ℕ} {σ : Type} (lb ub st : BitVec w) (hok : Scf.OK lb ub st) (init : σ) (body : Fin (Scf.trips lb ub st) → σ → Prog Ef σ) (I : ℕ → σ → sProp M)
    (hbody : ∀ (k : Fin (Scf.trips lb ub st)) (acc : σ), I k acc ⊢ wp Fr wpE Es (body k acc) (I (k.val + 1)))
    {β : Type} {kk : σ → Prog Ef β} {Q : β → sProp M} :
    iprop(I 0 init ∗ (∀ acc, I (Scf.trips lb ub st) acc -∗ wp Fr wpE Es (kk acc) Q)) ⊢ wp Fr wpE Es (Scf.for lb ub st hok init body >>= kk) Q := by
  rw [wp_bind]
  iintro ⟨HI, HK⟩
  iapply (Scf.wp_for Fr wpE Es lb ub st hok init body I hbody)
  isplitl [HI] <;> iassumption

/-- What the key-block loop holds before block `n`: the three operands, and the scratch buffers as `Holds` says. -/
abbrev Inv (c : Dev nD) (arg2 : Memref sig .tc .vmem S512x512 .bf16) (arg3 : Memref sig .tc .vmem S8x512x512 .bf16) (arg4 : Memref sig .tc .vmem S8x320x512 .bf16) (arg6 : Memref sig .tc .vmem S4x1x512 .f32) (arg7 : Memref sig .tc .vmem S4x80x512 .f32) (arg8 : Memref sig .tc .vmem S2x4x512x512 .f32)
    (X2 : BufTy.Contents (Elt F) arg2.view.ty) (X3 : BufTy.Contents (Elt F) arg3.view.ty) (X4 : BufTy.Contents (Elt F) arg4.view.ty) (n : ℕ) : sProp 𝕄G :=
  iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)
      ∗ ⌜Holds arg6 arg7 arg8 (arg2.view.read (Elt F) X2) (arg3.view.read (Elt F) X3) (arg4.view.read (Elt F) X4) n f6 f7 f8⌝)

/-- The body, from blocks of queries, keys and values, stores the block `outB` of them and leaves them as they were. -/
theorem sound_kernel (𝒱 : Variants) (c : Dev nD) (bd : Option 𝒱.V) (E : Set ℕ) (i : grid0.Coords) (arg2 : Memref sig .tc .vmem S512x512 .bf16) (harg2 : arg2.IsWhole) (arg3 : Memref sig .tc .vmem S8x512x512 .bf16) (harg3 : arg3.IsWhole) (arg4 : Memref sig .tc .vmem S8x320x512 .bf16) (harg4 : arg4.IsWhole) (arg5 : Memref sig .tc .vmem S512x256 .bf16) (harg5 : arg5.IsWhole) (arg6 : Memref sig .tc .vmem S4x1x512 .f32) (harg6 : arg6.IsWhole) (arg7 : Memref sig .tc .vmem S4x80x512 .f32) (harg7 : arg7.IsWhole) (arg8 : Memref sig .tc .vmem S2x4x512x512 .f32) (harg8 : arg8.IsWhole)
    (X2 : BufTy.Contents (Elt F) arg2.view.ty) (X3 : BufTy.Contents (Elt F) arg3.view.ty) (X4 : BufTy.Contents (Elt F) arg4.view.ty) (f5 : BufTy.Contents (Elt F) arg5.view.ty)
    (f6 : BufTy.Contents (Elt F) arg6.view.ty) (f7 : BufTy.Contents (Elt F) arg7.view.ty) (f8 : BufTy.Contents (Elt F) arg8.view.ty) :
    (iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4) ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8)) : sProp 𝕄G)
    ⊢ wp frame (wpE (defs₀ (F := F)) 𝒱 (c : Thread nD τ) bd) E (cc0_flash_causal (F := F) i arg2 harg2 arg3 harg3 arg4 harg4 arg5 harg5 arg6 harg6 arg7 harg7 arg8 harg8)
        (fun _ => iprop((arg2.view.loc (c : Thread nD τ) ↦[arg2.view.set]{fullShare} X2) ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} arg5.view.writes (Elt F) f5
          [⟨Rect.unit (s := S512x256) ![0, 0] S512x256.size inb_S512x256_S512x256_0_0, outB (arg2.view.read (Elt F) X2) (arg3.view.read (Elt F) X3) (arg4.view.read (Elt F) X4) (i 1).val⟩])
      ∗ ∃ f6 f7 f8, (arg6.view.loc (c : Thread nD τ) ↦[arg6.view.set]{fullShare} f6)
      ∗ (arg7.view.loc (c : Thread nD τ) ↦[arg7.view.set]{fullShare} f7) ∗ (arg8.view.loc (c : Thread nD τ) ↦[arg8.view.set]{fullShare} f8))) := by
  simp only [cc0_flash_causal_eq_skeleton]; unfold cc0_flash_causal_skel
  iintro ⟨HR_arg2, HR_arg3, HR_arg4, HW_arg5, HW_arg6, HW_arg7, HW_arg8⟩
  sl_exec
  iapply (for_bind frame (wpE (defs₀ (F := F)) 𝒱 (c : Thread nD τ) bd) E _ _ _ _ _ _
    (fun n _ => Inv c arg2 arg3 arg4 arg6 arg7 arg8 X2 X3 X4 (2 * n)) ?step1)
  case step1 =>
    intro k acc
    iintro ⟨HR_arg2, HR_arg3, HR_arg4, %f6, %f7, %f8, HW_arg6, HW_arg7, HW_arg8, %h⟩
    iapply (trip 𝒱 c bd E i arg2 harg2 arg3 harg3 arg4 harg4 arg5 harg5 arg6 harg6 arg7 harg7 arg8 harg8 _ _ _ X2 X3 X4 k f6 f7 f8 h)
    sl_close
  isplitl [HR_arg2 HR_arg3 HR_arg4 HW_arg6 HW_arg7 HW_arg8]
  · isplitl [HR_arg2]; · iexact HR_arg2
    isplitl [HR_arg3]; · iexact HR_arg3
    isplitl [HR_arg4]; · iexact HR_arg4
    iexists _, _, _
    isplitl [HW_arg6]; · iexact HW_arg6
    isplitl [HW_arg7]; · iexact HW_arg7
    isplitl [HW_arg8]; · iexact HW_arg8
    ipureintro
    have q0 := readAt_q arg2.view X2 0 inb_S512x512_S512x128_0_0 rfl
    have q1 := readAt_q arg2.view X2 1 inb_S512x512_S512x128_0_128 rfl
    have q2 := readAt_q arg2.view X2 2 inb_S512x512_S512x128_0_256 rfl
    have q3 := readAt_q arg2.view X2 3 inb_S512x512_S512x128_0_384 rfl
    have a0 := readAt_k arg3.view X3 0 0 inb_S8x512x512_S1x512x128_0_0_0 rfl
    have a1 := readAt_k arg3.view X3 0 1 inb_S8x512x512_S1x512x128_0_0_128 rfl
    have a2 := readAt_k arg3.view X3 0 2 inb_S8x512x512_S1x512x128_0_0_256 rfl
    have a3 := readAt_k arg3.view X3 0 3 inb_S8x512x512_S1x512x128_0_0_384 rfl
    refine ⟨⟨?_, ?_, ?_, ?_⟩, ⟨?_, ?_, ?_, ?_⟩, ?_, ?_, ?_, ?_⟩
    iterate 8 first
      | exact (congrArg (fun x => View.ld x _) (View.read_writes_full _ _ _ _ _)).trans rfl
    all_goals
      sl_unfold_run_names
      simp -proj (disch := decide) only [readCov_eq, ↓miss8, ↓readAt_hit, q0, q1, q2, q3, a0, a1, a2, a3]
      rfl
  iintro %acc ⟨HR_arg2, HR_arg3, HR_arg4, %g6, %g7, %g8, HW_arg6, HW_arg7, HW_arg8, %h⟩
  iapply (for_bind frame (wpE (defs₀ (F := F)) 𝒱 (c : Thread nD τ) bd) E _ _ _ _ _ _
    (fun n _ => Inv c arg2 arg3 arg4 arg6 arg7 arg8 X2 X3 X4 (2 * (k0_t1_loop i).trips)) ?step2)
  case step2 =>
    intro k acc
    exact absurd k.isLt (by have := trips2 i; change ¬ _ < (k0_t2_loop i).trips; omega)
  isplitl [HR_arg2 HR_arg3 HR_arg4 HW_arg6 HW_arg7 HW_arg8]
  · sl_close
  iintro %acc' ⟨HR_arg2, HR_arg3, HR_arg4, %g6, %g7, %g8, HW_arg6, HW_arg7, HW_arg8, %h⟩
  obtain ⟨⟨h60, h61, h62, h63⟩, ⟨h70, h71, h72, h73⟩, h80, h81, h82, h83⟩ := h
  rw [trips1 i] at h60 h61 h62 h63 h70 h71 h72 h73 h80 h81 h82 h83
  have q0 := readAt_q arg2.view X2 0 inb_S512x512_S512x128_0_0 rfl
  have q1 := readAt_q arg2.view X2 1 inb_S512x512_S512x128_0_128 rfl
  have q2 := readAt_q arg2.view X2 2 inb_S512x512_S512x128_0_256 rfl
  have q3 := readAt_q arg2.view X2 3 inb_S512x512_S512x128_0_384 rfl
  rcases conds i with ⟨he, hc1, hc2⟩ | ⟨ho, hc1, hc2⟩
  · have hn : 2 * ((i 1).val / 2) = (i 1).val := by omega
    rw [hn] at h60 h61 h62 h63 h70 h71 h72 h73 h80 h81 h82 h83
    sl_exec (disch := first | sl_exact hc1 | sl_exact hc2)
    sl_step
    isplitl [HR_arg2]; · iexact HR_arg2
    isplitl [HR_arg3]; · iexact HR_arg3
    isplitl [HR_arg4]; · iexact HR_arg4
    obtain ⟨v0, v1, v2, v3⟩ := offs_even i
    have c0 := readAt_v arg4.view X4 _ _ (k0_off33_inb i hc1) v0
    have c1 := readAt_v arg4.view X4 _ _ (k0_off34_inb i hc1) v1
    have c2 := readAt_v arg4.view X4 _ _ (k0_off35_inb i hc1) v2
    have c3 := readAt_v arg4.view X4 _ _ (k0_off36_inb i hc1) v3
    isplitl [HW_arg5]
    · sl_unfold_run_names
      simp -proj (disch := decide) only [readCov_eq, ↓miss6, ↓miss7, ↓miss8, ↓readAt_hit, q0, q1, q2, q3, c0, c1, c2, c3,
        h60, h61, h62, h63, h70, h71, h72, h73, h80, h81, h82, h83]
      iexact HW_arg5
    sl_close
  · have hn : (i 1).val = 2 * ((i 1).val / 2) + 1 := by omega
    sl_exec (disch := first | sl_exact hc1 | sl_exact hc2)
    sl_step
    isplitl [HR_arg2]; · iexact HR_arg2
    isplitl [HR_arg3]; · iexact HR_arg3
    isplitl [HR_arg4]; · iexact HR_arg4
    obtain ⟨⟨k0, k1, k2, k3⟩, ⟨v0, v1, v2, v3⟩, w0, w1, w2, w3⟩ := offs_odd i ho
    have a0 := readAt_k arg3.view X3 _ _ (k0_off37_inb i hc2) k0
    have a1 := readAt_k arg3.view X3 _ _ (k0_off39_inb i hc2) k1
    have a2 := readAt_k arg3.view X3 _ _ (k0_off41_inb i hc2) k2
    have a3 := readAt_k arg3.view X3 _ _ (k0_off43_inb i hc2) k3
    have c0 := readAt_v arg4.view X4 _ _ (k0_off38_inb i hc2) v0
    have c1 := readAt_v arg4.view X4 _ _ (k0_off40_inb i hc2) v1
    have c2 := readAt_v arg4.view X4 _ _ (k0_off42_inb i hc2) v2
    have c3 := readAt_v arg4.view X4 _ _ (k0_off44_inb i hc2) v3
    have d0 := readAt_v arg4.view X4 _ _ (k0_off45_inb i hc2) w0
    have d1 := readAt_v arg4.view X4 _ _ (k0_off46_inb i hc2) w1
    have d2 := readAt_v arg4.view X4 _ _ (k0_off47_inb i hc2) w2
    have d3 := readAt_v arg4.view X4 _ _ (k0_off48_inb i hc2) w3
    have ho' : outB (arg2.view.read (Elt F) X2) (arg3.view.read (Elt F) X3) (arg4.view.read (Elt F) X4) (i 1).val
        = outB (arg2.view.read (Elt F) X2) (arg3.view.read (Elt F) X3) (arg4.view.read (Elt F) X4) (2 * ((i 1).val / 2) + 1) :=
      congrArg (outB _ _ _) hn
    rw [ho']
    isplitl [HW_arg5]
    · sl_unfold_run_names
      simp -proj (disch := decide) only [readCov_eq, ↓miss6, ↓miss7, ↓miss8, ↓readAt_hit, q0, q1, q2, q3, a0, a1, a2, a3, c0, c1, c2, c3, d0, d1, d2, d3,
        h60, h61, h62, h63, h70, h71, h72, h73, h80, h81, h82, h83]
      iexact HW_arg5
    sl_close

end Cert.CausalIdeal

end
-- ==== Proof.CausalIdeal.Run.lean ====
/- The run of the causal flash kernel: the pipeline's proof data, the body obligation, the launch, the frame. -/
module

public import proofs.«01_k».proof.Proof.CausalIdeal.Body
public import proofs.«01_k».proof.Proof.Gen.CausalIdeal.Frame
public import proofs.«01_k».proof.Proof.Gen.CausalIdeal.Points
public import Idealize.ShloMosaic.Lib.Pipeline.FrameBody
public import Idealize.ShloMosaic.Lib.Claim
public import Idealize.ShloMosaic.Lib.VecWindow

@[expose] public section

set_option maxRecDepth 16384

noncomputable section

namespace Cert.CausalIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.CausalIdeal.Gen

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What grid point `t` leaves in the output's staging buffer: the attention block of its query block. -/
def outAt (c : Dev nD) (t : Fin cfg0.N) : Vec F S512x256 .bf16 :=
  outB (iblk m c 0 t) (iblk m c 1 t) (iblk m c 2 t) (grid0.coords t 1).val

/-- The pipeline's proof data on core `c`: the arrays as the region finds them, every input's buffer at its block, the
    output's at the attention block, and an invariant that only keeps the scratch buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays of the proof data are the contents the region finds. -/
theorem A_eq (c : Dev nD) (w : Fin cfg0.W) : (dats m 0 c).A w = V m c (Pipeline.arrRef spec0 w) := by
  dsimp only [dats]

/-- What the body leaves in the query buffer. -/
theorem after0 (c : Dev nD) (t : Fin cfg0.N) : (dats m 0 c).after 0 t = iblk m c 0 t := by dsimp only [dats]
/-- What the body leaves in the key buffer. -/
theorem after1 (c : Dev nD) (t : Fin cfg0.N) : (dats m 0 c).after 1 t = iblk m c 1 t := by dsimp only [dats]
/-- What the body leaves in the value buffer. -/
theorem after2 (c : Dev nD) (t : Fin cfg0.N) : (dats m 0 c).after 2 t = iblk m c 2 t := by dsimp only [dats]
/-- What the body leaves in the output buffer. -/
theorem after3 (c : Dev nD) (t : Fin cfg0.N) : (dats m 0 c).after 3 t = outAt m c t := by dsimp only [dats]

/-- The query buffer holds its block before the body. -/
theorem before0 (c : Dev nD) (t : Fin cfg0.N) (d) : (dats m 0 c).before 0 t d = iblk m c 0 t :=
  before0_0_of m (dats m 0 c) (A_eq m c 0) (after0 m c) t d
/-- The key buffer holds its block before the body. -/
theorem before1 (c : Dev nD) (t : Fin cfg0.N) (d) : (dats m 0 c).before 1 t d = iblk m c 1 t :=
  before0_1_of m (dats m 0 c) (A_eq m c 1) (after1 m c) t d
/-- The value buffer holds its block before the body. -/
theorem before2 (c : Dev nD) (t : Fin cfg0.N) (d) : (dats m 0 c).before 2 t d = iblk m c 2 t :=
  before0_2_of m (dats m 0 c) (A_eq m c 2) (after2 m c) t d

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A full store over any contents is read back as the stored block. -/
theorem read_full (v : View sig .tc .vmem S512x256 .bf16) (f : BufTy.Contents (Elt F) v.ty) (x : Vec F S512x256 .bf16) :
    v.read (Elt F) (v.writes (Elt F) f [⟨Rect.unit (s := S512x256) ![0, 0] S512x256.size inb_S512x256_S512x256_0_0, x⟩]) = x :=
  View.read_writes_full v f _ x []

set_option maxHeartbeats 1000000 in
/-- The body at any point, from the buffers' blocks and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0, after1, after2, after3]
  unfold Pipeline.ΦA
  rw [scopedRest0_eq]
  unfold owns
  iintro ⟨⟨⟨⟨%g6, S6⟩, ⟨%g7, S7⟩, ⟨%g8, S8⟩⟩, Hr⟩, Ho, ⟨%d0, %f0, %hf0, H0⟩, ⟨%d1, %f1, %hf1, H1⟩, ⟨%d2, %f2, %hf2, H2⟩, ⟨%d3, %f3, -, H3⟩⟩
  have hk := sound_kernel (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _) f0 f1 f2 f3 g6 g7 g8
  rw [show (Memref.whole cc0_scratch0).view.set = Finset.univ from View.set_whole _, show (Memref.whole cc0_scratch1).view.set = Finset.univ from View.set_whole _, show (Memref.whole cc0_scratch2).view.set = Finset.univ from View.set_whole _] at hk
  iapply (wp_wand_r frame (wpE (defs₀ (F := F)) Variants.none c none) Set.univ)
  isplitl [S6 S7 S8 H0 H1 H2 H3]
  · iapply hk
    isplitl [H0]; · iexact H0
    isplitl [H1]; · iexact H1
    isplitl [H2]; · iexact H2
    isplitl [H3]; · iexact H3
    isplitl [S6]; · iexact S6
    isplitl [S7]; · iexact S7
    iexact S8
  iintro %_ ⟨H0, H1, H2, H3, %e6, %e7, %e8, S6, S7, S8⟩
  isplitl [S6 S7 S8 Hr]
  · isplitl [S6 S7 S8]
    · isplitl [S6]; · iexists _; iexact S6
      isplitl [S7]; · iexists _; iexact S7
      iexists _; iexact S8
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr
  swap; · iexact H3
  ipureintro
  rw [read_full, hf0, hf1, hf2]
  rfl

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every fair run ends, with every array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every fair run ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-- A run with the result array named and the arguments unchanged. -/
theorem run_out : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_and ((θ_run defs _ _).mono (fun _ h c => (h c).1 3) (run_main m ρ)) (frame_of m ρ (dats m) (A_eq m) (run_main m ρ)) |> fun h =>
    (θ_run defs _ _).mono (fun _ h c => ⟨h.1 c, h.2 c⟩) h

end Cert.CausalIdeal

end
-- ==== Proof.Math.Softmax.lean ====
/- The running softmax over tiles of keys equals the softmax over all keys, over the extended reals. The running form
   keeps a maximum and a sum scaled by powers of two, tile by tile; the whole form takes the maximum over every key,
   exponentiates with base e the scores times the logarithm of two, and divides each weight by the sum of weights. -/
module

public import Idealize.ShloMosaic.PureOps.Ideal
public import Idealize.ShloMosaic.Lib.Pointwise

@[expose] public section

noncomputable section

namespace Cert.Softmax

open Idealize.ShloMosaic

/-- Two to minus infinity is zero. -/
theorem exp2_bot : Ideal.exp2 ⊥ = 0 := rfl
/-- Two to a real power. -/
theorem exp2_coe (r : ℝ) : Ideal.exp2 (r : EReal) = ((Real.rpow 2 r : ℝ) : EReal) := rfl
/-- The exponential of minus infinity is zero. -/
theorem exp_bot : Ideal.exp ⊥ = 0 := rfl
/-- The exponential of a real. -/
theorem exp_coe (r : ℝ) : Ideal.exp (r : EReal) = ((Real.exp r : ℝ) : EReal) := rfl

/-- A power of two below the top is a nonnegative real. -/
theorem exp2_real {x : EReal} (h : x ≠ ⊤) : ∃ r : ℝ, 0 ≤ r ∧ Ideal.exp2 x = (r : EReal) := by
  induction x with
  | bot => exact ⟨0, le_refl _, rfl⟩
  | top => exact absurd rfl h
  | coe r => exact ⟨_, (Real.rpow_pos_of_pos two_pos r).le, rfl⟩

/-- Rescaling a power of two from one maximum to a later one. -/
theorem exp2_rescale {s M M' : EReal} (h : s ≤ M) (h' : M ≤ M') (ht : M' ≠ ⊤) :
    Ideal.exp2 (M - M') * Ideal.exp2 (s - M) = Ideal.exp2 (s - M') := by
  induction s with
  | bot => simp [EReal.bot_sub, exp2_bot]
  | top => exact absurd (top_le_iff.mp (h.trans h')) ht
  | coe s =>
    induction M with
    | bot => exact absurd (le_bot_iff.mp h) (EReal.coe_ne_bot s)
    | top => exact absurd (top_le_iff.mp h') ht
    | coe M =>
      induction M' with
      | bot => exact absurd (le_bot_iff.mp h') (EReal.coe_ne_bot M)
      | top => exact absurd rfl ht
      | coe M' =>
        rw [← EReal.coe_sub, ← EReal.coe_sub, ← EReal.coe_sub, exp2_coe, exp2_coe, exp2_coe, ← EReal.coe_mul]
        congr 1
        rw [show s - M' = (M - M') + (s - M) by ring]
        exact (Real.rpow_add two_pos _ _).symm

/-- Exponentiating with base e a difference of two numbers times the logarithm of two is the power of two. -/
theorem exp_log_two {s : EReal} (M : ℝ) (hs : s ≠ ⊤) :
    Ideal.exp (s * (Real.log 2 : ℝ) - (M : EReal) * (Real.log 2 : ℝ)) = Ideal.exp2 (s - M) := by
  have hl : 0 < Real.log 2 := Real.log_pos one_lt_two
  induction s with
  | bot =>
    rw [EReal.bot_mul_coe_of_pos hl, EReal.bot_sub, EReal.bot_sub]; rfl
  | top => exact absurd rfl hs
  | coe s =>
    rw [← EReal.coe_mul, ← EReal.coe_mul, ← EReal.coe_sub, ← EReal.coe_sub, exp_coe, exp2_coe]
    congr 1
    rw [← sub_mul, mul_comm]
    exact (Real.rpow_def_of_pos two_pos _).symm

/-- A nonnegative real distributes over a sum. -/
theorem mul_sum_real {ι : Type*} (S : Finset ι) (f : ι → EReal) {r : ℝ} (h : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha,
      EReal.left_distrib_of_nonneg_of_ne_top (EReal.coe_nonneg.mpr h) (EReal.coe_ne_top r), ih]

/-- A sum of reals is a real. -/
theorem coe_sum {ι : Type*} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- A sum of products of reals is a real. -/
theorem sum_mul_real {ι : Type*} (S : Finset ι) (f g : ι → EReal) (hf : ∀ i, f i ≠ ⊤ ∧ f i ≠ ⊥) (hg : ∀ i, g i ≠ ⊤ ∧ g i ≠ ⊥) :
    (∑ i ∈ S, f i * g i) ≠ ⊤ ∧ (∑ i ∈ S, f i * g i) ≠ ⊥ := by
  have h : (∑ i ∈ S, f i * g i) = ((∑ i ∈ S, (f i).toReal * (g i).toReal : ℝ) : EReal) := by
    rw [← coe_sum]
    refine Finset.sum_congr rfl fun i _ => ?_
    rw [EReal.coe_mul, EReal.coe_toReal (hf i).1 (hf i).2, EReal.coe_toReal (hg i).1 (hg i).2]
  rw [h]
  exact ⟨EReal.coe_ne_top _, EReal.coe_ne_bot _⟩

variable (s v : ℕ → Fin 512 → EReal)

/-- The running maximum after the first `n` tiles. -/
def mx : ℕ → EReal
  | 0 => ⊥
  | n + 1 => max (mx n) (Finset.univ.fold max ⊥ (s n))

/-- The running weighted sum after the first `n` tiles, scaled to the running maximum. -/
def ac : ℕ → EReal
  | 0 => 0
  | n + 1 => Ideal.exp2 (mx s n - mx s (n + 1)) * ac n + ∑ k, v n k * Ideal.exp2 (s n k - mx s (n + 1))

/-- Folding the maximum from minus infinity is the supremum. -/
theorem fold_eq_sup {ι : Type*} [Fintype ι] (f : ι → EReal) : Finset.univ.fold max ⊥ f = Finset.univ.sup f := rfl

/-- The running maximum grows. -/
theorem mx_mono : Monotone (mx s) := monotone_nat_of_le_succ fun n => by rw [mx]; exact le_max_left _ _

/-- A score of an earlier block is at most the running maximum. -/
theorem le_mx {j n : ℕ} (h : j < n) (k : Fin 512) : s j k ≤ mx s n :=
  le_trans (by rw [mx, fold_eq_sup]; exact (Finset.le_sup (Finset.mem_univ k)).trans (le_max_right _ _)) (mx_mono s h)

/-- The running maximum of scores below infinity is below infinity. -/
theorem mx_ne_top (hs : ∀ j k, s j k ≠ ⊤) (n : ℕ) : mx s n ≠ ⊤ := by
  induction n with
  | zero => exact bot_ne_top
  | succ n ih =>
    rw [mx, fold_eq_sup, ← lt_top_iff_ne_top, max_lt_iff]
    exact ⟨lt_top_iff_ne_top.mpr ih, (Finset.sup_lt_iff (lt_top_iff_ne_top.mpr bot_ne_top)).mpr fun k _ => lt_top_iff_ne_top.mpr (hs n k)⟩

/-- The running sum is the sum over the tiles seen, each weight relative to the last maximum. -/
theorem ac_eq (hs : ∀ j k, s j k ≠ ⊤) (n : ℕ) :
    ac s v n = ∑ j ∈ Finset.range n, ∑ k, v j k * Ideal.exp2 (s j k - mx s n) := by
  induction n with
  | zero => rfl
  | succ n ih =>
    rw [ac, Finset.sum_range_succ, ih]
    congr 1
    have hle : mx s n ≤ mx s (n + 1) := mx_mono s n.le_succ
    have ht := mx_ne_top s hs (n + 1)
    obtain ⟨r, hr, he⟩ : ∃ r : ℝ, 0 ≤ r ∧ Ideal.exp2 (mx s n - mx s (n + 1)) = (r : EReal) := by
      apply exp2_real
      intro h
      have : mx s n - mx s (n + 1) ≤ 0 := EReal.sub_nonpos.mpr hle
      rw [h] at this
      exact absurd this (by simp)
    rw [he, mul_sum_real _ _ hr]
    refine Finset.sum_congr rfl fun j hj => ?_
    rw [mul_sum_real _ _ hr]
    refine Finset.sum_congr rfl fun k _ => ?_
    rw [mul_left_comm, ← he, exp2_rescale (le_mx s (Finset.mem_range.mp hj) k) hle ht]

/-- Scores below every maximum leave the running maximum as it is. -/
theorem mx_stay {n : ℕ} (hb : ∀ j, n < j → ∀ k, s j k = ⊥) (d : ℕ) : mx s (n + 1 + d) = mx s (n + 1) := by
  induction d with
  | zero => rfl
  | succ d ih =>
    rw [← add_assoc, mx, ih, show s (n + 1 + d) = fun _ => ⊥ from funext (hb _ (by omega)), fold_eq_sup]
    simp

/-- The maximum over all keys of the scores times a positive real is the running maximum times it. -/
theorem sup_all {c : ℝ} (hc : 0 < c) (L : Fin 4096 → EReal)
    (hL : ∀ k : Fin 4096, L k = s (k.val / 512) ⟨k.val % 512, Nat.mod_lt _ (by decide)⟩ * (c : EReal)) :
    Finset.univ.fold max ⊥ L = mx s 8 * (c : EReal) := by
  have hc0 : (0 : EReal) ≤ c := EReal.coe_nonneg.mpr hc.le
  rw [fold_eq_sup]
  apply le_antisymm
  · refine Finset.sup_le fun k _ => ?_
    rw [hL]
    exact mul_le_mul_of_nonneg_right (le_mx s (by omega) _) hc0
  · have hmono : Monotone fun x : EReal => x * (c : EReal) := fun a b h => mul_le_mul_of_nonneg_right h hc0
    have key : ∀ n, n ≤ 8 → mx s n * (c : EReal) ≤ Finset.univ.sup L := by
      intro n
      induction n with
      | zero => intro _; rw [mx, EReal.bot_mul_coe_of_pos hc]; exact bot_le
      | succ n ih =>
        intro hn
        rw [mx, hmono.map_max (a := mx s n), fold_eq_sup]
        refine max_le (ih (by omega)) ?_
        rw [Finset.comp_sup_eq_sup_comp (fun x : EReal => x * (c : EReal)) (fun a b => hmono.map_max) (EReal.bot_mul_coe_of_pos hc)]
        refine Finset.sup_le fun k _ => ?_
        have hk := k.isLt
        have h := hL ⟨512 * n + k.val, by omega⟩
        have e1 : (512 * n + k.val) / 512 = n := by omega
        have e2 : (512 * n + k.val) % 512 = k.val := by omega
        simp only [e1, e2] at h
        simp only [Function.comp]
        rw [← h]
        exact Finset.le_sup (Finset.mem_univ _)
    exact key 8 le_rfl

/-- A sum over all keys is the sum over the tiles of the sums over each. -/
theorem sum_tiles (f : ℕ → Fin 512 → EReal) :
    ∑ k : Fin 4096, f (k.val / 512) ⟨k.val % 512, Nat.mod_lt _ (by decide)⟩ = ∑ j ∈ Finset.range 8, ∑ k, f j k := by
  rw [Finset.sum_range, Fin.sum_univ_tiles 8 512 (by decide)]
  refine Finset.sum_congr rfl fun j _ => Finset.sum_congr rfl fun k _ => ?_
  have hk := k.isLt
  congr 1
  · simp only []; omega
  · apply Fin.ext; simp only []; omega

/-- The running softmax is the softmax: the running weighted sum divided by the running sum of weights is the sum of
    the values, each times its weight over the sum of all weights. Keys beyond tile `n` are masked, and some key is not. -/
theorem softmax_eq {n : ℕ} (hn : n < 8) (hs : ∀ j k, s j k ≠ ⊤) (hb : ∀ j, n < j → ∀ k, s j k = ⊥)
    (hd : ∃ k, s n k ≠ ⊥) (L : Fin 4096 → EReal)
    (hL : ∀ k : Fin 4096, L k = s (k.val / 512) ⟨k.val % 512, Nat.mod_lt _ (by decide)⟩ * ((Real.log 2 : ℝ) : EReal)) :
    Ideal.div (ac s v (n + 1)) (ac s (fun _ _ => 1) (n + 1))
      = ∑ k : Fin 4096, v (k.val / 512) ⟨k.val % 512, Nat.mod_lt _ (by decide)⟩ *
          Ideal.div (Ideal.exp (L k - Finset.univ.fold max ⊥ L))
            (∑ i : Fin 4096, Ideal.exp (L i - Finset.univ.fold max ⊥ L)) := by
  have hl : 0 < Real.log 2 := Real.log_pos one_lt_two
  have h8 : mx s 8 = mx s (n + 1) := by
    have := mx_stay s hb (7 - n)
    rwa [show n + 1 + (7 - n) = 8 by omega] at this
  rw [sup_all s hl L hL, h8]
  obtain ⟨k0, hk0⟩ := hd
  obtain ⟨M, hM⟩ : ∃ M : ℝ, mx s (n + 1) = M := by
    have h1 := mx_ne_top s hs (n + 1)
    have h2 : mx s (n + 1) ≠ ⊥ := fun h => hk0 (le_bot_iff.mp (h ▸ le_mx s n.lt_succ_self k0))
    exact ⟨_, (EReal.coe_toReal h1 h2).symm⟩
  choose w hw0 hw using fun j k => exp2_real (x := s j k - M) (fun h => by
    have hjk := hs j k
    revert h
    cases hx : s j k with
    | bot => simp [EReal.bot_sub]
    | top => exact absurd hx hjk
    | coe x => rw [← EReal.coe_sub]; exact fun h => EReal.coe_ne_top _ h)
  have hwe : ∀ k : Fin 4096, Ideal.exp (L k - mx s (n + 1) * ((Real.log 2 : ℝ) : EReal)) = (w (k.val / 512) ⟨k.val % 512, Nat.mod_lt _ (by decide)⟩ : EReal) := by
    intro k
    rw [hL, hM, exp_log_two M (hs _ _), hw]
  have hz : ∀ j, n < j → ∀ k, w j k = 0 := by
    intro j hj k
    have := hw j k
    rw [hb j hj k, EReal.bot_sub, exp2_bot] at this
    exact (EReal.coe_eq_zero.mp this.symm)
  have hsub : Finset.range (n + 1) ⊆ Finset.range 8 := Finset.range_subset_range.mpr (by omega)
  have hext : ∀ u : ℕ → Fin 512 → EReal, ac s u (n + 1) = ∑ j ∈ Finset.range 8, ∑ k, u j k * (w j k : EReal) := by
    intro u
    rw [ac_eq s u hs, hM]
    simp only [hw]
    refine Finset.sum_subset hsub fun j _ hj => Finset.sum_eq_zero fun k _ => ?_
    rw [hz j (by simpa using hj)]; simp
  simp only [hwe]
  set D : ℝ := ∑ j ∈ Finset.range 8, ∑ k, w j k with hD
  have hDe : ∑ i : Fin 4096, (w (i.val / 512) ⟨i.val % 512, Nat.mod_lt _ (by decide)⟩ : EReal) = (D : EReal) := by
    rw [sum_tiles fun j k => (w j k : EReal), hD, ← coe_sum]
    exact Finset.sum_congr rfl fun j _ => coe_sum _ _
  have hDa : ac s (fun _ _ => 1) (n + 1) = (D : EReal) := by
    rw [hext, hD, ← coe_sum]
    refine Finset.sum_congr rfl fun j _ => ?_
    rw [← coe_sum]
    exact Finset.sum_congr rfl fun k _ => one_mul _
  have hDp : 0 < D := by
    refine Finset.sum_pos' (fun j _ => Finset.sum_nonneg fun k _ => hw0 j k) ⟨n, Finset.mem_range.mpr hn, ?_⟩
    refine Finset.sum_pos' (fun k _ => hw0 n k) ⟨k0, Finset.mem_univ _, ?_⟩
    refine lt_of_le_of_ne (hw0 n k0) fun h => ?_
    have h1 := hw n k0
    rw [← h, ← EReal.coe_toReal (hs n k0) hk0, ← EReal.coe_sub, exp2_coe] at h1
    exact absurd (EReal.coe_eq_coe_iff.mp h1) (Real.rpow_pos_of_pos two_pos _).ne'
  have hD0 : (D : EReal) ≠ 0 := fun h => hDp.ne' (EReal.coe_eq_zero.mp h)
  rw [hDe, hDa, hext]
  unfold Ideal.div
  simp only [if_neg hD0]
  rw [sum_tiles fun j k => v j k * ((w j k : EReal) * ((D : EReal))⁻¹), ← EReal.coe_inv, mul_comm,
    mul_sum_real _ _ (inv_nonneg.mpr hDp.le)]
  refine Finset.sum_congr rfl fun j _ => ?_
  rw [mul_sum_real _ _ (inv_nonneg.mpr hDp.le)]
  refine Finset.sum_congr rfl fun k _ => ?_
  rw [mul_comm, mul_assoc]

end Cert.Softmax

end
-- ==== Proof.Math.Words.lean ====
/- Small facts of words and float constants that the attention proofs share: the constants minus infinity, one and two,
   and the order of two small words as the order of the numbers they hold. -/
module

public import Idealize.ShloMosaic.PureOps.Ideal
public import Idealize.ShloMosaic.Lib.Pointwise
public import Idealize.ShloMosaic.Lib.WordCmp

@[expose] public section

noncomputable section

namespace Cert.Words

open Idealize.ShloMosaic

/-- The word of minus infinity reads as the bottom. -/
theorem ofBits_neg_inf : Ideal.ofBits FTy.f32 0xFF800000#32 = ⊥ := by
  simp [Ideal.ofBits, Ideal.ieee]

/-- The bfloat16 word of plus infinity reads as the top. -/
theorem ofBits_inf_bf16 : Ideal.ofBits FTy.bf16 0x7F80#16 = ⊤ := by
  simp [Ideal.ofBits, Ideal.ieee]

/-- The word of two reads as two. -/
theorem ofBits_two : Ideal.ofBits FTy.f32 0x40000000#32 = ((2 : ℝ) : EReal) := by
  have h : Ideal.ofBits FTy.f32 0x40000000#32 = ((8388608 : ℝ) : EReal) * ((1 / 4194304 : ℝ) : EReal) := by
    simp [Ideal.ofBits, Ideal.ieee]
    norm_num
  rw [h, ← EReal.coe_mul]
  norm_num

/-- The logarithm of the constant two. -/
theorem log_two : Ideal.log (Ideal.ofBits FTy.f32 0x40000000#32) = ((Real.log 2 : ℝ) : EReal) := by
  rw [ofBits_two]
  show (if (2 : ℝ) ≤ 0 then (⊥ : EReal) else (Real.log 2 : ℝ)) = _
  rw [if_neg (by norm_num)]

/-- Selecting on a signed comparison of two small words is selecting on the order of the numbers. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat ha hb]
  by_cases h : a ≤ b <;> simp [h, Scalar.select]

/-- A small word shifted right by six holds its number divided by 64. -/
theorem shr_six : ∀ i : Fin 512, IntOp.shrsi .vector (BitVec.ofNat 32 i.val) 6#32 = BitVec.ofNat 32 (i.val / 64) := by
  decide +kernel

/-- Dividing a small position by 64, rounding down as the host spells it: the quotient, less one where the signs
    differ and the remainder is not zero. -/
theorem floor_div : ∀ i : Fin 4096,
    Scalar.select
      (IntOp.andi
        (IntOp.cmpi CmpIPredicate.ne
          (if BitVec.ofNat 32 i.val = 0 then (0 : BitVec 32) else if (BitVec.ofNat 32 i.val).msb = true then -1 else 1)
          (if (64#32 : BitVec 32) = 0 then (0 : BitVec 32) else if (64#32 : BitVec 32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32)
      = BitVec.ofNat 32 (i.val / 64) := by
  decide +kernel

/-- The host's maximum over the last axis of four, from minus infinity. -/
theorem hostMax_last {n0 n1 n2 n3 : ℕ} (L : FVec Ideal ⟨4, ![n0, n1, n2, n3]⟩ .f32)
    (h' : (⟨4, ![n0, n1, n2, n3]⟩ : Shape).ReducesTo [3] ⟨3, ![n0, n1, n2]⟩) (hu : 0 < (⟨0, ![]⟩ : Shape).numel)
    (hb : (⟨0, ![]⟩ : Shape).BroadcastsInDim ⟨3, ![n0, n1, n2]⟩ ![]) (a : Fin n0) (b : Fin n1) (c : Fin n2) :
    maximumf (broadcastInDim ⟨3, ![n0, n1, n2]⟩ ![] hb (constant ⟨0, ![]⟩ .f32 0xFF800000#32))
      (Host.reduce FloatOps.maximumf L (constant ⟨0, ![]⟩ .f32 0xFF800000#32) h' hu) (ix3 a b c)
      = Finset.univ.fold max ⊥ fun j : Fin n3 => L (ix4 a b c j) := by
  pointwise
  rw [ofBits_neg_inf, max_eq_right bot_le]

/-- The host's sum over the last axis of four, from zero. -/
theorem hostAdd_last {n0 n1 n2 n3 : ℕ} (L : FVec Ideal ⟨4, ![n0, n1, n2, n3]⟩ .f32)
    (h' : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduceAdd L (constant ⟨0, ![]⟩ .f32 0x00000000#32) h' hu (ix3 a b c) = ∑ j : Fin n3, L (ix4 a b c j) := by
  pointwise

end Cert.Words

end
-- ==== Proof.ChunkIdeal.Value.lean ====
/- The block the chunk-causal flash kernel stores, read at an index over the extended reals: each element is the
   running softmax of `Cert.Softmax` over the key blocks, divided by its row of sums. -/
module

public import proofs.«01_k».proof.Proof.ChunkIdeal.State
public import proofs.«01_k».proof.Proof.Math.Softmax
public import proofs.«01_k».proof.Proof.Math.Words

@[expose] public section

set_option maxRecDepth 16384

noncomputable section

namespace Cert.ChunkIdeal

open Idealize.ShloMosaic Idealize.SL.Sem Cert.ChunkIdeal.Gen

/-- The queries of a head, at an index. -/
theorem qW_apply (x : Vec Ideal S512x512 .bf16) (h : Fin 4) (c : Fin 512) (d : Fin 128) :
    qW x h (ix2 c d) = x (ix2 c ⟨128 * h.val + d.val, by omega⟩) := by
  pointwise [qW]

/-- The keys of a block and a head, at an index. -/
theorem kW_apply (x : Vec Ideal S8x512x512 .bf16) (n : ℕ) (h : Fin 4) (k : Fin 512) (d : Fin 128) :
    kW x n h (ix3 0 k d) = x (ix3 ⟨n % 8, by omega⟩ k ⟨128 * h.val + d.val, by omega⟩) := by
  pointwise [kW]

/-- The values of a block and a head, at an index. -/
theorem vW_apply (x : Vec Ideal S8x320x512 .bf16) (n : ℕ) (h : Fin 4) (r : Fin 80) (k : Fin 512) :
    vW x n h (ix3 0 r k) = x (ix3 ⟨n % 8, by omega⟩ ⟨80 * h.val + r.val, by omega⟩ k) := by
  pointwise [vW]

/-- A block of scores is the inner products of keys and queries. -/
theorem pay2_apply (a : Vec Ideal S1x512x128 .bf16) (b : Vec Ideal S512x128 .bf16) (k c : Fin 512) :
    k0_pay2 a b (ix4 0 0 k c) = ∑ d : Fin 128, a (ix3 0 k d) * b (ix2 c d) := by
  pointwise [k0_pay2]

/-- The new maximum is the larger of the old one and the largest score. -/
theorem pay5_apply (s : Vec Ideal S1x1x512x512 .f32) (m : Vec Ideal S1x1x512 .f32) (c : Fin 512) :
    k0_pay5 s m (ix2 0 c) = max (m (ix3 0 0 c)) (Finset.univ.fold max ⊥ fun k : Fin 512 => s (ix4 0 0 k c)) := by
  pointwise [k0_pay5, k0_pay3, k0_pay4]
  rw [Words.ofBits_neg_inf]

/-- The accumulator as stored, at an index. -/
theorem pay7_apply (a : FVec Ideal S80x512 .f32) (r : Fin 80) (c : Fin 512) :
    k0_pay7 a (ix3 0 r c) = a (ix2 r c) := by
  pointwise [k0_pay7]

/-- The maxima as stored, at an index. -/
theorem pay8_apply (a : FVec Ideal S1x512 .f32) (c : Fin 512) :
    k0_pay8 a (ix3 0 0 c) = a (ix2 0 c) := by
  pointwise [k0_pay8]

/-- The new accumulator is the old one rescaled, and the values weighed by the exponentials. -/
theorem pay6_apply (s : Vec Ideal S1x1x512x512 .f32) (m : Vec Ideal S1x1x512 .f32) (v : Vec Ideal S1x80x512 .bf16)
    (a : Vec Ideal S1x80x512 .f32) (r : Fin 80) (c : Fin 512) :
    k0_pay6 s m v a (ix2 r c) = Ideal.exp2 (m (ix3 0 0 c) - k0_pay5 s m (ix2 0 c)) * a (ix3 0 r c)
      + ∑ k : Fin 512, v (ix3 0 r k) * Ideal.exp2 (s (ix4 0 0 k c) - k0_pay5 s m (ix2 0 c)) := by
  pointwise [k0_pay6, k0_pay3, k0_pay4]
  rfl

/-- The new maximum after the masked block. -/
theorem pay114_apply (s : Vec Ideal S1x1x512x512 .f32) (m : Vec Ideal S1x1x512 .f32) (c : Fin 512) :
    k0_pay114 s m (ix2 0 c) = max (m (ix3 0 0 c)) (Finset.univ.fold max ⊥ fun k : Fin 512 => k0_pay112 s (ix2 k c)) := by
  pointwise [k0_pay114, k0_pay113]
  rw [Words.ofBits_neg_inf]

/-- The new accumulator after the masked block. -/
theorem pay115_apply (s : Vec Ideal S1x1x512x512 .f32) (m : Vec Ideal S1x1x512 .f32) (v : Vec Ideal S1x80x512 .bf16)
    (a : Vec Ideal S1x80x512 .f32) (r : Fin 80) (c : Fin 512) :
    k0_pay115 s m v a (ix3 0 r c) = Ideal.exp2 (m (ix3 0 0 c) - k0_pay114 s m (ix2 0 c)) * a (ix3 0 r c)
      + ∑ k : Fin 512, v (ix3 0 r k) * Ideal.exp2 (k0_pay112 s (ix2 k c) - k0_pay114 s m (ix2 0 c)) := by
  pointwise [k0_pay115, k0_pay113]
  rfl

/-- The masked scores: minus infinity where the query may not look. -/
theorem pay112_apply (s : Vec Ideal S1x1x512x512 .f32) (k c : Fin 512) :
    k0_pay112 s (ix2 k c) = if k.val / 64 ≤ c.val / 64 then s (ix4 0 0 k c) else ⊥ := by
  pointwise [k0_pay112]
  rw [Words.shr_six, Words.shr_six, Words.select_sle (by omega) (by omega), Words.ofBits_neg_inf]

/-- The stored block: the accumulator divided by its row of sums, head by head. -/
theorem pay1_apply (a0 a1 a2 a3 : Vec Ideal S1x80x512 .f32) (c : Fin 512) (h : Fin 4) (e : Fin 64) :
    k0_pay1 (k0_pay197 a0) a0 a1 a1 a2 a2 a3 a3 (ix2 c ⟨64 * h.val + e.val, by omega⟩)
      = Ideal.div ((![a0, a1, a2, a3] h) (ix3 0 ⟨e.val, by omega⟩ c)) ((![a0, a1, a2, a3] h) (ix3 0 64 c)) := by
  pointwise [k0_pay1, k0_pay197]
  have he := e.isLt
  fin_cases h
  · simp
  · simp
  · simp
    rw [dif_neg (by omega), dif_neg (by omega), dif_pos (by omega)]
    simp only [show 128 + e.val - 64 - 64 = e.val by omega]
  · simp
    rw [dif_neg (by omega), dif_neg (by omega), dif_neg (by omega)]
    simp only [show 192 + e.val - 64 - 64 - 64 = e.val by omega]

/-- The score of key `k` of key block `j` against query `c`, head `h`. -/
def sc (x2 : Vec Ideal S512x512 .bf16) (x3 : Vec Ideal S8x512x512 .bf16) (h : Fin 4) (c : Fin 512) (j : ℕ) (k : Fin 512) : EReal :=
  ∑ d : Fin 128, x3 (ix3 ⟨j % 8, by omega⟩ k ⟨128 * h.val + d.val, by omega⟩) * x2 (ix2 c ⟨128 * h.val + d.val, by omega⟩)

/-- The score where the query may look, minus infinity elsewhere: every key of the blocks before `n`, the keys of
    block `n` that the mask allows, none after. -/
def sK (x2 : Vec Ideal S512x512 .bf16) (x3 : Vec Ideal S8x512x512 .bf16) (n : ℕ) (h : Fin 4) (c : Fin 512) (j : ℕ) (k : Fin 512) : EReal :=
  if j < n ∨ j = n ∧ k.val / 64 ≤ c.val / 64 then sc x2 x3 h c j k else ⊥

/-- Row `r` of head `h` of the values of key block `j`, at key `k`. -/
def vK (x4 : Vec Ideal S8x320x512 .bf16) (h : Fin 4) (r : Fin 80) (j : ℕ) (k : Fin 512) : EReal :=
  x4 (ix3 ⟨j % 8, by omega⟩ ⟨80 * h.val + r.val, by omega⟩ k)

/-- A block of scores, at an index, is `sc`. -/
theorem scoreB_apply (x2 : Vec Ideal S512x512 .bf16) (x3 : Vec Ideal S8x512x512 .bf16) (j : ℕ) (h : Fin 4) (k c : Fin 512) :
    scoreB x2 x3 j h (ix4 0 0 k c) = sc x2 x3 h c j k := by
  rw [scoreB, pay2_apply, sc]
  exact Finset.sum_congr rfl fun d _ => by rw [kW_apply, qW_apply]

/-- Before the masked block, the maxima and the accumulator are those of the running softmax. -/
theorem st_apply (x2 : Vec Ideal S512x512 .bf16) (x3 : Vec Ideal S8x512x512 .bf16) (x4 : Vec Ideal S8x320x512 .bf16)
    (n : ℕ) (h : Fin 4) (c : Fin 512) (j : ℕ) (hj : j ≤ n) :
    (st x2 x3 x4 h j).1 (ix3 0 0 c) = Softmax.mx (sK x2 x3 n h c) j
      ∧ ∀ r, (st x2 x3 x4 h j).2 (ix3 0 r c) = Softmax.ac (sK x2 x3 n h c) (vK x4 h r) j := by
  induction j with
  | zero => exact ⟨Words.ofBits_neg_inf, fun r => Ideal.ofBits_zero_f32⟩
  | succ j ih =>
    obtain ⟨hm, ha⟩ := ih (by omega)
    have hs : ∀ k, scoreB x2 x3 j h (ix4 0 0 k c) = sK x2 x3 n h c j k := fun k => by
      rw [scoreB_apply, sK, if_pos (Or.inl (by omega))]
    have h5 : k0_pay5 (scoreB x2 x3 j h) (st x2 x3 x4 h j).1 (ix2 0 c) = Softmax.mx (sK x2 x3 n h c) (j + 1) := by
      rw [pay5_apply, hm, Softmax.mx]; simp only [hs]
    constructor
    · simp only [st]
      rw [pay8_apply, h5]
    · intro r
      simp only [st]
      rw [pay7_apply, pay6_apply, h5, hm, ha, Softmax.ac]
      congr 1
      exact Finset.sum_congr rfl fun k _ => by rw [vW_apply, hs, vK]

/-- After the masked block, the accumulator is that of the running softmax. -/
theorem fin_apply (x2 : Vec Ideal S512x512 .bf16) (x3 : Vec Ideal S8x512x512 .bf16) (x4 : Vec Ideal S8x320x512 .bf16)
    (n : ℕ) (h : Fin 4) (c : Fin 512) (r : Fin 80) :
    fin x2 x3 x4 n h (ix3 0 r c) = Softmax.ac (sK x2 x3 n h c) (vK x4 h r) (n + 1) := by
  obtain ⟨hm, ha⟩ := st_apply x2 x3 x4 n h c n le_rfl
  have hs : ∀ k, k0_pay112 (scoreB x2 x3 n h) (ix2 k c) = sK x2 x3 n h c n k := fun k => by
    rw [pay112_apply, scoreB_apply, sK]; simp
  have h5 : k0_pay114 (scoreB x2 x3 n h) (st x2 x3 x4 h n).1 (ix2 0 c) = Softmax.mx (sK x2 x3 n h c) (n + 1) := by
    rw [pay114_apply, hm, Softmax.mx]; simp only [hs]
  rw [fin, pay115_apply, h5, hm, ha, Softmax.ac]
  congr 1
  exact Finset.sum_congr rfl fun k _ => by rw [vW_apply, hs, vK]

/-- Element `(c, 64h + e)` of the stored block. -/
theorem outB_apply (x2 : Vec Ideal S512x512 .bf16) (x3 : Vec Ideal S8x512x512 .bf16) (x4 : Vec Ideal S8x320x512 .bf16)
    (n : ℕ) (c : Fin 512) (h : Fin 4) (e : Fin 64) :
    outB x2 x3 x4 n (ix2 c ⟨64 * h.val + e.val, by omega⟩)
      = Ideal.div (Softmax.ac (sK x2 x3 n h c) (vK x4 h ⟨e.val, by omega⟩) (n + 1))
          (Softmax.ac (sK x2 x3 n h c) (vK x4 h 64) (n + 1)) := by
  rw [outB, pay1_apply]
  have hf : ∀ h : Fin 4, (![fin x2 x3 x4 n 0, fin x2 x3 x4 n 1, fin x2 x3 x4 n 2, fin x2 x3 x4 n 3] h) = fin x2 x3 x4 n h := by
    intro h; fin_cases h <;> rfl
  rw [hf, fin_apply, fin_apply]

end Cert.ChunkIdeal

end
-- ==== Proof.ChunkRefIdeal.Value.lean ====
/- The result of the chunk-causal attention's reference, read at an index over the extended reals. -/
module

public import proofs.«01_k».proof.Proof.Gen.ChunkRefIdeal.Run
public import proofs.«01_k».proof.Proof.Math.Words

@[expose] public section

set_option maxRecDepth 16384

noncomputable section

namespace Cert.ChunkRefIdeal

open Idealize.ShloMosaic Idealize.ShloMosaic.TcCoe Idealize.SL.Sem Cert.ChunkRefIdeal.Gen

/-- The chunk of each key position, along the second axis. -/
def kpos : IVec S1x4096 32 :=
  select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32))))

/-- The chunk of each query position, along the first axis. -/
def qpos : IVec S4096x1 32 :=
  select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32))))

/-- Where a query may look at a key. -/
def mask : IVec S4096x4096 1 :=
  cmpi .sle (broadcastInDim S4096x4096 ![0, 1] bcast_S1x4096_S4096x4096_0_1 kpos) (broadcastInDim S4096x4096 ![0, 1] bcast_S4096x1_S4096x4096_0_1 qpos)

/-- The logits, minus infinity where the mask forbids. -/
def lg (q k : FVec Ideal S32768x512 .bf16) : FVec Ideal S8x4x4096x4096 .f32 :=
  select (broadcastInDim S8x4x4096x4096 ![2, 3] bcast_S4096x4096_S8x4x4096x4096_2_3 mask) (mulf (Host.dotGeneral dot_S8x4096x4x128_S8x4096x4x128_S8x4x4096x4096_3_3_1_1_02_02 none (shapeCast S8x4096x4x128 (extf .f32 q bitsLt_bf16_f32) shapeCasts_S32768x512_S8x4096x4x128) (shapeCast S8x4096x4x128 (extf .f32 k bitsLt_bf16_f32) shapeCasts_S32768x512_S8x4096x4x128)) (broadcastInDim S8x4x4096x4096 ![] bcast_S_S8x4x4096x4096 (Host.log (constant (F := Ideal) S_ .f32 0x40000000#32)))) (broadcastInDim S8x4x4096x4096 ![] bcast_S_S8x4x4096x4096 (id (constant S_ .f32 0xFF800000#32)))

/-- The largest logit of each row. -/
def rowMax (L : FVec Ideal S8x4x4096x4096 .f32) : FVec Ideal S8x4x4096 .f32 :=
  maximumf (broadcastInDim S8x4x4096 ![] bcast_S_S8x4x4096 (constant S_ .f32 0xFF800000#32)) (Host.reduce FloatOps.maximumf L (constant S_ .f32 0xFF800000#32) reducesTo_S8x4x4096x4096_S8x4x4096_d3 h_S_)

/-- The exponentials of the logits relative to the largest of their row. -/
def expo (L : FVec Ideal S8x4x4096x4096 .f32) : FVec Ideal S8x4x4096x4096 .f32 :=
  Host.exp (subf L (broadcastInDim S8x4x4096x4096 ![0, 1, 2, 3] bcast_S8x4x4096x1_S8x4x4096x4096_0_1_2_3 (broadcastInDim S8x4x4096x1 ![0, 1, 2] bcast_S8x4x4096_S8x4x4096x1_0_1_2 (rowMax L))))

/-- The softmax of each row. -/
def soft (L : FVec Ideal S8x4x4096x4096 .f32) : FVec Ideal S8x4x4096x4096 .f32 :=
  Host.divf (expo L) (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd (expo L) (constant S_ .f32 0x00000000#32) reducesTo_S8x4x4096x4096_S8x4x4096_d3 h_S_)))

/-- The values, position by position. -/
def vals (v : FVec Ideal S64x320x512 .bf16) : FVec Ideal S8x4096x4x64 .f32 :=
  shapeCast S8x4096x4x64 (transpose S8x8x512x4x64 [0, 1, 4, 2, 3] (extractStridedSlice S8x8x4x64x512 ![0, 0, 0, 0, 0] (shapeCast S8x8x4x80x512 (extf .f32 v bitsLt_bf16_f32) shapeCasts_S64x320x512_S8x8x4x80x512) slices_S8x8x4x80x512_S8x8x4x64x512_0_0_0_0_0) transposes_S8x8x4x64x512_S8x8x512x4x64_0_1_4_2_3) shapeCasts_S8x8x512x4x64_S8x4096x4x64

/-- The attention's output from values and weights. -/
def out (v : FVec Ideal S8x4096x4x64 .f32) (w : FVec Ideal S8x4x4096x4096 .f32) : FVec Ideal S32768x256 .bf16 :=
  truncf .bf16 (shapeCast S32768x256 (transpose S8x4096x4x64 [0, 3, 1, 2] (Host.dotGeneral dot_S8x4096x4x64_S8x4x4096x4096_S8x4x64x4096_1_3_3_2_02_01 none v w) transposes_S8x4x64x4096_S8x4096x4x64_0_3_1_2) shapeCasts_S8x4096x4x64_S32768x256) bitsLt_bf16_f32

/-- The reference's result in these terms. -/
theorem res_eq (m : (ℓ : Loc nD τ sig) → Buf (Elt Ideal) ℓ) (c : Dev nD) :
    Value.res_out0 m c = out (vals (m ((c.tc : Thread nD τ).loc main_arg2))) (soft (lg (m ((c.tc : Thread nD τ).loc main_arg0)) (m ((c.tc : Thread nD τ).loc main_arg1)))) := rfl

/-- What the mask compares of a key position. -/
theorem kpos_apply (k : Fin 4096) : kpos (ix2 0 k) = BitVec.ofNat 32 (k.val / 64) := by
  pointwise [kpos]
  exact Words.floor_div k

/-- What the mask compares of a query position. -/
theorem qpos_apply (i : Fin 4096) : qpos (ix2 i 0) = BitVec.ofNat 32 (i.val / 64) := by
  pointwise [qpos]
  exact Words.floor_div i

/-- A logit: the inner product times the logarithm of two, or minus infinity. -/
theorem lg_apply (q k : FVec Ideal S32768x512 .bf16) (b : Fin 8) (h : Fin 4) (i j : Fin 4096) :
    lg q k (ix4 b h i j) = if j.val / 64 ≤ i.val / 64 then
      (∑ d : Fin 128, q (ix2 ⟨b.val * 4096 + i.val, by omega⟩ ⟨h.val * 128 + d.val, by omega⟩)
        * k (ix2 ⟨b.val * 4096 + j.val, by omega⟩ ⟨h.val * 128 + d.val, by omega⟩)) * ((Real.log 2 : ℝ) : EReal) else ⊥ := by
  pointwise [lg, mask]
  rw [kpos_apply, qpos_apply, Words.select_sle (by omega) (by omega), Words.log_two]
  congr 1

/-- The largest logit, as a fold over the row. -/
theorem rowMax_apply (L : FVec Ideal S8x4x4096x4096 .f32) (b : Fin 8) (h : Fin 4) (i : Fin 4096) :
    rowMax L (ix3 b h i) = Finset.univ.fold max ⊥ fun j : Fin 4096 => L (ix4 b h i j) := by
  unfold rowMax
  exact Words.hostMax_last L _ _ _ b h i

/-- An exponential, at an index. -/
theorem expo_apply (L : FVec Ideal S8x4x4096x4096 .f32) (b : Fin 8) (h : Fin 4) (i j : Fin 4096) :
    expo L (ix4 b h i j) = Ideal.exp (L (ix4 b h i j) - rowMax L (ix3 b h i)) := by
  pointwise [expo]

/-- A softmax weight, at an index. -/
theorem soft_apply (L : FVec Ideal S8x4x4096x4096 .f32) (b : Fin 8) (h : Fin 4) (i j : Fin 4096) :
    soft L (ix4 b h i j) = Ideal.div (expo L (ix4 b h i j)) (∑ j : Fin 4096, expo L (ix4 b h i j)) := by
  pointwise [soft]

/-- A value, at an index of the array the reference is given. -/
theorem vals_apply (v : FVec Ideal S64x320x512 .bf16) (b : Fin 8) (i : Fin 4096) (h : Fin 4) (e : Fin 64) :
    vals v (ix4 b i h e)
      = v (ix3 ⟨b.val * 8 + i.val / 512, by omega⟩ ⟨h.val * 80 + e.val, by omega⟩ ⟨i.val % 512, by omega⟩) := by
  pointwise [vals]

/-- An output element is the sum of the values times the weights. -/
theorem out_apply (v : FVec Ideal S8x4096x4x64 .f32) (w : FVec Ideal S8x4x4096x4096 .f32) (b : Fin 8) (i : Fin 4096) (h : Fin 4) (e : Fin 64) :
    out v w (ix2 ⟨4096 * b.val + i.val, by omega⟩ ⟨64 * h.val + e.val, by omega⟩) = ∑ j : Fin 4096, v (ix4 b j h e) * w (ix4 b h i j) := by
  pointwise [out]

end Cert.ChunkRefIdeal

end
-- ==== Proof.Math.Tame.lean ====
/- What the attention's precondition says of the arrays: the queries and keys are finite, and row 64 of each head of the
   values holds ones. -/
module

public import proofs.«01_k».proof.Proof.Gen.Pre_tame
public import proofs.«01_k».proof.Proof.Math.Words
public import Idealize.ShloMosaic.Lib.ReduceAll

@[expose] public section

set_option maxRecDepth 16384

noncomputable section

namespace Cert.Tame

open Idealize.ShloMosaic Cert.Pre_tame

/-- An extended real whose absolute value is below the top is neither the top nor the bottom. -/
theorem finite_of_abs {x : EReal} (h : max x (-x) < ⊤) : x ≠ ⊤ ∧ x ≠ ⊥ := by
  constructor
  · rintro rfl; simp at h
  · rintro rfl; simp at h

/-- The rank-0 shape has one index. -/
instance : Subsingleton S_.Idx := ⟨fun a b => funext fun i => i.elim0⟩

variable [Facts]

/-- An array whose elements all have an absolute value below infinity is finite everywhere. -/
theorem finite_of_all (q : FVec Ideal S32768x512 .bf16) (h : Host.reduce IntOp.andi (cmpf .olt (Host.absf q) (broadcastInDim S32768x512 ![] Facts.bcast_S_S32768x512 (constant S_ .bf16 0x7F80#16))) (constantI S_ 1 1#1) Facts.reducesTo_S32768x512_S_d0_1 Facts.h_S_ ix0 = 1#1)
    (i : S32768x512.Idx) : q i ≠ ⊤ ∧ q i ≠ ⊥ := by
  have h1 := Host.reduce_andi_all _ _ _ _ _ h i
  have h2 : BitVec.ofBool (decide (max (q i) (-(q i)) < Ideal.ofBits .bf16 0x7F80#16)) = 1#1 := h1
  rw [Words.ofBits_inf_bf16] at h2
  apply finite_of_abs
  by_contra hc
  simp [hc] at h2

/-- The precondition, read. -/
theorem tame_facts (q k : FVec Ideal S32768x512 .bf16) (v : FVec Ideal S64x320x512 .bf16) (h : fn q k v = fun _ => 1#1) :
    (∀ i, q i ≠ ⊤ ∧ q i ≠ ⊥) ∧ (∀ i, k i ≠ ⊤ ∧ k i ≠ ⊥)
      ∧ ∀ (p : Fin 64) (g : Fin 4) (j : Fin 512), v (ix3 p ⟨g.val * 80 + 64, by omega⟩ j) = 1 := by
  have h0 := congrFun h ix0
  obtain ⟨h1, h2⟩ := IntOp.andi_eq_one.mp h0
  obtain ⟨h3, h4⟩ := IntOp.andi_eq_one.mp h1
  refine ⟨finite_of_all q h3, finite_of_all k h4, fun p g j => ?_⟩
  have h5 := Host.reduce_andi_all _ _ _ _ _ h2 (ix3 p g j)
  have h6 : (cmpf .oeq (shapeCast S64x4x512 (extractStridedSlice S64x4x1x512 ![0, 0, 64, 0] (shapeCast S64x4x80x512 v Facts.shapeCasts_S64x320x512_S64x4x80x512) Facts.slices_S64x4x80x512_S64x4x1x512_0_0_64_0) Facts.shapeCasts_S64x4x1x512_S64x4x512)
    (broadcastInDim S64x4x512 ![] Facts.bcast_S_S64x4x512 (constant S_ .bf16 0x3F80#16))) (ix3 p g j) = 1#1 := h5
  revert h6
  pointwise
  intro h7
  by_contra hc
  simp [hc] at h7

end Cert.Tame

end
-- ==== Proof.ChunkIdeal.Tie.lean ====
/- The chunk-causal flash kernel's result is the reference's: block by block the stored block is the reference's softmax
   attention over all keys, and the blocks tile the result array. -/
module

public import proofs.«01_k».proof.Proof.ChunkIdeal.Run
public import proofs.«01_k».proof.Proof.ChunkIdeal.Value
public import proofs.«01_k».proof.Proof.ChunkRefIdeal.Value
public import proofs.«01_k».proof.Proof.Math.Tame
public import Idealize.ShloMosaic.Lib.Pipeline.ValueKit

@[expose] public section

set_option maxRecDepth 16384

noncomputable section

namespace Cert.ChunkIdeal

open Idealize.ShloMosaic Idealize.ShloMosaic.TcCoe Idealize.SL.Sem Cert.ChunkIdeal.Gen

/-- The reference's result as a function of the three arrays. -/
abbrev refOut (q k : FVec Ideal S32768x512 .bf16) (v : FVec Ideal S64x320x512 .bf16) : FVec Ideal S32768x256 .bf16 :=
  ChunkRefIdeal.out (ChunkRefIdeal.vals v) (ChunkRefIdeal.soft (ChunkRefIdeal.lg q k))

/-- The reference at row `4096 b + 512 n + c`, as a sum over all keys. -/
theorem refOut_apply (q k : FVec Ideal S32768x512 .bf16) (v : FVec Ideal S64x320x512 .bf16) (b n : Fin 8) (c : Fin 512) (h : Fin 4) (e : Fin 64) :
    refOut q k v (ix2 ⟨(8 * b.val + n.val) * 512 + c.val, by omega⟩ ⟨64 * h.val + e.val, by omega⟩)
      = ∑ j : Fin 4096, ChunkRefIdeal.vals v (ix4 b j h e) *
          Ideal.div (Ideal.exp (ChunkRefIdeal.lg q k (ix4 b h ⟨512 * n.val + c.val, by omega⟩ j)
              - Finset.univ.fold max ⊥ fun j : Fin 4096 => ChunkRefIdeal.lg q k (ix4 b h ⟨512 * n.val + c.val, by omega⟩ j)))
            (∑ i : Fin 4096, Ideal.exp (ChunkRefIdeal.lg q k (ix4 b h ⟨512 * n.val + c.val, by omega⟩ i)
              - Finset.univ.fold max ⊥ fun j : Fin 4096 => ChunkRefIdeal.lg q k (ix4 b h ⟨512 * n.val + c.val, by omega⟩ j))) := by
  have hi : (⟨(8 * b.val + n.val) * 512 + c.val, by omega⟩ : Fin 32768) = ⟨4096 * b.val + (⟨512 * n.val + c.val, by omega⟩ : Fin 4096).val, by simp only []; omega⟩ :=
    Fin.ext (by simp only []; omega)
  rw [hi, refOut, ChunkRefIdeal.out_apply]
  simp only [ChunkRefIdeal.soft_apply, ChunkRefIdeal.expo_apply, ChunkRefIdeal.rowMax_apply]

/-- The block the kernel stores is the reference's, from blocks of the arrays. -/
theorem block_eq (q k : FVec Ideal S32768x512 .bf16) (v : FVec Ideal S64x320x512 .bf16)
    (hq : ∀ i, q i ≠ ⊤ ∧ q i ≠ ⊥) (hk : ∀ i, k i ≠ ⊤ ∧ k i ≠ ⊥)
    (hv : ∀ (p : Fin 64) (g : Fin 4) (j : Fin 512), v (ix3 p ⟨g.val * 80 + 64, by omega⟩ j) = 1) (b n : Fin 8)
    (x2 : Vec Ideal S512x512 .bf16) (x3 : Vec Ideal S8x512x512 .bf16) (x4 : Vec Ideal S8x320x512 .bf16)
    (h2 : ∀ r x, x2 (ix2 r x) = q (ix2 ⟨(8 * b.val + n.val) * 512 + r.val, by omega⟩ x))
    (h3 : ∀ j r x, x3 (ix3 j r x) = k (ix2 ⟨(8 * b.val + j.val) * 512 + r.val, by omega⟩ x))
    (h4 : ∀ j r x, x4 (ix3 j r x) = v (ix3 ⟨8 * b.val + j.val, by omega⟩ r x)) (c : Fin 512) (h : Fin 4) (e : Fin 64) :
    outB x2 x3 x4 n.val (ix2 c ⟨64 * h.val + e.val, by omega⟩)
      = refOut q k v (ix2 ⟨(8 * b.val + n.val) * 512 + c.val, by omega⟩ ⟨64 * h.val + e.val, by omega⟩) := by
  have hn := n.isLt
  have hc := c.isLt
  have hones : vK x4 h 64 = fun _ _ => 1 := by
    funext j r
    rw [vK, h4, ← hv ⟨8 * b.val + j % 8, by omega⟩ h r]
    congr 2
    exact Fin.ext (by simp only []; show 80 * h.val + 64 = _; omega)
  have hsc : ∀ j r, sc x2 x3 h c j r ≠ ⊤ ∧ sc x2 x3 h c j r ≠ ⊥ := fun j r => by
    apply Softmax.sum_mul_real
    · intro d; rw [h3]; exact hk _
    · intro d; rw [h2]; exact hq _
  rw [outB_apply, hones, refOut_apply]
  rw [Softmax.softmax_eq (n := n.val) (sK x2 x3 n.val h c) (vK x4 h ⟨e.val, by omega⟩) hn
    (fun j r => by
      unfold sK
      split
      · exact (hsc j r).1
      · exact bot_ne_top)
    (fun j hj r => by rw [sK, if_neg (by omega)])
    ⟨c, by rw [sK, if_pos (Or.inr ⟨rfl, le_rfl⟩)]; exact (hsc _ _).2⟩
    (fun j => ChunkRefIdeal.lg q k (ix4 b h ⟨512 * n.val + c.val, by omega⟩ j))
    (fun j => by
      have hj := j.isLt
      rw [ChunkRefIdeal.lg_apply, sK]
      by_cases hm : j.val / 64 ≤ (512 * n.val + c.val) / 64
      · rw [if_pos hm, if_pos (show j.val / 512 < n.val ∨ j.val / 512 = n.val ∧ j.val % 512 / 64 ≤ c.val / 64 by omega), sc]
        congr 1
        refine Finset.sum_congr rfl fun d _ => ?_
        rw [h3, h2, mul_comm]
        congr 3
        · exact Fin.ext (by simp only []; omega)
        · exact Fin.ext (by simp only []; omega)
        · exact Fin.ext (by simp only []; omega)
        · exact Fin.ext (by simp only []; omega)
      · rw [if_neg hm, if_neg (show ¬(j.val / 512 < n.val ∨ j.val / 512 = n.val ∧ j.val % 512 / 64 ≤ c.val / 64) by omega), EReal.bot_mul_coe_of_pos (Real.log_pos one_lt_two)])]
  refine Finset.sum_congr rfl fun j _ => ?_
  have hj := j.isLt
  congr 1
  rw [ChunkRefIdeal.vals_apply, vK, h4]
  congr 2
  · exact Fin.ext (by simp only []; omega)
  · exact Fin.ext (by simp only []; omega)

variable (m : (ℓ : Loc nD τ sig) → Buf (Elt Ideal) ℓ)

/-- Which block of each array a grid step takes. -/
theorem idx (t : Fin cfg0.N) : win0_0.index t = ![8 * (grid0.coords t 0).val + (grid0.coords t 1).val, 0]
    ∧ win0_1.index t = ![(grid0.coords t 0).val, 0, 0] ∧ win0_2.index t = ![(grid0.coords t 0).val, 0, 0]
    ∧ win0_3.index t = ![8 * (grid0.coords t 0).val + (grid0.coords t 1).val, 0] :=
  (by decide +kernel : ∀ t : Fin grid0.N, win0_0.index t = ![8 * (grid0.coords t 0).val + (grid0.coords t 1).val, 0]
    ∧ win0_1.index t = ![(grid0.coords t 0).val, 0, 0] ∧ win0_2.index t = ![(grid0.coords t 0).val, 0, 0]
    ∧ win0_3.index t = ![8 * (grid0.coords t 0).val + (grid0.coords t 1).val, 0]) t

/-- The queries a grid step sees. -/
theorem iblk0 (c : Dev nD) (t : Fin cfg0.N) (r x : Fin 512) (b n : Fin 8) (hb : (grid0.coords t 0).val = b.val) (hn : (grid0.coords t 1).val = n.val) :
    iblk m c 0 t (ix2 r x) = (m ((c.tc : Thread nD τ).loc main_arg0)) (ix2 ⟨(8 * b.val + n.val) * 512 + r.val, by omega⟩ x) := by
  obtain ⟨e0, e1, e2, e3⟩ := idx t
  rw [hb, hn] at e0
  blk_ext [iblk, V, e0]

/-- The keys a grid step sees. -/
theorem iblk1 (c : Dev nD) (t : Fin cfg0.N) (j : Fin 8) (r x : Fin 512) (b : Fin 8) (hb : (grid0.coords t 0).val = b.val) :
    iblk m c 1 t (ix3 j r x) = (m ((c.tc : Thread nD τ).loc main_arg1)) (ix2 ⟨(8 * b.val + j.val) * 512 + r.val, by omega⟩ x) := by
  obtain ⟨e0, e1, e2, e3⟩ := idx t
  rw [hb] at e1
  have he : (win0_1.blk t).view.emb (ix3 j r x) = ix3 ⟨8 * b.val + j.val, by omega⟩ r x := by
    blk_ext [e1]
  show V m c main_v0 ((win0_1.blk t).view.emb (ix3 j r x)) = _
  rw [he]
  entry_read
  pointwise

/-- The values a grid step sees. -/
theorem iblk2 (c : Dev nD) (t : Fin cfg0.N) (j : Fin 8) (r : Fin 320) (x : Fin 512) (b : Fin 8) (hb : (grid0.coords t 0).val = b.val) :
    iblk m c 2 t (ix3 j r x) = (m ((c.tc : Thread nD τ).loc main_arg2)) (ix3 ⟨8 * b.val + j.val, by omega⟩ r x) := by
  obtain ⟨e0, e1, e2, e3⟩ := idx t
  rw [hb] at e2
  blk_ext [iblk, V, e2]

/-- A column of the result is a lane of one of the four heads. -/
theorem head_lane (y : Fin 256) :
    ∃ (h : Fin 4) (e : Fin 64), y = ⟨64 * h.val + e.val, by omega⟩ :=
  ⟨⟨y.val / 64, by omega⟩, ⟨y.val % 64, by omega⟩, Fin.ext (by dsimp only; omega)⟩

/-- The result array after the run is the reference's. -/
theorem final_eq (c : Dev nD) (q k : FVec Ideal S32768x512 .bf16) (v : FVec Ideal S64x320x512 .bf16)
    (h0 : m ((c.tc : Thread nD τ).loc main_arg0) = q) (h1 : m ((c.tc : Thread nD τ).loc main_arg1) = k)
    (h2 : m ((c.tc : Thread nD τ).loc main_arg2) = v)
    (hq : ∀ i, q i ≠ ⊤ ∧ q i ≠ ⊥) (hk : ∀ i, k i ≠ ⊤ ∧ k i ≠ ⊥)
    (hv : ∀ (p : Fin 64) (g : Fin 4) (j : Fin 512), v (ix3 p ⟨g.val * 80 + 64, by omega⟩ j) = 1) :
    (dats m 0 c).arrAt 3 cfg0.N = refOut q k v := by
  refine (dats m 0 c).arrAt_eq_of_covers 3 _ (by decide +kernel) fun t hf y => ?_
  blk_simp
  rw [after3, outAt]
  obtain ⟨e0, e1, e2, e3⟩ := idx t
  obtain ⟨b, hb⟩ : ∃ b : Fin 8, (grid0.coords t 0).val = b.val := ⟨grid0.coords t 0, rfl⟩
  obtain ⟨n, hn⟩ : ∃ n : Fin 8, (grid0.coords t 1).val = n.val := ⟨grid0.coords t 1, rfl⟩
  rw [hb, hn] at e3
  rw [hn]
  idx_vars y
  obtain ⟨h, e, rfl⟩ := head_lane y1
  have he : ((View.whole main_v1).slice (win0_3.rect t)).emb (ix2 y0 ⟨64 * h.val + e.val, by omega⟩)
      = ix2 ⟨(8 * b.val + n.val) * 512 + y0.val, by omega⟩ ⟨64 * h.val + e.val, by omega⟩ := by
    blk_ext [e3]
  rw [he]
  exact block_eq q k v hq hk hv b n _ _ _
    (fun r x => by rw [iblk0 m c t r x b n hb hn, h0]) (fun j r x => by rw [iblk1 m c t j r x b hb, h1])
    (fun j r x => by rw [iblk2 m c t j r x b hb, h2]) y0 h e

end Cert.ChunkIdeal

end
-- ==== Proof.CausalIdeal.Value.lean ====
/- The block the causal flash kernel stores, read at an index over the extended reals: each element is the
   running softmax of `Cert.Softmax` over the key blocks, divided by its row of sums. -/
module

public import proofs.«01_k».proof.Proof.CausalIdeal.State
public import proofs.«01_k».proof.Proof.Math.Softmax
public import proofs.«01_k».proof.Proof.Math.Words

@[expose] public section

set_option maxRecDepth 16384

noncomputable section

namespace Cert.CausalIdeal

open Idealize.ShloMosaic Idealize.SL.Sem Cert.CausalIdeal.Gen

/-- The queries of a head, at an index. -/
theorem qW_apply (x : Vec Ideal S512x512 .bf16) (h : Fin 4) (c : Fin 512) (d : Fin 128) :
    qW x h (ix2 c d) = x (ix2 c ⟨128 * h.val + d.val, by omega⟩) := by
  pointwise [qW]

/-- The keys of a block and a head, at an index. -/
theorem kW_apply (x : Vec Ideal S8x512x512 .bf16) (n : ℕ) (h : Fin 4) (k : Fin 512) (d : Fin 128) :
    kW x n h (ix3 0 k d) = x (ix3 ⟨n % 8, by omega⟩ k ⟨128 * h.val + d.val, by omega⟩) := by
  pointwise [kW]

/-- The values of a block and a head, at an index. -/
theorem vW_apply (x : Vec Ideal S8x320x512 .bf16) (n : ℕ) (h : Fin 4) (r : Fin 80) (k : Fin 512) :
    vW x n h (ix3 0 r k) = x (ix3 ⟨n % 8, by omega⟩ ⟨80 * h.val + r.val, by omega⟩ k) := by
  pointwise [vW]

/-- A block of scores is the inner products of keys and queries. -/
theorem pay2_apply (a : Vec Ideal S1x512x128 .bf16) (b : Vec Ideal S512x128 .bf16) (k c : Fin 512) :
    k0_pay2 a b (ix4 0 0 k c) = ∑ d : Fin 128, a (ix3 0 k d) * b (ix2 c d) := by
  pointwise [k0_pay2]

/-- The new maximum is the larger of the old one and the largest score. -/
theorem pay5_apply (s : Vec Ideal S1x1x512x512 .f32) (m : Vec Ideal S1x1x512 .f32) (c : Fin 512) :
    k0_pay5 s m (ix2 0 c) = max (m (ix3 0 0 c)) (Finset.univ.fold max ⊥ fun k : Fin 512 => s (ix4 0 0 k c)) := by
  pointwise [k0_pay5, k0_pay3, k0_pay4]
  rw [Words.ofBits_neg_inf]

/-- The accumulator as stored, at an index. -/
theorem pay7_apply (a : FVec Ideal S80x512 .f32) (r : Fin 80) (c : Fin 512) :
    k0_pay7 a (ix3 0 r c) = a (ix2 r c) := by
  pointwise [k0_pay7]

/-- The maxima as stored, at an index. -/
theorem pay8_apply (a : FVec Ideal S1x512 .f32) (c : Fin 512) :
    k0_pay8 a (ix3 0 0 c) = a (ix2 0 c) := by
  pointwise [k0_pay8]

/-- The new accumulator is the old one rescaled, and the values weighed by the exponentials. -/
theorem pay6_apply (s : Vec Ideal S1x1x512x512 .f32) (m : Vec Ideal S1x1x512 .f32) (v : Vec Ideal S1x80x512 .bf16)
    (a : Vec Ideal S1x80x512 .f32) (r : Fin 80) (c : Fin 512) :
    k0_pay6 s m v a (ix2 r c) = Ideal.exp2 (m (ix3 0 0 c) - k0_pay5 s m (ix2 0 c)) * a (ix3 0 r c)
      + ∑ k : Fin 512, v (ix3 0 r k) * Ideal.exp2 (s (ix4 0 0 k c) - k0_pay5 s m (ix2 0 c)) := by
  pointwise [k0_pay6, k0_pay3, k0_pay4]
  rfl

/-- The new maximum after the masked block. -/
theorem pay114_apply (s : Vec Ideal S1x1x512x512 .f32) (m : Vec Ideal S1x1x512 .f32) (c : Fin 512) :
    k0_pay114 s m (ix2 0 c) = max (m (ix3 0 0 c)) (Finset.univ.fold max ⊥ fun k : Fin 512 => k0_pay112 s (ix2 k c)) := by
  pointwise [k0_pay114, k0_pay113]
  rw [Words.ofBits_neg_inf]

/-- The new accumulator after the masked block. -/
theorem pay115_apply (s : Vec Ideal S1x1x512x512 .f32) (m : Vec Ideal S1x1x512 .f32) (v : Vec Ideal S1x80x512 .bf16)
    (a : Vec Ideal S1x80x512 .f32) (r : Fin 80) (c : Fin 512) :
    k0_pay115 s m v a (ix3 0 r c) = Ideal.exp2 (m (ix3 0 0 c) - k0_pay114 s m (ix2 0 c)) * a (ix3 0 r c)
      + ∑ k : Fin 512, v (ix3 0 r k) * Ideal.exp2 (k0_pay112 s (ix2 k c) - k0_pay114 s m (ix2 0 c)) := by
  pointwise [k0_pay115, k0_pay113]
  rfl

/-- The masked scores: minus infinity where the query may not look. -/
theorem pay112_apply (s : Vec Ideal S1x1x512x512 .f32) (k c : Fin 512) :
    k0_pay112 s (ix2 k c) = if k.val ≤ c.val then s (ix4 0 0 k c) else ⊥ := by
  pointwise [k0_pay112]
  rw [Words.select_sle (by omega) (by omega), Words.ofBits_neg_inf]

/-- The stored block: the accumulator divided by its row of sums, head by head. -/
theorem pay1_apply (a0 a1 a2 a3 : Vec Ideal S1x80x512 .f32) (c : Fin 512) (h : Fin 4) (e : Fin 64) :
    k0_pay1 (k0_pay195 a0) a0 a1 a1 a2 a2 a3 a3 (ix2 c ⟨64 * h.val + e.val, by omega⟩)
      = Ideal.div ((![a0, a1, a2, a3] h) (ix3 0 ⟨e.val, by omega⟩ c)) ((![a0, a1, a2, a3] h) (ix3 0 64 c)) := by
  pointwise [k0_pay1, k0_pay195]
  have he := e.isLt
  fin_cases h
  · simp
  · simp
  · simp
    rw [dif_neg (by omega), dif_neg (by omega), dif_pos (by omega)]
    simp only [show 128 + e.val - 64 - 64 = e.val by omega]
  · simp
    rw [dif_neg (by omega), dif_neg (by omega), dif_neg (by omega)]
    simp only [show 192 + e.val - 64 - 64 - 64 = e.val by omega]

/-- The score of key `k` of key block `j` against query `c`, head `h`. -/
def sc (x2 : Vec Ideal S512x512 .bf16) (x3 : Vec Ideal S8x512x512 .bf16) (h : Fin 4) (c : Fin 512) (j : ℕ) (k : Fin 512) : EReal :=
  ∑ d : Fin 128, x3 (ix3 ⟨j % 8, by omega⟩ k ⟨128 * h.val + d.val, by omega⟩) * x2 (ix2 c ⟨128 * h.val + d.val, by omega⟩)

/-- The score where the query may look, minus infinity elsewhere: every key of the blocks before `n`, the keys of
    block `n` that the mask allows, none after. -/
def sK (x2 : Vec Ideal S512x512 .bf16) (x3 : Vec Ideal S8x512x512 .bf16) (n : ℕ) (h : Fin 4) (c : Fin 512) (j : ℕ) (k : Fin 512) : EReal :=
  if j < n ∨ j = n ∧ k.val ≤ c.val then sc x2 x3 h c j k else ⊥

/-- Row `r` of head `h` of the values of key block `j`, at key `k`. -/
def vK (x4 : Vec Ideal S8x320x512 .bf16) (h : Fin 4) (r : Fin 80) (j : ℕ) (k : Fin 512) : EReal :=
  x4 (ix3 ⟨j % 8, by omega⟩ ⟨80 * h.val + r.val, by omega⟩ k)

/-- A block of scores, at an index, is `sc`. -/
theorem scoreB_apply (x2 : Vec Ideal S512x512 .bf16) (x3 : Vec Ideal S8x512x512 .bf16) (j : ℕ) (h : Fin 4) (k c : Fin 512) :
    scoreB x2 x3 j h (ix4 0 0 k c) = sc x2 x3 h c j k := by
  rw [scoreB, pay2_apply, sc]
  exact Finset.sum_congr rfl fun d _ => by rw [kW_apply, qW_apply]

/-- Before the masked block, the maxima and the accumulator are those of the running softmax. -/
theorem st_apply (x2 : Vec Ideal S512x512 .bf16) (x3 : Vec Ideal S8x512x512 .bf16) (x4 : Vec Ideal S8x320x512 .bf16)
    (n : ℕ) (h : Fin 4) (c : Fin 512) (j : ℕ) (hj : j ≤ n) :
    (st x2 x3 x4 h j).1 (ix3 0 0 c) = Softmax.mx (sK x2 x3 n h c) j
      ∧ ∀ r, (st x2 x3 x4 h j).2 (ix3 0 r c) = Softmax.ac (sK x2 x3 n h c) (vK x4 h r) j := by
  induction j with
  | zero => exact ⟨Words.ofBits_neg_inf, fun r => Ideal.ofBits_zero_f32⟩
  | succ j ih =>
    obtain ⟨hm, ha⟩ := ih (by omega)
    have hs : ∀ k, scoreB x2 x3 j h (ix4 0 0 k c) = sK x2 x3 n h c j k := fun k => by
      rw [scoreB_apply, sK, if_pos (Or.inl (by omega))]
    have h5 : k0_pay5 (scoreB x2 x3 j h) (st x2 x3 x4 h j).1 (ix2 0 c) = Softmax.mx (sK x2 x3 n h c) (j + 1) := by
      rw [pay5_apply, hm, Softmax.mx]; simp only [hs]
    constructor
    · simp only [st]
      rw [pay8_apply, h5]
    · intro r
      simp only [st]
      rw [pay7_apply, pay6_apply, h5, hm, ha, Softmax.ac]
      congr 1
      exact Finset.sum_congr rfl fun k _ => by rw [vW_apply, hs, vK]

/-- After the masked block, the accumulator is that of the running softmax. -/
theorem fin_apply (x2 : Vec Ideal S512x512 .bf16) (x3 : Vec Ideal S8x512x512 .bf16) (x4 : Vec Ideal S8x320x512 .bf16)
    (n : ℕ) (h : Fin 4) (c : Fin 512) (r : Fin 80) :
    fin x2 x3 x4 n h (ix3 0 r c) = Softmax.ac (sK x2 x3 n h c) (vK x4 h r) (n + 1) := by
  obtain ⟨hm, ha⟩ := st_apply x2 x3 x4 n h c n le_rfl
  have hs : ∀ k, k0_pay112 (scoreB x2 x3 n h) (ix2 k c) = sK x2 x3 n h c n k := fun k => by
    rw [pay112_apply, scoreB_apply, sK]; simp
  have h5 : k0_pay114 (scoreB x2 x3 n h) (st x2 x3 x4 h n).1 (ix2 0 c) = Softmax.mx (sK x2 x3 n h c) (n + 1) := by
    rw [pay114_apply, hm, Softmax.mx]; simp only [hs]
  rw [fin, pay115_apply, h5, hm, ha, Softmax.ac]
  congr 1
  exact Finset.sum_congr rfl fun k _ => by rw [vW_apply, hs, vK]

/-- Element `(c, 64h + e)` of the stored block. -/
theorem outB_apply (x2 : Vec Ideal S512x512 .bf16) (x3 : Vec Ideal S8x512x512 .bf16) (x4 : Vec Ideal S8x320x512 .bf16)
    (n : ℕ) (c : Fin 512) (h : Fin 4) (e : Fin 64) :
    outB x2 x3 x4 n (ix2 c ⟨64 * h.val + e.val, by omega⟩)
      = Ideal.div (Softmax.ac (sK x2 x3 n h c) (vK x4 h ⟨e.val, by omega⟩) (n + 1))
          (Softmax.ac (sK x2 x3 n h c) (vK x4 h 64) (n + 1)) := by
  rw [outB, pay1_apply]
  have hf : ∀ h : Fin 4, (![fin x2 x3 x4 n 0, fin x2 x3 x4 n 1, fin x2 x3 x4 n 2, fin x2 x3 x4 n 3] h) = fin x2 x3 x4 n h := by
    intro h; fin_cases h <;> rfl
  rw [hf, fin_apply, fin_apply]

end Cert.CausalIdeal

end
-- ==== Proof.CausalRefIdeal.Value.lean ====
/- The result of the causal attention's reference, read at an index over the extended reals. -/
module

public import proofs.«01_k».proof.Proof.Gen.CausalRefIdeal.Run
public import proofs.«01_k».proof.Proof.Math.Words

@[expose] public section

set_option maxRecDepth 16384

noncomputable section

namespace Cert.CausalRefIdeal

open Idealize.ShloMosaic Idealize.ShloMosaic.TcCoe Idealize.SL.Sem Cert.CausalRefIdeal.Gen

/-- Each key position, along the second axis. -/
def kpos : IVec S1x4096 32 := broadcastInDim S1x4096 ![1] bcast_S4096_S1x4096_1 (iotaInDim S4096 32 0)

/-- Each query position, along the first axis. -/
def qpos : IVec S4096x1 32 := broadcastInDim S4096x1 ![0] bcast_S4096_S4096x1_0 (iotaInDim S4096 32 0)

/-- Where a query may look at a key. -/
def mask : IVec S4096x4096 1 :=
  cmpi .sle (broadcastInDim S4096x4096 ![0, 1] bcast_S1x4096_S4096x4096_0_1 kpos) (broadcastInDim S4096x4096 ![0, 1] bcast_S4096x1_S4096x4096_0_1 qpos)

/-- The logits, minus infinity where the mask forbids. -/
def lg (q k : FVec Ideal S32768x512 .bf16) : FVec Ideal S8x4x4096x4096 .f32 :=
  select (broadcastInDim S8x4x4096x4096 ![2, 3] bcast_S4096x4096_S8x4x4096x4096_2_3 mask) (mulf (Host.dotGeneral dot_S8x4096x4x128_S8x4096x4x128_S8x4x4096x4096_3_3_1_1_02_02 none (shapeCast S8x4096x4x128 (extf .f32 q bitsLt_bf16_f32) shapeCasts_S32768x512_S8x4096x4x128) (shapeCast S8x4096x4x128 (extf .f32 k bitsLt_bf16_f32) shapeCasts_S32768x512_S8x4096x4x128)) (broadcastInDim S8x4x4096x4096 ![] bcast_S_S8x4x4096x4096 (Host.log (constant (F := Ideal) S_ .f32 0x40000000#32)))) (broadcastInDim S8x4x4096x4096 ![] bcast_S_S8x4x4096x4096 (id (constant S_ .f32 0xFF800000#32)))

/-- The largest logit of each row. -/
def rowMax (L : FVec Ideal S8x4x4096x4096 .f32) : FVec Ideal S8x4x4096 .f32 :=
  maximumf (broadcastInDim S8x4x4096 ![] bcast_S_S8x4x4096 (constant S_ .f32 0xFF800000#32)) (Host.reduce FloatOps.maximumf L (constant S_ .f32 0xFF800000#32) reducesTo_S8x4x4096x4096_S8x4x4096_d3 h_S_)

/-- The exponentials of the logits relative to the largest of their row. -/
def expo (L : FVec Ideal S8x4x4096x4096 .f32) : FVec Ideal S8x4x4096x4096 .f32 :=
  Host.exp (subf L (broadcastInDim S8x4x4096x4096 ![0, 1, 2, 3] bcast_S8x4x4096x1_S8x4x4096x4096_0_1_2_3 (broadcastInDim S8x4x4096x1 ![0, 1, 2] bcast_S8x4x4096_S8x4x4096x1_0_1_2 (rowMax L))))

/-- The softmax of each row. -/
def soft (L : FVec Ideal S8x4x4096x4096 .f32) : FVec Ideal S8x4x4096x4096 .f32 :=
  Host.divf (expo L) (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd (expo L) (constant S_ .f32 0x00000000#32) reducesTo_S8x4x4096x4096_S8x4x4096_d3 h_S_)))

/-- The values, position by position. -/
def vals (v : FVec Ideal S64x320x512 .bf16) : FVec Ideal S8x4096x4x64 .f32 :=
  shapeCast S8x4096x4x64 (transpose S8x8x512x4x64 [0, 1, 4, 2, 3] (extractStridedSlice S8x8x4x64x512 ![0, 0, 0, 0, 0] (shapeCast S8x8x4x80x512 (extf .f32 v bitsLt_bf16_f32) shapeCasts_S64x320x512_S8x8x4x80x512) slices_S8x8x4x80x512_S8x8x4x64x512_0_0_0_0_0) transposes_S8x8x4x64x512_S8x8x512x4x64_0_1_4_2_3) shapeCasts_S8x8x512x4x64_S8x4096x4x64

/-- The attention's output from values and weights. -/
def out (v : FVec Ideal S8x4096x4x64 .f32) (w : FVec Ideal S8x4x4096x4096 .f32) : FVec Ideal S32768x256 .bf16 :=
  truncf .bf16 (shapeCast S32768x256 (transpose S8x4096x4x64 [0, 3, 1, 2] (Host.dotGeneral dot_S8x4096x4x64_S8x4x4096x4096_S8x4x64x4096_1_3_3_2_02_01 none v w) transposes_S8x4x64x4096_S8x4096x4x64_0_3_1_2) shapeCasts_S8x4096x4x64_S32768x256) bitsLt_bf16_f32

/-- The reference's result in these terms. -/
theorem res_eq (m : (ℓ : Loc nD τ sig) → Buf (Elt Ideal) ℓ) (c : Dev nD) :
    Value.res_out0 m c = out (vals (m ((c.tc : Thread nD τ).loc main_arg2))) (soft (lg (m ((c.tc : Thread nD τ).loc main_arg0)) (m ((c.tc : Thread nD τ).loc main_arg1)))) := rfl

/-- What the mask compares of a key position. -/
theorem kpos_apply (k : Fin 4096) : kpos (ix2 0 k) = BitVec.ofNat 32 k.val := by
  pointwise [kpos]

/-- What the mask compares of a query position. -/
theorem qpos_apply (i : Fin 4096) : qpos (ix2 i 0) = BitVec.ofNat 32 i.val := by
  pointwise [qpos]

/-- A logit: the inner product times the logarithm of two, or minus infinity. -/
theorem lg_apply (q k : FVec Ideal S32768x512 .bf16) (b : Fin 8) (h : Fin 4) (i j : Fin 4096) :
    lg q k (ix4 b h i j) = if j.val ≤ i.val then
      (∑ d : Fin 128, q (ix2 ⟨b.val * 4096 + i.val, by omega⟩ ⟨h.val * 128 + d.val, by omega⟩)
        * k (ix2 ⟨b.val * 4096 + j.val, by omega⟩ ⟨h.val * 128 + d.val, by omega⟩)) * ((Real.log 2 : ℝ) : EReal) else ⊥ := by
  pointwise [lg, mask]
  rw [kpos_apply, qpos_apply, Words.select_sle (by omega) (by omega), Words.log_two]
  congr 1

/-- The largest logit, as a fold over the row. -/
theorem rowMax_apply (L : FVec Ideal S8x4x4096x4096 .f32) (b : Fin 8) (h : Fin 4) (i : Fin 4096) :
    rowMax L (ix3 b h i) = Finset.univ.fold max ⊥ fun j : Fin 4096 => L (ix4 b h i j) := by
  unfold rowMax
  exact Words.hostMax_last L _ _ _ b h i

/-- An exponential, at an index. -/
theorem expo_apply (L : FVec Ideal S8x4x4096x4096 .f32) (b : Fin 8) (h : Fin 4) (i j : Fin 4096) :
    expo L (ix4 b h i j) = Ideal.exp (L (ix4 b h i j) - rowMax L (ix3 b h i)) := by
  pointwise [expo]

/-- A softmax weight, at an index. -/
theorem soft_apply (L : FVec Ideal S8x4x4096x4096 .f32) (b : Fin 8) (h : Fin 4) (i j : Fin 4096) :
    soft L (ix4 b h i j) = Ideal.div (expo L (ix4 b h i j)) (∑ j : Fin 4096, expo L (ix4 b h i j)) := by
  pointwise [soft]

/-- A value, at an index of the array the reference is given. -/
theorem vals_apply (v : FVec Ideal S64x320x512 .bf16) (b : Fin 8) (i : Fin 4096) (h : Fin 4) (e : Fin 64) :
    vals v (ix4 b i h e)
      = v (ix3 ⟨b.val * 8 + i.val / 512, by omega⟩ ⟨h.val * 80 + e.val, by omega⟩ ⟨i.val % 512, by omega⟩) := by
  pointwise [vals]

/-- An output element is the sum of the values times the weights. -/
theorem out_apply (v : FVec Ideal S8x4096x4x64 .f32) (w : FVec Ideal S8x4x4096x4096 .f32) (b : Fin 8) (i : Fin 4096) (h : Fin 4) (e : Fin 64) :
    out v w (ix2 ⟨4096 * b.val + i.val, by omega⟩ ⟨64 * h.val + e.val, by omega⟩) = ∑ j : Fin 4096, v (ix4 b j h e) * w (ix4 b h i j) := by
  pointwise [out]

end Cert.CausalRefIdeal

end
-- ==== Proof.CausalIdeal.Tie.lean ====
/- The causal flash kernel's result is the reference's: block by block the stored block is the reference's softmax
   attention over all keys, and the blocks tile the result array. -/
module

public import proofs.«01_k».proof.Proof.CausalIdeal.Run
public import proofs.«01_k».proof.Proof.CausalIdeal.Value
public import proofs.«01_k».proof.Proof.CausalRefIdeal.Value
public import proofs.«01_k».proof.Proof.Math.Tame
public import Idealize.ShloMosaic.Lib.Pipeline.ValueKit

@[expose] public section

set_option maxRecDepth 16384

noncomputable section

namespace Cert.CausalIdeal

open Idealize.ShloMosaic Idealize.ShloMosaic.TcCoe Idealize.SL.Sem Cert.CausalIdeal.Gen

/-- The reference's result as a function of the three arrays. -/
abbrev refOut (q k : FVec Ideal S32768x512 .bf16) (v : FVec Ideal S64x320x512 .bf16) : FVec Ideal S32768x256 .bf16 :=
  CausalRefIdeal.out (CausalRefIdeal.vals v) (CausalRefIdeal.soft (CausalRefIdeal.lg q k))

/-- The reference at row `4096 b + 512 n + c`, as a sum over all keys. -/
theorem refOut_apply (q k : FVec Ideal S32768x512 .bf16) (v : FVec Ideal S64x320x512 .bf16) (b n : Fin 8) (c : Fin 512) (h : Fin 4) (e : Fin 64) :
    refOut q k v (ix2 ⟨(8 * b.val + n.val) * 512 + c.val, by omega⟩ ⟨64 * h.val + e.val, by omega⟩)
      = ∑ j : Fin 4096, CausalRefIdeal.vals v (ix4 b j h e) *
          Ideal.div (Ideal.exp (CausalRefIdeal.lg q k (ix4 b h ⟨512 * n.val + c.val, by omega⟩ j)
              - Finset.univ.fold max ⊥ fun j : Fin 4096 => CausalRefIdeal.lg q k (ix4 b h ⟨512 * n.val + c.val, by omega⟩ j)))
            (∑ i : Fin 4096, Ideal.exp (CausalRefIdeal.lg q k (ix4 b h ⟨512 * n.val + c.val, by omega⟩ i)
              - Finset.univ.fold max ⊥ fun j : Fin 4096 => CausalRefIdeal.lg q k (ix4 b h ⟨512 * n.val + c.val, by omega⟩ j))) := by
  have hi : (⟨(8 * b.val + n.val) * 512 + c.val, by omega⟩ : Fin 32768) = ⟨4096 * b.val + (⟨512 * n.val + c.val, by omega⟩ : Fin 4096).val, by simp only []; omega⟩ :=
    Fin.ext (by simp only []; omega)
  rw [hi, refOut, CausalRefIdeal.out_apply]
  simp only [CausalRefIdeal.soft_apply, CausalRefIdeal.expo_apply, CausalRefIdeal.rowMax_apply]

/-- The block the kernel stores is the reference's, from blocks of the arrays. -/
theorem block_eq (q k : FVec Ideal S32768x512 .bf16) (v : FVec Ideal S64x320x512 .bf16)
    (hq : ∀ i, q i ≠ ⊤ ∧ q i ≠ ⊥) (hk : ∀ i, k i ≠ ⊤ ∧ k i ≠ ⊥)
    (hv : ∀ (p : Fin 64) (g : Fin 4) (j : Fin 512), v (ix3 p ⟨g.val * 80 + 64, by omega⟩ j) = 1) (b n : Fin 8)
    (x2 : Vec Ideal S512x512 .bf16) (x3 : Vec Ideal S8x512x512 .bf16) (x4 : Vec Ideal S8x320x512 .bf16)
    (h2 : ∀ r x, x2 (ix2 r x) = q (ix2 ⟨(8 * b.val + n.val) * 512 + r.val, by omega⟩ x))
    (h3 : ∀ j r x, x3 (ix3 j r x) = k (ix2 ⟨(8 * b.val + j.val) * 512 + r.val, by omega⟩ x))
    (h4 : ∀ j r x, x4 (ix3 j r x) = v (ix3 ⟨8 * b.val + j.val, by omega⟩ r x)) (c : Fin 512) (h : Fin 4) (e : Fin 64) :
    outB x2 x3 x4 n.val (ix2 c ⟨64 * h.val + e.val, by omega⟩)
      = refOut q k v (ix2 ⟨(8 * b.val + n.val) * 512 + c.val, by omega⟩ ⟨64 * h.val + e.val, by omega⟩) := by
  have hn := n.isLt
  have hc := c.isLt
  have hones : vK x4 h 64 = fun _ _ => 1 := by
    funext j r
    rw [vK, h4, ← hv ⟨8 * b.val + j % 8, by omega⟩ h r]
    congr 2
    exact Fin.ext (by simp only []; show 80 * h.val + 64 = _; omega)
  have hsc : ∀ j r, sc x2 x3 h c j r ≠ ⊤ ∧ sc x2 x3 h c j r ≠ ⊥ := fun j r => by
    apply Softmax.sum_mul_real
    · intro d; rw [h3]; exact hk _
    · intro d; rw [h2]; exact hq _
  rw [outB_apply, hones, refOut_apply]
  rw [Softmax.softmax_eq (n := n.val) (sK x2 x3 n.val h c) (vK x4 h ⟨e.val, by omega⟩) hn
    (fun j r => by
      unfold sK
      split
      · exact (hsc j r).1
      · exact bot_ne_top)
    (fun j hj r => by rw [sK, if_neg (by omega)])
    ⟨c, by rw [sK, if_pos (Or.inr ⟨rfl, le_rfl⟩)]; exact (hsc _ _).2⟩
    (fun j => CausalRefIdeal.lg q k (ix4 b h ⟨512 * n.val + c.val, by omega⟩ j))
    (fun j => by
      have hj := j.isLt
      rw [CausalRefIdeal.lg_apply, sK]
      by_cases hm : j.val ≤ 512 * n.val + c.val
      · rw [if_pos hm, if_pos (show j.val / 512 < n.val ∨ j.val / 512 = n.val ∧ j.val % 512 ≤ c.val by omega), sc]
        congr 1
        refine Finset.sum_congr rfl fun d _ => ?_
        rw [h3, h2, mul_comm]
        congr 3
        · exact Fin.ext (by simp only []; omega)
        · exact Fin.ext (by simp only []; omega)
        · exact Fin.ext (by simp only []; omega)
        · exact Fin.ext (by simp only []; omega)
      · rw [if_neg hm, if_neg (show ¬(j.val / 512 < n.val ∨ j.val / 512 = n.val ∧ j.val % 512 ≤ c.val) by omega), EReal.bot_mul_coe_of_pos (Real.log_pos one_lt_two)])]
  refine Finset.sum_congr rfl fun j _ => ?_
  have hj := j.isLt
  congr 1
  rw [CausalRefIdeal.vals_apply, vK, h4]
  congr 2
  · exact Fin.ext (by simp only []; omega)
  · exact Fin.ext (by simp only []; omega)

variable (m : (ℓ : Loc nD τ sig) → Buf (Elt Ideal) ℓ)

/-- Which block of each array a grid step takes. -/
theorem idx (t : Fin cfg0.N) : win0_0.index t = ![8 * (grid0.coords t 0).val + (grid0.coords t 1).val, 0]
    ∧ win0_1.index t = ![(grid0.coords t 0).val, 0, 0] ∧ win0_2.index t = ![(grid0.coords t 0).val, 0, 0]
    ∧ win0_3.index t = ![8 * (grid0.coords t 0).val + (grid0.coords t 1).val, 0] :=
  (by decide +kernel : ∀ t : Fin grid0.N, win0_0.index t = ![8 * (grid0.coords t 0).val + (grid0.coords t 1).val, 0]
    ∧ win0_1.index t = ![(grid0.coords t 0).val, 0, 0] ∧ win0_2.index t = ![(grid0.coords t 0).val, 0, 0]
    ∧ win0_3.index t = ![8 * (grid0.coords t 0).val + (grid0.coords t 1).val, 0]) t

/-- The queries a grid step sees. -/
theorem iblk0 (c : Dev nD) (t : Fin cfg0.N) (r x : Fin 512) (b n : Fin 8) (hb : (grid0.coords t 0).val = b.val) (hn : (grid0.coords t 1).val = n.val) :
    iblk m c 0 t (ix2 r x) = (m ((c.tc : Thread nD τ).loc main_arg0)) (ix2 ⟨(8 * b.val + n.val) * 512 + r.val, by omega⟩ x) := by
  obtain ⟨e0, e1, e2, e3⟩ := idx t
  rw [hb, hn] at e0
  blk_ext [iblk, V, e0]

/-- The keys a grid step sees. -/
theorem iblk1 (c : Dev nD) (t : Fin cfg0.N) (j : Fin 8) (r x : Fin 512) (b : Fin 8) (hb : (grid0.coords t 0).val = b.val) :
    iblk m c 1 t (ix3 j r x) = (m ((c.tc : Thread nD τ).loc main_arg1)) (ix2 ⟨(8 * b.val + j.val) * 512 + r.val, by omega⟩ x) := by
  obtain ⟨e0, e1, e2, e3⟩ := idx t
  rw [hb] at e1
  have he : (win0_1.blk t).view.emb (ix3 j r x) = ix3 ⟨8 * b.val + j.val, by omega⟩ r x := by
    blk_ext [e1]
  show V m c main_v0 ((win0_1.blk t).view.emb (ix3 j r x)) = _
  rw [he]
  entry_read
  pointwise

/-- The values a grid step sees. -/
theorem iblk2 (c : Dev nD) (t : Fin cfg0.N) (j : Fin 8) (r : Fin 320) (x : Fin 512) (b : Fin 8) (hb : (grid0.coords t 0).val = b.val) :
    iblk m c 2 t (ix3 j r x) = (m ((c.tc : Thread nD τ).loc main_arg2)) (ix3 ⟨8 * b.val + j.val, by omega⟩ r x) := by
  obtain ⟨e0, e1, e2, e3⟩ := idx t
  rw [hb] at e2
  blk_ext [iblk, V, e2]

/-- A column of the result is a lane of one of the four heads. -/
theorem head_lane (y : Fin 256) :
    ∃ (h : Fin 4) (e : Fin 64), y = ⟨64 * h.val + e.val, by omega⟩ :=
  ⟨⟨y.val / 64, by omega⟩, ⟨y.val % 64, by omega⟩, Fin.ext (by dsimp only; omega)⟩

/-- The result array after the run is the reference's. -/
theorem final_eq (c : Dev nD) (q k : FVec Ideal S32768x512 .bf16) (v : FVec Ideal S64x320x512 .bf16)
    (h0 : m ((c.tc : Thread nD τ).loc main_arg0) = q) (h1 : m ((c.tc : Thread nD τ).loc main_arg1) = k)
    (h2 : m ((c.tc : Thread nD τ).loc main_arg2) = v)
    (hq : ∀ i, q i ≠ ⊤ ∧ q i ≠ ⊥) (hk : ∀ i, k i ≠ ⊤ ∧ k i ≠ ⊥)
    (hv : ∀ (p : Fin 64) (g : Fin 4) (j : Fin 512), v (ix3 p ⟨g.val * 80 + 64, by omega⟩ j) = 1) :
    (dats m 0 c).arrAt 3 cfg0.N = refOut q k v := by
  refine (dats m 0 c).arrAt_eq_of_covers 3 _ (by decide +kernel) fun t hf y => ?_
  blk_simp
  rw [after3, outAt]
  obtain ⟨e0, e1, e2, e3⟩ := idx t
  obtain ⟨b, hb⟩ : ∃ b : Fin 8, (grid0.coords t 0).val = b.val := ⟨grid0.coords t 0, rfl⟩
  obtain ⟨n, hn⟩ : ∃ n : Fin 8, (grid0.coords t 1).val = n.val := ⟨grid0.coords t 1, rfl⟩
  rw [hb, hn] at e3
  rw [hn]
  idx_vars y
  obtain ⟨h, e, rfl⟩ := head_lane y1
  have he : ((View.whole main_v1).slice (win0_3.rect t)).emb (ix2 y0 ⟨64 * h.val + e.val, by omega⟩)
      = ix2 ⟨(8 * b.val + n.val) * 512 + y0.val, by omega⟩ ⟨64 * h.val + e.val, by omega⟩ := by
    blk_ext [e3]
  rw [he]
  exact block_eq q k v hq hk hv b n _ _ _
    (fun r x => by rw [iblk0 m c t r x b n hb hn, h0]) (fun j r x => by rw [iblk1 m c t j r x b hb, h1])
    (fun j r x => by rw [iblk2 m c t j r x b hb, h2]) y0 h e

end Cert.CausalIdeal

end
-- ==== Proof.Math.Rms.lean ====
/- The normalization of a row by the root of its mean square, over the extended reals. -/
module

public import Idealize.ShloMosaic.Lib.Pointwise

@[expose] public section

set_option maxRecDepth 16384

noncomputable section

namespace Cert.Rms

open Idealize.ShloMosaic

/-- Element `j` of the row `x` over the root of its mean square (with a small constant under the root), times a gain. -/
def rms (x : Fin 1024 → EReal) (g : EReal) (j : Fin 1024) : EReal :=
  x j * Ideal.rsqrt (Ideal.div (∑ k : Fin 1024, x k * x k) (Ideal.ofBits .f32 0x44800000#32) + Ideal.ofBits .f32 0x358637BD#32) * g

end Cert.Rms

end
-- ==== Proof.MlpIdeal.Value.lean ====
/- The block the multilayer perceptron's kernel stores, read at an index over the extended reals. -/
module

public import proofs.«01_k».proof.Proof.Gen.MlpIdeal.Value
public import proofs.«01_k».proof.Proof.Math.Rms
public import Idealize.ShloMosaic.Lib.Pipeline.ValueKit

@[expose] public section

set_option maxRecDepth 16384

noncomputable section

namespace Cert.MlpIdeal

open Idealize.ShloMosaic Idealize.SL.Sem Cert.MlpIdeal.Gen

/-- The normalized rows, at an index. -/
theorem pay1_apply (x : Vec Ideal S512x1024 .f32) (g : Vec Ideal S1x1024 .f32) (r : Fin 512) (j : Fin 1024) :
    k0_pay1 x g (ix2 r j) = Rms.rms (fun k => x (ix2 r k)) (g (ix2 0 j)) j := by
  pointwise [k0_pay1]
  rfl

/-- The first quarter's product, at an index. -/
theorem pay2_apply (x : Vec Ideal S512x1024 .f32) (g : Vec Ideal S1x1024 .f32) (w1 w2 : Vec Ideal S1024x1024 .bf16) (r : Fin 512) (j : Fin 1024) :
    k0_pay2 x g w1 w2 (ix2 r j) = ∑ l : Fin 1024, max (∑ k : Fin 1024, k0_pay1 x g (ix2 r k) * w1 (ix2 k l)) 0
      * max (∑ k : Fin 1024, k0_pay1 x g (ix2 r k) * w1 (ix2 k l)) 0 * w2 (ix2 l j) := by
  pointwise [k0_pay2]

/-- The second quarter's squared hidden units, at an index. -/
theorem pay3_apply (x : Vec Ideal S512x1024 .f32) (g : Vec Ideal S1x1024 .f32) (w1 : Vec Ideal S1024x1024 .bf16) (r : Fin 512) (l : Fin 1024) :
    k0_pay3 x g w1 (ix2 r l) = max (∑ k : Fin 1024, k0_pay1 x g (ix2 r k) * w1 (ix2 k l)) 0
      * max (∑ k : Fin 1024, k0_pay1 x g (ix2 r k) * w1 (ix2 k l)) 0 := by
  pointwise [k0_pay3]

/-- The stored block from its pieces: the input plus the normalized sum of the four quarters' products. -/
theorem pay5_apply (x : Vec Ideal S512x1024 .f32) (h : FVec Ideal S512x1024 .bf16) (d0 : FVec Ideal S512x1024 .f32) (u1 : FVec Ideal S512x1024 .bf16)
    (b1 a2 b2 a3 b3 : Vec Ideal S1024x1024 .bf16) (g : Vec Ideal S1x1024 .f32) (r : Fin 512) (j : Fin 1024) :
    k0_pay5 x h d0 u1 (k0_pay4 b1) (constant S512x1024 .f32 0x00000000#32) a2 b2 a3 b3 g (ix2 r j) = x (ix2 r j) + Rms.rms (fun j =>
      d0 (ix2 r j) + (∑ l : Fin 1024, u1 (ix2 r l) * b1 (ix2 l j))
        + (∑ l : Fin 1024, max (∑ k : Fin 1024, h (ix2 r k) * a2 (ix2 k l)) 0 * max (∑ k : Fin 1024, h (ix2 r k) * a2 (ix2 k l)) 0 * b2 (ix2 l j))
        + ∑ l : Fin 1024, max (∑ k : Fin 1024, h (ix2 r k) * a3 (ix2 k l)) 0 * max (∑ k : Fin 1024, h (ix2 r k) * a3 (ix2 k l)) 0 * b3 (ix2 l j)) (g (ix2 0 j)) j := by
  pointwise [k0_pay5, k0_pay4]
  rfl

/-- Quarter 0 of the first weights, at an index. -/
theorem ldA0 (w : Vec Ideal S1024x4096 .bf16) (k l : Fin 1024) :
    (View.ld w r0_2 : Vec Ideal S1024x1024 .bf16) (ix2 k l) = w (ix2 k ⟨(0 : Fin 4).val * 1024 + l.val, by have := l.isLt; show 0 * 1024 + l.val < 4096; omega⟩) := by
  pointwise

/-- Quarter 0 of the second weights, at an index. -/
theorem ldB0 (w : Vec Ideal S4096x1024 .bf16) (l j : Fin 1024) :
    (View.ld w r0_3 : Vec Ideal S1024x1024 .bf16) (ix2 l j) = w (ix2 ⟨(0 : Fin 4).val * 1024 + l.val, by have := l.isLt; show 0 * 1024 + l.val < 4096; omega⟩ j) := by
  pointwise

/-- Quarter 1 of the first weights, at an index. -/
theorem ldA1 (w : Vec Ideal S1024x4096 .bf16) (k l : Fin 1024) :
    (View.ld w r0_4 : Vec Ideal S1024x1024 .bf16) (ix2 k l) = w (ix2 k ⟨(1 : Fin 4).val * 1024 + l.val, by have := l.isLt; show 1 * 1024 + l.val < 4096; omega⟩) := by
  pointwise

/-- Quarter 1 of the second weights, at an index. -/
theorem ldB1 (w : Vec Ideal S4096x1024 .bf16) (l j : Fin 1024) :
    (View.ld w r0_5 : Vec Ideal S1024x1024 .bf16) (ix2 l j) = w (ix2 ⟨(1 : Fin 4).val * 1024 + l.val, by have := l.isLt; show 1 * 1024 + l.val < 4096; omega⟩ j) := by
  pointwise

/-- Quarter 2 of the first weights, at an index. -/
theorem ldA2 (w : Vec Ideal S1024x4096 .bf16) (k l : Fin 1024) :
    (View.ld w r0_6 : Vec Ideal S1024x1024 .bf16) (ix2 k l) = w (ix2 k ⟨(2 : Fin 4).val * 1024 + l.val, by have := l.isLt; show 2 * 1024 + l.val < 4096; omega⟩) := by
  pointwise

/-- Quarter 2 of the second weights, at an index. -/
theorem ldB2 (w : Vec Ideal S4096x1024 .bf16) (l j : Fin 1024) :
    (View.ld w r0_7 : Vec Ideal S1024x1024 .bf16) (ix2 l j) = w (ix2 ⟨(2 : Fin 4).val * 1024 + l.val, by have := l.isLt; show 2 * 1024 + l.val < 4096; omega⟩ j) := by
  pointwise

/-- Quarter 3 of the first weights, at an index. -/
theorem ldA3 (w : Vec Ideal S1024x4096 .bf16) (k l : Fin 1024) :
    (View.ld w r0_8 : Vec Ideal S1024x1024 .bf16) (ix2 k l) = w (ix2 k ⟨(3 : Fin 4).val * 1024 + l.val, by have := l.isLt; show 3 * 1024 + l.val < 4096; omega⟩) := by
  pointwise

/-- Quarter 3 of the second weights, at an index. -/
theorem ldB3 (w : Vec Ideal S4096x1024 .bf16) (l j : Fin 1024) :
    (View.ld w r0_9 : Vec Ideal S1024x1024 .bf16) (ix2 l j) = w (ix2 ⟨(3 : Fin 4).val * 1024 + l.val, by have := l.isLt; show 3 * 1024 + l.val < 4096; omega⟩ j) := by
  pointwise

/-- Hidden unit `l` of row `r` of a block, rectified. -/
def unit (x0 : Vec Ideal S512x1024 .f32) (x1 : Vec Ideal S1x1024 .f32) (x2 : Vec Ideal S1024x4096 .bf16) (r : Fin 512) (l : Fin 4096) : EReal :=
  max (∑ k : Fin 1024, Rms.rms (fun k => x0 (ix2 r k)) (x1 (ix2 0 k)) k * x2 (ix2 k l)) 0

/-- The stored block, at an index, from the blocks of the arrays: the four quarters are one sum over all hidden units. -/
theorem out_apply (x0 : Vec Ideal S512x1024 .f32) (x1 : Vec Ideal S1x1024 .f32) (x2 : Vec Ideal S1024x4096 .bf16) (x3 : Vec Ideal S4096x1024 .bf16) (x4 : Vec Ideal S1x1024 .f32) (r : Fin 512) (j : Fin 1024) :
    out0_5 x0 x1 x2 x3 x4 (ix2 r j)
      = x0 (ix2 r j) + Rms.rms (fun j => ∑ l : Fin 4096, unit x0 x1 x2 r l * unit x0 x1 x2 r l * x3 (ix2 l j)) (x4 (ix2 0 j)) j := by
  frame_out
  rw [pay5_apply]
  congr 2
  funext j
  rw [Fin.sum_univ_tiles 4 1024 rfl (fun l : Fin 4096 => unit x0 x1 x2 r l * unit x0 x1 x2 r l * x3 (ix2 l j)), Fin.sum_univ_four, pay2_apply]
  simp only [pay3_apply, pay1_apply]
  refine congrArg₂ (· + ·) (congrArg₂ (· + ·) (congrArg₂ (· + ·) ?_ ?_) ?_) ?_
  · exact Finset.sum_congr rfl fun l _ => congrArg₂ (· * ·) (congrArg (fun s : EReal => max s 0 * max s 0)
      (Finset.sum_congr rfl fun k _ => congrArg (fun z : EReal => Rms.rms (fun k => x0 (ix2 r k)) (x1 (ix2 0 k)) k * z) (ldA0 x2 k l))) (ldB0 x3 l j)
  · exact Finset.sum_congr rfl fun l _ => congrArg₂ (· * ·) (congrArg (fun s : EReal => max s 0 * max s 0)
      (Finset.sum_congr rfl fun k _ => congrArg (fun z : EReal => Rms.rms (fun k => x0 (ix2 r k)) (x1 (ix2 0 k)) k * z) (ldA1 x2 k l))) (ldB1 x3 l j)
  · exact Finset.sum_congr rfl fun l _ => congrArg₂ (· * ·) (congrArg (fun s : EReal => max s 0 * max s 0)
      (Finset.sum_congr rfl fun k _ => congrArg (fun z : EReal => Rms.rms (fun k => x0 (ix2 r k)) (x1 (ix2 0 k)) k * z) (ldA2 x2 k l))) (ldB2 x3 l j)
  · exact Finset.sum_congr rfl fun l _ => congrArg₂ (· * ·) (congrArg (fun s : EReal => max s 0 * max s 0)
      (Finset.sum_congr rfl fun k _ => congrArg (fun z : EReal => Rms.rms (fun k => x0 (ix2 r k)) (x1 (ix2 0 k)) k * z) (ldA3 x2 k l))) (ldB3 x3 l j)

end Cert.MlpIdeal

end
-- ==== Proof.MlpRefIdeal.Value.lean ====
/- The result of the multilayer perceptron's reference, read at an index over the extended reals. -/
module

public import proofs.«01_k».proof.Proof.Gen.MlpRefIdeal.Run
public import proofs.«01_k».proof.Proof.Math.Rms

@[expose] public section

set_option maxRecDepth 16384

noncomputable section

namespace Cert.MlpRefIdeal

open Idealize.ShloMosaic Idealize.ShloMosaic.TcCoe Idealize.SL.Sem Cert.MlpRefIdeal.Gen

/-- The normalization of every row. -/
def hN (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The rectified hidden units. -/
def hid (h : FVec Ideal S32768x1024 .f32) (w1 : FVec Ideal S1024x4096 .f32) : FVec Ideal S32768x4096 .f32 :=
  maximumf (Host.dotGeneral dot_S32768x1024_S1024x4096_S32768x4096_1_0_0_1_n_n none h w1) (broadcastInDim S32768x4096 ![] bcast_S_S32768x4096 (constant S_ .f32 0x00000000#32))

/-- The product of the squared hidden units with the second weights. -/
def proj (u : FVec Ideal S32768x4096 .f32) (w2 : FVec Ideal S4096x1024 .f32) : FVec Ideal S32768x1024 .f32 :=
  Host.dotGeneral dot_S32768x4096_S4096x1024_S32768x1024_1_0_0_1_n_n none (mulf u u) w2

/-- The result: the input plus the normalized product. -/
def out (x : FVec Ideal S32768x1024 .f32) (g1 g2 : FVec Ideal S1024 .f32) (w1 : FVec Ideal S1024x4096 .f32) (w2 : FVec Ideal S4096x1024 .f32) : FVec Ideal S32768x1024 .f32 :=
  addf x (hN (proj (hid (hN x g1) w1) w2) g2)

/-- The reference's result in these terms. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- A normalized element, at an index. -/
theorem hN_apply (x : FVec Ideal S32768x1024 .f32) (g : FVec Ideal S1024 .f32) (i : Fin 32768) (j : Fin 1024) :
    hN x g (ix2 i j) = Rms.rms (fun k => x (ix2 i k)) (g (ix1 j)) j := by
  pointwise [hN]
  rfl

/-- A hidden unit, at an index. -/
theorem hid_apply (h : FVec Ideal S32768x1024 .f32) (w1 : FVec Ideal S1024x4096 .f32) (i : Fin 32768) (l : Fin 4096) :
    hid h w1 (ix2 i l) = max (∑ k : Fin 1024, h (ix2 i k) * w1 (ix2 k l)) 0 := by
  pointwise [hid]

/-- An element of the product, at an index. -/
theorem proj_apply (u : FVec Ideal S32768x4096 .f32) (w2 : FVec Ideal S4096x1024 .f32) (i : Fin 32768) (j : Fin 1024) :
    proj u w2 (ix2 i j) = ∑ l : Fin 4096, u (ix2 i l) * u (ix2 i l) * w2 (ix2 l j) := by
  pointwise [proj]

/-- The result, at an index. -/
theorem out_apply (x : FVec Ideal S32768x1024 .f32) (g1 g2 : FVec Ideal S1024 .f32) (w1 : FVec Ideal S1024x4096 .f32) (w2 : FVec Ideal S4096x1024 .f32) (i : Fin 32768) (j : Fin 1024) :
    out x g1 g2 w1 w2 (ix2 i j) = x (ix2 i j) + Rms.rms (fun j => proj (hid (hN x g1) w1) w2 (ix2 i j)) (g2 (ix1 j)) j := by
  rw [← hN_apply]; rfl

end Cert.MlpRefIdeal

end
-- ==== Proof.MlpIdeal.Tie.lean ====
/- The multilayer perceptron's kernel computes its reference: block by block the stored rows are the reference's, and the
   blocks tile the result array. -/
module

public import proofs.«01_k».proof.Proof.MlpIdeal.Value
public import proofs.«01_k».proof.Proof.MlpRefIdeal.Value

@[expose] public section

set_option maxRecDepth 16384

noncomputable section

namespace Cert.MlpIdeal

open Idealize.ShloMosaic Idealize.ShloMosaic.TcCoe Idealize.SL.Sem Cert.MlpIdeal.Gen

/-- The stored block is the reference's rows, from what the body sees of the arrays. -/
theorem block_eq (x : FVec Ideal S32768x1024 .f32) (g1 g2 : FVec Ideal S1024 .f32) (w1 : FVec Ideal S1024x4096 .f32) (w2 : FVec Ideal S4096x1024 .f32)
    (x0 : Vec Ideal S512x1024 .f32) (x1 : Vec Ideal S1x1024 .f32) (x2 : Vec Ideal S1024x4096 .bf16) (x3 : Vec Ideal S4096x1024 .bf16) (x4 : Vec Ideal S1x1024 .f32)
    (b : Fin 64) (h0 : ∀ r k, x0 (ix2 r k) = x (ix2 ⟨b.val * 512 + r.val, by omega⟩ k)) (h1 : ∀ k, x1 (ix2 0 k) = g1 (ix1 k))
    (h2 : ∀ k l, x2 (ix2 k l) = w1 (ix2 k l)) (h3 : ∀ l j, x3 (ix2 l j) = w2 (ix2 l j)) (h4 : ∀ k, x4 (ix2 0 k) = g2 (ix1 k)) (r : Fin 512) (j : Fin 1024) :
    out0_5 x0 x1 x2 x3 x4 (ix2 r j) = MlpRefIdeal.out x g1 g2 w1 w2 (ix2 ⟨b.val * 512 + r.val, by omega⟩ j) := by
  rw [out_apply, MlpRefIdeal.out_apply, h0, h4]
  congr 2
  funext j
  rw [MlpRefIdeal.proj_apply]
  refine Finset.sum_congr rfl fun l _ => ?_
  have hu : unit x0 x1 x2 r l = MlpRefIdeal.hid (MlpRefIdeal.hN x g1) w1 (ix2 ⟨b.val * 512 + r.val, by omega⟩ l) := by
    rw [MlpRefIdeal.hid_apply, unit]
    congr 1
    refine Finset.sum_congr rfl fun k _ => ?_
    rw [MlpRefIdeal.hN_apply, h1, h2]
    congr 2
    funext k
    exact h0 r k
  rw [hu, h3]

variable (m : (ℓ : Loc nD τ sig) → Buf (Elt Ideal) ℓ)

/-- Which block of each array a grid step takes. -/
theorem idx (t : Fin cfg0.N) : win0_0.index t = ![(grid0.coords t 0).val, 0] ∧ win0_1.index t = ![0, 0] ∧ win0_2.index t = ![0, 0]
    ∧ win0_3.index t = ![0, 0] ∧ win0_4.index t = ![0, 0] ∧ win0_5.index t = ![(grid0.coords t 0).val, 0] :=
  (by decide +kernel : ∀ t : Fin grid0.N, win0_0.index t = ![(grid0.coords t 0).val, 0] ∧ win0_1.index t = ![0, 0] ∧ win0_2.index t = ![0, 0]
    ∧ win0_3.index t = ![0, 0] ∧ win0_4.index t = ![0, 0] ∧ win0_5.index t = ![(grid0.coords t 0).val, 0]) t

/-- The rows a grid step sees. -/
theorem iblk0 (c : Dev nD) (t : Fin cfg0.N) (r : Fin 512) (k : Fin 1024) (b : Fin 64) (hb : (grid0.coords t 0).val = b.val) :
    iblk m c 0 t (ix2 r k) = (m ((c.tc : Thread nD τ).loc main_arg0)) (ix2 ⟨b.val * 512 + r.val, by omega⟩ k) := by
  obtain ⟨e0, e1, e2, e3, e4, e5⟩ := idx t
  rw [hb] at e0
  blk_ext! [iblk, V, e0]

/-- The first gains a grid step sees. -/
theorem iblk1 (c : Dev nD) (t : Fin cfg0.N) (k : Fin 1024) :
    iblk m c 1 t (ix2 0 k) = (m ((c.tc : Thread nD τ).loc main_arg1)) (ix1 k) := by
  obtain ⟨e0, e1, e2, e3, e4, e5⟩ := idx t
  have he : (win0_1.blk t).view.emb (ix2 0 k) = ix2 0 k := by blk_ext [e1]
  show V m c main_v0 ((win0_1.blk t).view.emb (ix2 0 k)) = _
  rw [he]
  entry_read
  pointwise

/-- The first weights a grid step sees. -/
theorem iblk2 (c : Dev nD) (t : Fin cfg0.N) (k : Fin 1024) (l : Fin 4096) :
    iblk m c 2 t (ix2 k l) = (m ((c.tc : Thread nD τ).loc main_arg3)) (ix2 k l) := by
  obtain ⟨e0, e1, e2, e3, e4, e5⟩ := idx t
  have he : (win0_2.blk t).view.emb (ix2 k l) = ix2 k l := by blk_ext [e2]
  show V m c main_v1 ((win0_2.blk t).view.emb (ix2 k l)) = _
  rw [he]
  entry_read
  rfl

/-- The second weights a grid step sees. -/
theorem iblk3 (c : Dev nD) (t : Fin cfg0.N) (l : Fin 4096) (j : Fin 1024) :
    iblk m c 3 t (ix2 l j) = (m ((c.tc : Thread nD τ).loc main_arg4)) (ix2 l j) := by
  obtain ⟨e0, e1, e2, e3, e4, e5⟩ := idx t
  have he : (win0_3.blk t).view.emb (ix2 l j) = ix2 l j := by blk_ext [e3]
  show V m c main_v2 ((win0_3.blk t).view.emb (ix2 l j)) = _
  rw [he]
  entry_read
  rfl

/-- The second gains a grid step sees. -/
theorem iblk4 (c : Dev nD) (t : Fin cfg0.N) (k : Fin 1024) :
    iblk m c 4 t (ix2 0 k) = (m ((c.tc : Thread nD τ).loc main_arg2)) (ix1 k) := by
  obtain ⟨e0, e1, e2, e3, e4, e5⟩ := idx t
  have he : (win0_4.blk t).view.emb (ix2 0 k) = ix2 0 k := by blk_ext [e4]
  show V m c main_v3 ((win0_4.blk t).view.emb (ix2 0 k)) = _
  rw [he]
  entry_read
  pointwise

/-- The result array after the run is the reference's. -/
theorem final_eq (c : Dev nD) :
    (dats m 0 c).arrAt 5 cfg0.N = MlpRefIdeal.out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 5 _ (by decide +kernel) fun t hf y => ?_
  blk_simp
  rw [after0_5]
  obtain ⟨e0, e1, e2, e3, e4, e5⟩ := idx t
  obtain ⟨b, hb⟩ : ∃ b : Fin 64, (grid0.coords t 0).val = b.val := ⟨grid0.coords t 0, rfl⟩
  rw [hb] at e5
  idx_vars y
  have he : ((View.whole main_v4).slice (win0_5.rect t)).emb (ix2 y0 y1) = ix2 ⟨b.val * 512 + y0.val, by omega⟩ y1 := by
    blk_ext [e5]
  rw [he]
  exact block_eq _ _ _ _ _ _ _ _ _ _ b (fun r k => iblk0 m c t r k b hb) (iblk1 m c t) (iblk2 m c t) (iblk3 m c t) (iblk4 m c t) y0 y1

end Cert.MlpIdeal

end
-- ==== Proof.MergeIdeal.Value.lean ====
/- The block the gated merge's kernel stores, read at an index over the extended reals. -/
module

public import proofs.«01_k».proof.Proof.Gen.MergeIdeal.Value
public import proofs.«01_k».proof.Proof.Math.Rms
public import Idealize.ShloMosaic.Lib.Pipeline.ValueKit

@[expose] public section

set_option maxRecDepth 16384

noncomputable section

namespace Cert.MergeIdeal

open Idealize.ShloMosaic Idealize.SL.Sem Cert.MergeIdeal.Gen

/-- A branch's part at row `r` and column `j`, from its blocks. -/
def part (h : FVec Ideal S512x1024 .bf16) (o : Vec Ideal S512x256 .bf16) (W : Vec Ideal S1x1024x1024 .bf16) (B : Vec Ideal S1x1024 .f32) (U : Vec Ideal S1x256x1024 .bf16) (r : Fin 512) (j : Fin 1024) : EReal :=
  Ideal.logistic ((∑ k : Fin 1024, h (ix2 r k) * W (ix3 0 k j)) + B (ix2 0 j)) * ∑ l : Fin 256, o (ix2 r l) * U (ix3 0 l j)

/-- The normalized rows, at an index. -/
theorem pay2_apply (x : Vec Ideal S512x1024 .f32) (g : Vec Ideal S1x1024 .f32) (r : Fin 512) (j : Fin 1024) :
    k0_pay2 x g (ix2 r j) = Rms.rms (fun k => x (ix2 r k)) (g (ix2 0 j)) j := by
  pointwise [k0_pay2]
  rfl

/-- The first branch's part, at an index. -/
theorem pay3_apply (x : Vec Ideal S512x1024 .f32) (g : Vec Ideal S1x1024 .f32) (W : Vec Ideal S1x1024x1024 .bf16) (B : Vec Ideal S1x1024 .f32) (o : Vec Ideal S512x256 .bf16) (U : Vec Ideal S1x256x1024 .bf16) (r : Fin 512) (j : Fin 1024) :
    k0_pay3 x g W B o U (ix2 r j) = part (k0_pay2 x g) o W B U r j := by
  pointwise [k0_pay3, part]

/-- The second branch's gate before its bias, at an index. -/
theorem pay4_apply (x : Vec Ideal S512x1024 .f32) (g : Vec Ideal S1x1024 .f32) (W : Vec Ideal S1x1024x1024 .bf16) (r : Fin 512) (j : Fin 1024) :
    k0_pay4 x g W (ix2 r j) = ∑ k : Fin 1024, k0_pay2 x g (ix2 r k) * W (ix3 0 k j) := by
  pointwise [k0_pay4]

/-- The first three branches' parts, at an index. -/
theorem pay5_apply (h : FVec Ideal S512x1024 .bf16) (d g1 : FVec Ideal S512x1024 .f32) (B1 : Vec Ideal S1x1024 .f32) (o1 : Vec Ideal S512x256 .bf16) (U1 : Vec Ideal S1x256x1024 .bf16)
    (W2 : Vec Ideal S1x1024x1024 .bf16) (B2 : Vec Ideal S1x1024 .f32) (o2 : Vec Ideal S512x256 .bf16) (U2 : Vec Ideal S1x256x1024 .bf16) (r : Fin 512) (j : Fin 1024) :
    k0_pay5 h d g1 B1 o1 U1 W2 B2 o2 U2 (ix2 r j) = d (ix2 r j) + Ideal.logistic (g1 (ix2 r j) + B1 (ix2 0 j)) * (∑ l : Fin 256, o1 (ix2 r l) * U1 (ix3 0 l j))
      + part h o2 W2 B2 U2 r j := by
  pointwise [k0_pay5, part]

/-- The last branch's gate, at an index. -/
theorem pay6_apply (h : FVec Ideal S512x1024 .bf16) (W : Vec Ideal S1x1024x1024 .bf16) (B : Vec Ideal S1x1024 .f32) (r : Fin 512) (j : Fin 1024) :
    k0_pay6 h W B (ix2 r j) = Ideal.logistic ((∑ k : Fin 1024, h (ix2 r k) * W (ix3 0 k j)) + B (ix2 0 j)) := by
  pointwise [k0_pay6]

/-- The stored block from its pieces: the input plus the normalized product of the merged branches. -/
theorem pay1_apply (x : Vec Ideal S512x1024 .f32) (d g3 : FVec Ideal S512x1024 .f32) (o3 : Vec Ideal S512x256 .bf16) (U3 : Vec Ideal S1x256x1024 .bf16) (w : Vec Ideal S1024x1024 .bf16) (g : Vec Ideal S1x1024 .f32) (r : Fin 512) (j : Fin 1024) :
    k0_pay1 x d g3 o3 U3 w g (ix2 r j) = x (ix2 r j) + Rms.rms (fun j => ∑ l : Fin 1024,
      (d (ix2 r l) + g3 (ix2 r l) * (∑ l' : Fin 256, o3 (ix2 r l') * U3 (ix3 0 l' l))) * w (ix2 l j)) (g (ix2 0 j)) j := by
  pointwise [k0_pay1]
  rfl

/-- The gate weights of branch 0 in their block. -/
theorem ldW0 (w : Vec Ideal S4x1024x1024 .bf16) (k j : Fin 1024) : (View.ld w r0_2 : Vec Ideal S1x1024x1024 .bf16) (ix3 0 k j) = w (ix3 0 k j) := by
  pointwise

/-- The gate bias of branch 0 in its block. -/
theorem ldB0 (w : Vec Ideal S4x1024 .f32) (j : Fin 1024) : (View.ld w r0_3 : Vec Ideal S1x1024 .f32) (ix2 0 j) = w (ix2 0 j) := by
  pointwise

/-- The projection weights of branch 0 in their block. -/
theorem ldU0 (w : Vec Ideal S4x256x1024 .bf16) (l : Fin 256) (j : Fin 1024) : (View.ld w r0_5 : Vec Ideal S1x256x1024 .bf16) (ix3 0 l j) = w (ix3 0 l j) := by
  pointwise

/-- The gate weights of branch 1 in their block. -/
theorem ldW1 (w : Vec Ideal S4x1024x1024 .bf16) (k j : Fin 1024) : (View.ld w r0_6 : Vec Ideal S1x1024x1024 .bf16) (ix3 0 k j) = w (ix3 1 k j) := by
  pointwise

/-- The gate bias of branch 1 in its block. -/
theorem ldB1 (w : Vec Ideal S4x1024 .f32) (j : Fin 1024) : (View.ld w r0_7 : Vec Ideal S1x1024 .f32) (ix2 0 j) = w (ix2 1 j) := by
  pointwise

/-- The projection weights of branch 1 in their block. -/
theorem ldU1 (w : Vec Ideal S4x256x1024 .bf16) (l : Fin 256) (j : Fin 1024) : (View.ld w r0_8 : Vec Ideal S1x256x1024 .bf16) (ix3 0 l j) = w (ix3 1 l j) := by
  pointwise

/-- The gate weights of branch 2 in their block. -/
theorem ldW2 (w : Vec Ideal S4x1024x1024 .bf16) (k j : Fin 1024) : (View.ld w r0_9 : Vec Ideal S1x1024x1024 .bf16) (ix3 0 k j) = w (ix3 2 k j) := by
  pointwise

/-- The gate bias of branch 2 in its block. -/
theorem ldB2 (w : Vec Ideal S4x1024 .f32) (j : Fin 1024) : (View.ld w r0_10 : Vec Ideal S1x1024 .f32) (ix2 0 j) = w (ix2 2 j) := by
  pointwise

/-- The projection weights of branch 2 in their block. -/
theorem ldU2 (w : Vec Ideal S4x256x1024 .bf16) (l : Fin 256) (j : Fin 1024) : (View.ld w r0_11 : Vec Ideal S1x256x1024 .bf16) (ix3 0 l j) = w (ix3 2 l j) := by
  pointwise

/-- The gate weights of branch 3 in their block. -/
theorem ldW3 (w : Vec Ideal S4x1024x1024 .bf16) (k j : Fin 1024) : (View.ld w r0_12 : Vec Ideal S1x1024x1024 .bf16) (ix3 0 k j) = w (ix3 3 k j) := by
  pointwise

/-- The gate bias of branch 3 in its block. -/
theorem ldB3 (w : Vec Ideal S4x1024 .f32) (j : Fin 1024) : (View.ld w r0_13 : Vec Ideal S1x1024 .f32) (ix2 0 j) = w (ix2 3 j) := by
  pointwise

/-- The projection weights of branch 3 in their block. -/
theorem ldU3 (w : Vec Ideal S4x256x1024 .bf16) (l : Fin 256) (j : Fin 1024) : (View.ld w r0_14 : Vec Ideal S1x256x1024 .bf16) (ix3 0 l j) = w (ix3 3 l j) := by
  pointwise

/-- Branch `q`'s part at row `r` and column `j`, from the blocks of the arrays. -/
def branch (x0 : Vec Ideal S512x1024 .f32) (o : Vec Ideal S512x256 .bf16) (x5 : Vec Ideal S1x1024 .f32) (x6 : Vec Ideal S4x1024x1024 .bf16) (x7 : Vec Ideal S4x1024 .f32) (x8 : Vec Ideal S4x256x1024 .bf16) (q : Fin 4) (r : Fin 512) (j : Fin 1024) : EReal :=
  Ideal.logistic ((∑ k : Fin 1024, Rms.rms (fun k => x0 (ix2 r k)) (x5 (ix2 0 k)) k * x6 (ix3 q k j)) + x7 (ix2 q j)) * ∑ l : Fin 256, o (ix2 r l) * x8 (ix3 q l j)

/-- Branch 0's part, from its blocks. -/
theorem part0 (x0 : Vec Ideal S512x1024 .f32) (o : Vec Ideal S512x256 .bf16) (x5 : Vec Ideal S1x1024 .f32) (x6 : Vec Ideal S4x1024x1024 .bf16) (x7 : Vec Ideal S4x1024 .f32) (x8 : Vec Ideal S4x256x1024 .bf16) (r : Fin 512) (j : Fin 1024) :
    part (k0_pay2 x0 x5) o (View.ld x6 r0_2) (View.ld x7 r0_3) (View.ld x8 r0_5) r j = branch x0 o x5 x6 x7 x8 0 r j :=
  congrArg₂ (fun a b : EReal => a * b)
    (congrArg₂ (fun a b : EReal => Ideal.logistic (a + b))
      (Finset.sum_congr rfl fun k _ => congrArg₂ (fun a b : EReal => a * b) (pay2_apply x0 x5 r k) (ldW0 x6 k j)) (ldB0 x7 j))
    (Finset.sum_congr rfl fun l _ => congrArg (fun z : EReal => o (ix2 r l) * z) (ldU0 x8 l j))

/-- Branch 1's part, from its blocks. -/
theorem part1 (x0 : Vec Ideal S512x1024 .f32) (o : Vec Ideal S512x256 .bf16) (x5 : Vec Ideal S1x1024 .f32) (x6 : Vec Ideal S4x1024x1024 .bf16) (x7 : Vec Ideal S4x1024 .f32) (x8 : Vec Ideal S4x256x1024 .bf16) (r : Fin 512) (j : Fin 1024) :
    part (k0_pay2 x0 x5) o (View.ld x6 r0_6) (View.ld x7 r0_7) (View.ld x8 r0_8) r j = branch x0 o x5 x6 x7 x8 1 r j :=
  congrArg₂ (fun a b : EReal => a * b)
    (congrArg₂ (fun a b : EReal => Ideal.logistic (a + b))
      (Finset.sum_congr rfl fun k _ => congrArg₂ (fun a b : EReal => a * b) (pay2_apply x0 x5 r k) (ldW1 x6 k j)) (ldB1 x7 j))
    (Finset.sum_congr rfl fun l _ => congrArg (fun z : EReal => o (ix2 r l) * z) (ldU1 x8 l j))

/-- Branch 2's part, from its blocks. -/
theorem part2 (x0 : Vec Ideal S512x1024 .f32) (o : Vec Ideal S512x256 .bf16) (x5 : Vec Ideal S1x1024 .f32) (x6 : Vec Ideal S4x1024x1024 .bf16) (x7 : Vec Ideal S4x1024 .f32) (x8 : Vec Ideal S4x256x1024 .bf16) (r : Fin 512) (j : Fin 1024) :
    part (k0_pay2 x0 x5) o (View.ld x6 r0_9) (View.ld x7 r0_10) (View.ld x8 r0_11) r j = branch x0 o x5 x6 x7 x8 2 r j :=
  congrArg₂ (fun a b : EReal => a * b)
    (congrArg₂ (fun a b : EReal => Ideal.logistic (a + b))
      (Finset.sum_congr rfl fun k _ => congrArg₂ (fun a b : EReal => a * b) (pay2_apply x0 x5 r k) (ldW2 x6 k j)) (ldB2 x7 j))
    (Finset.sum_congr rfl fun l _ => congrArg (fun z : EReal => o (ix2 r l) * z) (ldU2 x8 l j))

/-- Branch 3's part, from its blocks. -/
theorem part3 (x0 : Vec Ideal S512x1024 .f32) (o : Vec Ideal S512x256 .bf16) (x5 : Vec Ideal S1x1024 .f32) (x6 : Vec Ideal S4x1024x1024 .bf16) (x7 : Vec Ideal S4x1024 .f32) (x8 : Vec Ideal S4x256x1024 .bf16) (r : Fin 512) (j : Fin 1024) :
    part (k0_pay2 x0 x5) o (View.ld x6 r0_12) (View.ld x7 r0_13) (View.ld x8 r0_14) r j = branch x0 o x5 x6 x7 x8 3 r j :=
  congrArg₂ (fun a b : EReal => a * b)
    (congrArg₂ (fun a b : EReal => Ideal.logistic (a + b))
      (Finset.sum_congr rfl fun k _ => congrArg₂ (fun a b : EReal => a * b) (pay2_apply x0 x5 r k) (ldW3 x6 k j)) (ldB3 x7 j))
    (Finset.sum_congr rfl fun l _ => congrArg (fun z : EReal => o (ix2 r l) * z) (ldU3 x8 l j))

/-- The stored block, at an index, from the blocks of the arrays. -/
theorem out_apply (x0 : Vec Ideal S512x1024 .f32) (x1 x2 x3 x4 : Vec Ideal S512x256 .bf16) (x5 : Vec Ideal S1x1024 .f32) (x6 : Vec Ideal S4x1024x1024 .bf16) (x7 : Vec Ideal S4x1024 .f32) (x8 : Vec Ideal S4x256x1024 .bf16) (x9 : Vec Ideal S1024x1024 .bf16) (x10 : Vec Ideal S1x1024 .f32) (r : Fin 512) (j : Fin 1024) :
    out0_11 x0 x1 x2 x3 x4 x5 x6 x7 x8 x9 x10 (ix2 r j)
      = x0 (ix2 r j) + Rms.rms (fun j => ∑ l : Fin 1024, (branch x0 x1 x5 x6 x7 x8 0 r l + branch x0 x2 x5 x6 x7 x8 1 r l
          + branch x0 x3 x5 x6 x7 x8 2 r l + branch x0 x4 x5 x6 x7 x8 3 r l) * x9 (ix2 l j)) (x10 (ix2 0 j)) j := by
  frame_out
  rw [pay1_apply]
  congr 2
  funext j
  refine Finset.sum_congr rfl fun l _ => congrArg (fun z : EReal => z * x9 (ix2 l j)) ?_
  rw [pay5_apply, pay3_apply, pay4_apply, pay6_apply]
  have e7 : k0_pay7 x0 x1 x2 x3 x4 x5 x6 x7 x8 x9 x10 = k0_pay2 x0 x5 := by
    frame_out [k0_pay7]
  rw [e7]
  exact congrArg₂ (fun a b : EReal => a + b) (congrArg₂ (fun a b : EReal => a + b) (congrArg₂ (fun a b : EReal => a + b)
    (part0 x0 x1 x5 x6 x7 x8 r l) (part1 x0 x2 x5 x6 x7 x8 r l)) (part2 x0 x3 x5 x6 x7 x8 r l)) (part3 x0 x4 x5 x6 x7 x8 r l)

end Cert.MergeIdeal

end
-- ==== Proof.MergeRefIdeal.Value.lean ====
/- The result of the gated merge's reference, read at an index over the extended reals. -/
module

public import proofs.«01_k».proof.Proof.Gen.MergeRefIdeal.Run
public import proofs.«01_k».proof.Proof.Math.Rms

@[expose] public section

set_option maxRecDepth 16384

noncomputable section

namespace Cert.MergeRefIdeal

open Idealize.ShloMosaic Idealize.ShloMosaic.TcCoe Idealize.SL.Sem Cert.MergeRefIdeal.Gen

/-- The normalization of every row. -/
def hN (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- One branch's part: its projection times the sigmoid of its gate. -/
def gated (h : FVec Ideal S32768x1024 .f32) (o : FVec Ideal S32768x256 .bf16) (wg : FVec Ideal S1024x1024 .f32) (bg : FVec Ideal S1024 .f32) (wu : FVec Ideal S256x1024 .f32) : FVec Ideal S32768x1024 .f32 :=
  mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (addf (Host.dotGeneral dot_S32768x1024_S1024x1024_S32768x1024_1_0_0_1_n_n none h wg) (broadcastInDim S32768x1024 ![0, 1] bcast_S1x1024_S32768x1024_0_1 (broadcastInDim S1x1024 ![1] bcast_S1024_S1x1024_1 bg))))))) (Host.dotGeneral dot_S32768x256_S256x1024_S32768x1024_1_0_0_1_n_n none (extf .f32 o bitsLt_bf16_f32) wu)

/-- The gate weights of branch 0. -/
def wG0 (w : FVec Ideal S4x1024x1024 .f32) : FVec Ideal S1024x1024 .f32 := shapeCast S1024x1024 (extractStridedSlice S1x1024x1024 ![0, 0, 0] w slices_S4x1024x1024_S1x1024x1024_0_0_0) shapeCasts_S1x1024x1024_S1024x1024

/-- The gate bias of branch 0. -/
def bG0 (w : FVec Ideal S4x1024 .f32) : FVec Ideal S1024 .f32 := shapeCast S1024 (extractStridedSlice S1x1024 ![0, 0] w slices_S4x1024_S1x1024_0_0) shapeCasts_S1x1024_S1024

/-- The projection weights of branch 0. -/
def wU0 (w : FVec Ideal S4x256x1024 .f32) : FVec Ideal S256x1024 .f32 := shapeCast S256x1024 (extractStridedSlice S1x256x1024 ![0, 0, 0] w slices_S4x256x1024_S1x256x1024_0_0_0) shapeCasts_S1x256x1024_S256x1024

/-- The gate weights of branch 1. -/
def wG1 (w : FVec Ideal S4x1024x1024 .f32) : FVec Ideal S1024x1024 .f32 := shapeCast S1024x1024 (extractStridedSlice S1x1024x1024 ![1, 0, 0] w slices_S4x1024x1024_S1x1024x1024_1_0_0) shapeCasts_S1x1024x1024_S1024x1024

/-- The gate bias of branch 1. -/
def bG1 (w : FVec Ideal S4x1024 .f32) : FVec Ideal S1024 .f32 := shapeCast S1024 (extractStridedSlice S1x1024 ![1, 0] w slices_S4x1024_S1x1024_1_0) shapeCasts_S1x1024_S1024

/-- The projection weights of branch 1. -/
def wU1 (w : FVec Ideal S4x256x1024 .f32) : FVec Ideal S256x1024 .f32 := shapeCast S256x1024 (extractStridedSlice S1x256x1024 ![1, 0, 0] w slices_S4x256x1024_S1x256x1024_1_0_0) shapeCasts_S1x256x1024_S256x1024

/-- The gate weights of branch 2. -/
def wG2 (w : FVec Ideal S4x1024x1024 .f32) : FVec Ideal S1024x1024 .f32 := shapeCast S1024x1024 (extractStridedSlice S1x1024x1024 ![2, 0, 0] w slices_S4x1024x1024_S1x1024x1024_2_0_0) shapeCasts_S1x1024x1024_S1024x1024

/-- The gate bias of branch 2. -/
def bG2 (w : FVec Ideal S4x1024 .f32) : FVec Ideal S1024 .f32 := shapeCast S1024 (extractStridedSlice S1x1024 ![2, 0] w slices_S4x1024_S1x1024_2_0) shapeCasts_S1x1024_S1024

/-- The projection weights of branch 2. -/
def wU2 (w : FVec Ideal S4x256x1024 .f32) : FVec Ideal S256x1024 .f32 := shapeCast S256x1024 (extractStridedSlice S1x256x1024 ![2, 0, 0] w slices_S4x256x1024_S1x256x1024_2_0_0) shapeCasts_S1x256x1024_S256x1024

/-- The gate weights of branch 3. -/
def wG3 (w : FVec Ideal S4x1024x1024 .f32) : FVec Ideal S1024x1024 .f32 := shapeCast S1024x1024 (extractStridedSlice S1x1024x1024 ![3, 0, 0] w slices_S4x1024x1024_S1x1024x1024_3_0_0) shapeCasts_S1x1024x1024_S1024x1024

/-- The gate bias of branch 3. -/
def bG3 (w : FVec Ideal S4x1024 .f32) : FVec Ideal S1024 .f32 := shapeCast S1024 (extractStridedSlice S1x1024 ![3, 0] w slices_S4x1024_S1x1024_3_0) shapeCasts_S1x1024_S1024

/-- The projection weights of branch 3. -/
def wU3 (w : FVec Ideal S4x256x1024 .f32) : FVec Ideal S256x1024 .f32 := shapeCast S256x1024 (extractStridedSlice S1x256x1024 ![3, 0, 0] w slices_S4x256x1024_S1x256x1024_3_0_0) shapeCasts_S1x256x1024_S256x1024

/-- The sum of the four branches' parts. -/
def merged (h : FVec Ideal S32768x1024 .f32) (oa ob oc od : FVec Ideal S32768x256 .bf16) (wu : FVec Ideal S4x256x1024 .f32) (wg : FVec Ideal S4x1024x1024 .f32) (bg : FVec Ideal S4x1024 .f32) : FVec Ideal S32768x1024 .f32 :=
  addf (addf (addf (addf (broadcastInDim S32768x1024 ![] bcast_S_S32768x1024 (constant S_ .f32 0x00000000#32)) (gated h oa (wG0 wg) (bG0 bg) (wU0 wu))) (gated h ob (wG1 wg) (bG1 bg) (wU1 wu))) (gated h oc (wG2 wg) (bG2 bg) (wU2 wu))) (gated h od (wG3 wg) (bG3 bg) (wU3 wu))

/-- The product with the output weights. -/
def proj (u : FVec Ideal S32768x1024 .f32) (w : FVec Ideal S1024x1024 .f32) : FVec Ideal S32768x1024 .f32 :=
  Host.dotGeneral dot_S32768x1024_S1024x1024_S32768x1024_1_0_0_1_n_n none u w

/-- The result: the input plus the normalized product. -/
def out (x : FVec Ideal S32768x1024 .f32) (oa ob oc od : FVec Ideal S32768x256 .bf16) (g1 g2 : FVec Ideal S1024 .f32) (wu : FVec Ideal S4x256x1024 .f32) (wg : FVec Ideal S4x1024x1024 .f32) (bg : FVec Ideal S4x1024 .f32) (w : FVec Ideal S1024x1024 .f32) : FVec Ideal S32768x1024 .f32 :=
  addf x (hN (proj (merged (hN x g1) oa ob oc od wu wg bg) w) g2)

/-- The reference's result in these terms. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

/-- A normalized element, at an index. -/
theorem hN_apply (x : FVec Ideal S32768x1024 .f32) (g : FVec Ideal S1024 .f32) (i : Fin 32768) (j : Fin 1024) :
    hN x g (ix2 i j) = Rms.rms (fun k => x (ix2 i k)) (g (ix1 j)) j := by
  pointwise [hN]
  rfl

/-- A branch's part, at an index. -/
theorem gated_apply (h : FVec Ideal S32768x1024 .f32) (o : FVec Ideal S32768x256 .bf16) (wg : FVec Ideal S1024x1024 .f32) (bg : FVec Ideal S1024 .f32) (wu : FVec Ideal S256x1024 .f32) (i : Fin 32768) (j : Fin 1024) :
    gated h o wg bg wu (ix2 i j) = Ideal.logistic ((∑ k : Fin 1024, h (ix2 i k) * wg (ix2 k j)) + bg (ix1 j)) * ∑ l : Fin 256, o (ix2 i l) * wu (ix2 l j) := by
  pointwise [gated]
  rw [Ideal.logistic]

/-- The gate weights of branch 0, at an index. -/
theorem wG0_apply (w : FVec Ideal S4x1024x1024 .f32) (k j : Fin 1024) : wG0 w (ix2 k j) = w (ix3 0 k j) := by
  pointwise [wG0]

/-- The gate bias of branch 0, at an index. -/
theorem bG0_apply (w : FVec Ideal S4x1024 .f32) (j : Fin 1024) : bG0 w (ix1 j) = w (ix2 0 j) := by
  pointwise [bG0]

/-- The projection weights of branch 0, at an index. -/
theorem wU0_apply (w : FVec Ideal S4x256x1024 .f32) (l : Fin 256) (j : Fin 1024) : wU0 w (ix2 l j) = w (ix3 0 l j) := by
  pointwise [wU0]

/-- The gate weights of branch 1, at an index. -/
theorem wG1_apply (w : FVec Ideal S4x1024x1024 .f32) (k j : Fin 1024) : wG1 w (ix2 k j) = w (ix3 1 k j) := by
  pointwise [wG1]

/-- The gate bias of branch 1, at an index. -/
theorem bG1_apply (w : FVec Ideal S4x1024 .f32) (j : Fin 1024) : bG1 w (ix1 j) = w (ix2 1 j) := by
  pointwise [bG1]

/-- The projection weights of branch 1, at an index. -/
theorem wU1_apply (w : FVec Ideal S4x256x1024 .f32) (l : Fin 256) (j : Fin 1024) : wU1 w (ix2 l j) = w (ix3 1 l j) := by
  pointwise [wU1]

/-- The gate weights of branch 2, at an index. -/
theorem wG2_apply (w : FVec Ideal S4x1024x1024 .f32) (k j : Fin 1024) : wG2 w (ix2 k j) = w (ix3 2 k j) := by
  pointwise [wG2]

/-- The gate bias of branch 2, at an index. -/
theorem bG2_apply (w : FVec Ideal S4x1024 .f32) (j : Fin 1024) : bG2 w (ix1 j) = w (ix2 2 j) := by
  pointwise [bG2]

/-- The projection weights of branch 2, at an index. -/
theorem wU2_apply (w : FVec Ideal S4x256x1024 .f32) (l : Fin 256) (j : Fin 1024) : wU2 w (ix2 l j) = w (ix3 2 l j) := by
  pointwise [wU2]

/-- The gate weights of branch 3, at an index. -/
theorem wG3_apply (w : FVec Ideal S4x1024x1024 .f32) (k j : Fin 1024) : wG3 w (ix2 k j) = w (ix3 3 k j) := by
  pointwise [wG3]

/-- The gate bias of branch 3, at an index. -/
theorem bG3_apply (w : FVec Ideal S4x1024 .f32) (j : Fin 1024) : bG3 w (ix1 j) = w (ix2 3 j) := by
  pointwise [bG3]

/-- The projection weights of branch 3, at an index. -/
theorem wU3_apply (w : FVec Ideal S4x256x1024 .f32) (l : Fin 256) (j : Fin 1024) : wU3 w (ix2 l j) = w (ix3 3 l j) := by
  pointwise [wU3]

/-- The merged branches, at an index. -/
theorem merged_apply (h : FVec Ideal S32768x1024 .f32) (oa ob oc od : FVec Ideal S32768x256 .bf16) (wu : FVec Ideal S4x256x1024 .f32) (wg : FVec Ideal S4x1024x1024 .f32) (bg : FVec Ideal S4x1024 .f32) (i : Fin 32768) (j : Fin 1024) :
    merged h oa ob oc od wu wg bg (ix2 i j) = gated h oa (wG0 wg) (bG0 bg) (wU0 wu) (ix2 i j) + gated h ob (wG1 wg) (bG1 bg) (wU1 wu) (ix2 i j)
      + gated h oc (wG2 wg) (bG2 bg) (wU2 wu) (ix2 i j) + gated h od (wG3 wg) (bG3 bg) (wU3 wu) (ix2 i j) := by
  pointwise [merged]

/-- An element of the product, at an index. -/
theorem proj_apply (u : FVec Ideal S32768x1024 .f32) (w : FVec Ideal S1024x1024 .f32) (i : Fin 32768) (j : Fin 1024) :
    proj u w (ix2 i j) = ∑ l : Fin 1024, u (ix2 i l) * w (ix2 l j) := by
  pointwise [proj]

/-- The result, at an index. -/
theorem out_apply (x : FVec Ideal S32768x1024 .f32) (oa ob oc od : FVec Ideal S32768x256 .bf16) (g1 g2 : FVec Ideal S1024 .f32) (wu : FVec Ideal S4x256x1024 .f32) (wg : FVec Ideal S4x1024x1024 .f32) (bg : FVec Ideal S4x1024 .f32) (w : FVec Ideal S1024x1024 .f32) (i : Fin 32768) (j : Fin 1024) :
    out x oa ob oc od g1 g2 wu wg bg w (ix2 i j) = x (ix2 i j) + Rms.rms (fun j => proj (merged (hN x g1) oa ob oc od wu wg bg) w (ix2 i j)) (g2 (ix1 j)) j := by
  rw [← hN_apply]; rfl

end Cert.MergeRefIdeal

end
-- ==== Proof.MergeIdeal.Tie.lean ====
/- The gated merge's kernel computes its reference: block by block the stored rows are the reference's, and the
   blocks tile the result array. -/
module

public import proofs.«01_k».proof.Proof.MergeIdeal.Value
public import proofs.«01_k».proof.Proof.MergeRefIdeal.Value

@[expose] public section

set_option maxRecDepth 16384

noncomputable section

namespace Cert.MergeIdeal

open Idealize.ShloMosaic Idealize.ShloMosaic.TcCoe Idealize.SL.Sem Cert.MergeIdeal.Gen

/-- A branch's part of the block is the reference's, for the branch `q`. -/
theorem branch_eq (x : FVec Ideal S32768x1024 .f32) (g : FVec Ideal S1024 .f32) (o : FVec Ideal S32768x256 .bf16) (wg : FVec Ideal S4x1024x1024 .f32) (bg : FVec Ideal S4x1024 .f32) (wu : FVec Ideal S4x256x1024 .f32)
    (x0 : Vec Ideal S512x1024 .f32) (x1 : Vec Ideal S512x256 .bf16) (x5 : Vec Ideal S1x1024 .f32) (x6 : Vec Ideal S4x1024x1024 .bf16) (x7 : Vec Ideal S4x1024 .f32) (x8 : Vec Ideal S4x256x1024 .bf16)
    (W : FVec Ideal S1024x1024 .f32) (B : FVec Ideal S1024 .f32) (U : FVec Ideal S256x1024 .f32) (q : Fin 4)
    (hW : ∀ k j, W (ix2 k j) = wg (ix3 q k j)) (hB : ∀ j, B (ix1 j) = bg (ix2 q j)) (hU : ∀ l j, U (ix2 l j) = wu (ix3 q l j))
    (i : Fin 32768) (r : Fin 512) (h0 : ∀ k, x0 (ix2 r k) = x (ix2 i k)) (h1 : ∀ l, x1 (ix2 r l) = o (ix2 i l)) (h5 : ∀ k, x5 (ix2 0 k) = g (ix1 k))
    (h6 : ∀ q k j, x6 (ix3 q k j) = wg (ix3 q k j)) (h7 : ∀ q j, x7 (ix2 q j) = bg (ix2 q j)) (h8 : ∀ q l j, x8 (ix3 q l j) = wu (ix3 q l j)) (j : Fin 1024) :
    branch x0 x1 x5 x6 x7 x8 q r j = MergeRefIdeal.gated (MergeRefIdeal.hN x g) o W B U (ix2 i j) := by
  rw [MergeRefIdeal.gated_apply, branch, h7, hB]
  refine congrArg₂ (fun a b : EReal => Ideal.logistic (a + bg (ix2 q j)) * b) (Finset.sum_congr rfl fun k _ => ?_) (Finset.sum_congr rfl fun l _ => ?_)
  · rw [MergeRefIdeal.hN_apply, h5, h6, hW]
    congr 2
    funext k
    exact h0 k
  · rw [h1, h8, hU]

/-- The stored block is the reference's rows, from what the body sees of the arrays. -/
theorem block_eq (x : FVec Ideal S32768x1024 .f32) (oa ob oc od : FVec Ideal S32768x256 .bf16) (g1 g2 : FVec Ideal S1024 .f32) (wu : FVec Ideal S4x256x1024 .f32) (wg : FVec Ideal S4x1024x1024 .f32) (bg : FVec Ideal S4x1024 .f32) (w : FVec Ideal S1024x1024 .f32)
    (x0 : Vec Ideal S512x1024 .f32) (x1 x2 x3 x4 : Vec Ideal S512x256 .bf16) (x5 : Vec Ideal S1x1024 .f32) (x6 : Vec Ideal S4x1024x1024 .bf16) (x7 : Vec Ideal S4x1024 .f32) (x8 : Vec Ideal S4x256x1024 .bf16) (x9 : Vec Ideal S1024x1024 .bf16) (x10 : Vec Ideal S1x1024 .f32)
    (b : Fin 64) (h0 : ∀ r k, x0 (ix2 r k) = x (ix2 ⟨b.val * 512 + r.val, by omega⟩ k))
    (h1 : ∀ r k, x1 (ix2 r k) = oa (ix2 ⟨b.val * 512 + r.val, by omega⟩ k)) (h2 : ∀ r k, x2 (ix2 r k) = ob (ix2 ⟨b.val * 512 + r.val, by omega⟩ k))
    (h3 : ∀ r k, x3 (ix2 r k) = oc (ix2 ⟨b.val * 512 + r.val, by omega⟩ k)) (h4 : ∀ r k, x4 (ix2 r k) = od (ix2 ⟨b.val * 512 + r.val, by omega⟩ k))
    (h5 : ∀ k, x5 (ix2 0 k) = g1 (ix1 k)) (h6 : ∀ q k j, x6 (ix3 q k j) = wg (ix3 q k j)) (h7 : ∀ q j, x7 (ix2 q j) = bg (ix2 q j)) (h8 : ∀ q l j, x8 (ix3 q l j) = wu (ix3 q l j))
    (h9 : ∀ l j, x9 (ix2 l j) = w (ix2 l j)) (h10 : ∀ k, x10 (ix2 0 k) = g2 (ix1 k)) (r : Fin 512) (j : Fin 1024) :
    out0_11 x0 x1 x2 x3 x4 x5 x6 x7 x8 x9 x10 (ix2 r j) = MergeRefIdeal.out x oa ob oc od g1 g2 wu wg bg w (ix2 ⟨b.val * 512 + r.val, by omega⟩ j) := by
  rw [out_apply, MergeRefIdeal.out_apply, h0, h10]
  congr 2
  funext j
  rw [MergeRefIdeal.proj_apply]
  refine Finset.sum_congr rfl fun l _ => ?_
  rw [MergeRefIdeal.merged_apply, h9,
    branch_eq x g1 oa wg bg wu x0 x1 x5 x6 x7 x8 _ _ _ 0 (MergeRefIdeal.wG0_apply wg) (MergeRefIdeal.bG0_apply bg) (MergeRefIdeal.wU0_apply wu) _ r (h0 r) (h1 r) h5 h6 h7 h8 l,
    branch_eq x g1 ob wg bg wu x0 x2 x5 x6 x7 x8 _ _ _ 1 (MergeRefIdeal.wG1_apply wg) (MergeRefIdeal.bG1_apply bg) (MergeRefIdeal.wU1_apply wu) _ r (h0 r) (h2 r) h5 h6 h7 h8 l,
    branch_eq x g1 oc wg bg wu x0 x3 x5 x6 x7 x8 _ _ _ 2 (MergeRefIdeal.wG2_apply wg) (MergeRefIdeal.bG2_apply bg) (MergeRefIdeal.wU2_apply wu) _ r (h0 r) (h3 r) h5 h6 h7 h8 l,
    branch_eq x g1 od wg bg wu x0 x4 x5 x6 x7 x8 _ _ _ 3 (MergeRefIdeal.wG3_apply wg) (MergeRefIdeal.bG3_apply bg) (MergeRefIdeal.wU3_apply wu) _ r (h0 r) (h4 r) h5 h6 h7 h8 l]

variable (m : (ℓ : Loc nD τ sig) → Buf (Elt Ideal) ℓ)

/-- Which block of each array a grid step takes. -/
theorem idx (t : Fin cfg0.N) : win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0, 0] ∧ win0_7.index t = ![0, 0] ∧ win0_8.index t = ![0, 0, 0] ∧ win0_9.index t = ![0, 0] ∧ win0_10.index t = ![0, 0] ∧ win0_11.index t = ![(grid0.coords t 0).val, 0] :=
  (by decide +kernel : ∀ t : Fin grid0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0, 0] ∧ win0_7.index t = ![0, 0] ∧ win0_8.index t = ![0, 0, 0] ∧ win0_9.index t = ![0, 0] ∧ win0_10.index t = ![0, 0] ∧ win0_11.index t = ![(grid0.coords t 0).val, 0]) t

/-- The rows a grid step sees. -/
theorem iblk0 (c : Dev nD) (t : Fin cfg0.N) (r : Fin 512) (k : Fin 1024) (b : Fin 64) (hb : (grid0.coords t 0).val = b.val) :
    iblk m c 0 t (ix2 r k) = (m ((c.tc : Thread nD τ).loc main_arg0)) (ix2 ⟨b.val * 512 + r.val, by omega⟩ k) := by
  obtain ⟨e0, e1, e2, e3, e4, e5, e6, e7, e8, e9, e10, e11⟩ := idx t
  rw [hb] at e0
  blk_ext! [iblk, V, e0]

/-- The rows of branch 0 a grid step sees. -/
theorem iblk1 (c : Dev nD) (t : Fin cfg0.N) (r : Fin 512) (k : Fin 256) (b : Fin 64) (hb : (grid0.coords t 0).val = b.val) :
    iblk m c 1 t (ix2 r k) = (m ((c.tc : Thread nD τ).loc main_arg1)) (ix2 ⟨b.val * 512 + r.val, by omega⟩ k) := by
  obtain ⟨e0, e1, e2, e3, e4, e5, e6, e7, e8, e9, e10, e11⟩ := idx t
  rw [hb] at e1
  blk_ext! [iblk, V, e1]

/-- The rows of branch 1 a grid step sees. -/
theorem iblk2 (c : Dev nD) (t : Fin cfg0.N) (r : Fin 512) (k : Fin 256) (b : Fin 64) (hb : (grid0.coords t 0).val = b.val) :
    iblk m c 2 t (ix2 r k) = (m ((c.tc : Thread nD τ).loc main_arg2)) (ix2 ⟨b.val * 512 + r.val, by omega⟩ k) := by
  obtain ⟨e0, e1, e2, e3, e4, e5, e6, e7, e8, e9, e10, e11⟩ := idx t
  rw [hb] at e2
  blk_ext! [iblk, V, e2]

/-- The rows of branch 2 a grid step sees. -/
theorem iblk3 (c : Dev nD) (t : Fin cfg0.N) (r : Fin 512) (k : Fin 256) (b : Fin 64) (hb : (grid0.coords t 0).val = b.val) :
    iblk m c 3 t (ix2 r k) = (m ((c.tc : Thread nD τ).loc main_arg3)) (ix2 ⟨b.val * 512 + r.val, by omega⟩ k) := by
  obtain ⟨e0, e1, e2, e3, e4, e5, e6, e7, e8, e9, e10, e11⟩ := idx t
  rw [hb] at e3
  blk_ext! [iblk, V, e3]

/-- The rows of branch 3 a grid step sees. -/
theorem iblk4 (c : Dev nD) (t : Fin cfg0.N) (r : Fin 512) (k : Fin 256) (b : Fin 64) (hb : (grid0.coords t 0).val = b.val) :
    iblk m c 4 t (ix2 r k) = (m ((c.tc : Thread nD τ).loc main_arg4)) (ix2 ⟨b.val * 512 + r.val, by omega⟩ k) := by
  obtain ⟨e0, e1, e2, e3, e4, e5, e6, e7, e8, e9, e10, e11⟩ := idx t
  rw [hb] at e4
  blk_ext! [iblk, V, e4]

/-- The first gains a grid step sees. -/
theorem iblk5 (c : Dev nD) (t : Fin cfg0.N) (k : Fin 1024) :
    iblk m c 5 t (ix2 0 k) = (m ((c.tc : Thread nD τ).loc main_arg5)) (ix1 k) := by
  obtain ⟨e0, e1, e2, e3, e4, e5, e6, e7, e8, e9, e10, e11⟩ := idx t
  have he : (win0_5.blk t).view.emb (ix2 0 k) = ix2 0 k := by blk_ext [e5]
  show V m c main_v0 ((win0_5.blk t).view.emb (ix2 0 k)) = _
  rw [he]
  entry_read
  pointwise

/-- The gate weights a grid step sees. -/
theorem iblk6 (c : Dev nD) (t : Fin cfg0.N) (q : Fin 4) (k j : Fin 1024) :
    iblk m c 6 t (ix3 q k j) = (m ((c.tc : Thread nD τ).loc main_arg8)) (ix3 q k j) := by
  obtain ⟨e0, e1, e2, e3, e4, e5, e6, e7, e8, e9, e10, e11⟩ := idx t
  have he : (win0_6.blk t).view.emb (ix3 q k j) = ix3 q k j := by blk_ext [e6]
  show V m c main_v1 ((win0_6.blk t).view.emb (ix3 q k j)) = _
  rw [he]
  entry_read
  rfl

/-- The gate biases a grid step sees. -/
theorem iblk7 (c : Dev nD) (t : Fin cfg0.N) (q : Fin 4) (j : Fin 1024) :
    iblk m c 7 t (ix2 q j) = (m ((c.tc : Thread nD τ).loc main_arg9)) (ix2 q j) := by
  obtain ⟨e0, e1, e2, e3, e4, e5, e6, e7, e8, e9, e10, e11⟩ := idx t
  blk_ext! [iblk, V, e7]

/-- The projection weights a grid step sees. -/
theorem iblk8 (c : Dev nD) (t : Fin cfg0.N) (q : Fin 4) (l : Fin 256) (j : Fin 1024) :
    iblk m c 8 t (ix3 q l j) = (m ((c.tc : Thread nD τ).loc main_arg7)) (ix3 q l j) := by
  obtain ⟨e0, e1, e2, e3, e4, e5, e6, e7, e8, e9, e10, e11⟩ := idx t
  have he : (win0_8.blk t).view.emb (ix3 q l j) = ix3 q l j := by blk_ext [e8]
  show V m c main_v2 ((win0_8.blk t).view.emb (ix3 q l j)) = _
  rw [he]
  entry_read
  rfl

/-- The output weights a grid step sees. -/
theorem iblk9 (c : Dev nD) (t : Fin cfg0.N) (l j : Fin 1024) :
    iblk m c 9 t (ix2 l j) = (m ((c.tc : Thread nD τ).loc main_arg10)) (ix2 l j) := by
  obtain ⟨e0, e1, e2, e3, e4, e5, e6, e7, e8, e9, e10, e11⟩ := idx t
  have he : (win0_9.blk t).view.emb (ix2 l j) = ix2 l j := by blk_ext [e9]
  show V m c main_v3 ((win0_9.blk t).view.emb (ix2 l j)) = _
  rw [he]
  entry_read
  rfl

/-- The second gains a grid step sees. -/
theorem iblk10 (c : Dev nD) (t : Fin cfg0.N) (k : Fin 1024) :
    iblk m c 10 t (ix2 0 k) = (m ((c.tc : Thread nD τ).loc main_arg6)) (ix1 k) := by
  obtain ⟨e0, e1, e2, e3, e4, e5, e6, e7, e8, e9, e10, e11⟩ := idx t
  have he : (win0_10.blk t).view.emb (ix2 0 k) = ix2 0 k := by blk_ext [e10]
  show V m c main_v4 ((win0_10.blk t).view.emb (ix2 0 k)) = _
  rw [he]
  entry_read
  pointwise

/-- The result array after the run is the reference's. -/
theorem final_eq (c : Dev nD) :
    (dats m 0 c).arrAt 11 cfg0.N = MergeRefIdeal.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats m 0 c).arrAt_eq_of_covers 11 _ (by decide +kernel) fun t hf y => ?_
  blk_simp
  rw [after0_11]
  obtain ⟨e0, e1, e2, e3, e4, e5, e6, e7, e8, e9, e10, e11⟩ := idx t
  obtain ⟨b, hb⟩ : ∃ b : Fin 64, (grid0.coords t 0).val = b.val := ⟨grid0.coords t 0, rfl⟩
  rw [hb] at e11
  idx_vars y
  have he : ((View.whole main_v5).slice (win0_11.rect t)).emb (ix2 y0 y1) = ix2 ⟨b.val * 512 + y0.val, by omega⟩ y1 := by
    blk_ext [e11]
  rw [he]
  exact block_eq _ _ _ _ _ _ _ _ _ _ _ _ _ _ _ _ _ _ _ _ _ _ b (fun r k => iblk0 m c t r k b hb) (fun r k => iblk1 m c t r k b hb) (fun r k => iblk2 m c t r k b hb)
    (fun r k => iblk3 m c t r k b hb) (fun r k => iblk4 m c t r k b hb) (iblk5 m c t) (iblk6 m c t) (iblk7 m c t) (iblk8 m c t) (iblk9 m c t) (iblk10 m c t) y0 y1

end Cert.MergeIdeal

end
-- ==== Proof.Math.Decay.lean ====
/- The log-decay of a gate: its log-sigmoid over a temperature, over the extended reals. -/
module

public import Idealize.ShloMosaic.Lib.Pointwise

@[expose] public section

set_option maxRecDepth 16384

noncomputable section

namespace Cert.Decay

open Idealize.ShloMosaic

/-- The log-sigmoid of `v` over sixteen. -/
def logDecay (v : EReal) : EReal :=
  Ideal.div (-(max (-v) 0 + Ideal.log1p (Ideal.exp (-(max (-v) (- -v)))))) (Ideal.ofBits .f32 0x41800000#32)

/-- The exponential is not negative. -/
theorem exp_nonneg (v : EReal) : 0 ≤ Ideal.exp v := by
  induction v with
  | bot => exact le_refl _
  | top => exact le_top
  | coe r => exact EReal.coe_nonneg.mpr (Real.exp_pos r).le

/-- The logarithm of one plus a value that is not negative is not the least. -/
theorem log1p_ne_bot {v : EReal} (h : 0 ≤ v) : Ideal.log1p v ≠ ⊥ := by
  rw [Ideal.log1p]
  induction v with
  | bot => exact absurd h (by simp)
  | top => rw [show (1 : EReal) + ⊤ = ⊤ from EReal.coe_add_top 1]; exact top_ne_bot
  | coe r =>
    have hr : 0 ≤ r := EReal.coe_nonneg.mp h
    have e : (1 : EReal) + (r : EReal) = ((1 + r : ℝ) : EReal) := by norm_cast
    rw [e]
    show (if 1 + r ≤ 0 then (⊥ : EReal) else ((Real.log (1 + r) : ℝ) : EReal)) ≠ ⊥
    rw [if_neg (by linarith)]
    exact EReal.coe_ne_bot _

/-- The word of sixteen. -/
theorem ofBits_sixteen : Ideal.ofBits FTy.f32 0x41800000#32 = ((16 : ℝ) : EReal) := by
  simp [Ideal.ofBits, Ideal.ieee, -EReal.coe_mul]; norm_num

/-- The word of a sixteenth. -/
theorem ofBits_sixteenth : Ideal.ofBits FTy.f32 0x3D800000#32 = ((1 / 16 : ℝ) : EReal) := by
  simp [Ideal.ofBits, Ideal.ieee, -EReal.coe_mul]; norm_num

/-- The same from the smaller of `v` and zero, times a sixteenth. -/
theorem logDecay_eq (v : EReal) :
    (min v 0 - Ideal.log1p (Ideal.exp (0 - max v (-v)))) * Ideal.ofBits FTy.f32 0x3D800000#32 = logDecay v := by
  rw [logDecay, ofBits_sixteen, ofBits_sixteenth, Ideal.div_coe (by norm_num)]
  congr 1
  rw [neg_neg, max_comm (-v) v, zero_sub,
    EReal.neg_add (.inl (ne_of_gt (lt_of_lt_of_le EReal.bot_lt_zero (le_max_right _ _)))) (.inr (log1p_ne_bot (exp_nonneg _)))]
  congr 1
  rcases le_total v 0 with h | h
  · rw [min_eq_left h, max_eq_left (EReal.neg_nonneg.mpr h), neg_neg]
  · rw [min_eq_right h, max_eq_right ((by simpa using EReal.neg_le_neg_iff.mpr h)), neg_zero]

end Cert.Decay

end
-- ==== Proof.Math.Pieces.lean ====
/- A buffer of two axes written block by block, read at an index: the newest block holding the index answers. -/
module

public import Idealize.ShloMosaic.Lib.Pointwise
public import Idealize.ShloMosaic.Lib.WritesUnit
public import Idealize.ShloMosaic.Lib.Pipeline.ValueKit

@[expose] public section

set_option maxRecDepth 16384

noncomputable section

namespace Cert.Pieces

open Idealize.ShloMosaic

variable {e : EltTy} {n0 n1 : Nat}

/-- An index outside the newest block. -/
theorem canon_miss (o0 o1 s0 s1 : Nat) (inb) (w : (Rect.unit (s := ⟨2, ![n0, n1]⟩) ![o0, o1] ![s0, s1] inb).shape.Idx → Elt Ideal e)
    (L : List (View.Piece (Elt Ideal) ⟨2, ![n0, n1]⟩ e)) (a : Fin n0) (b : Fin n1)
    (h : a.val < o0 ∨ o0 + s0 ≤ a.val ∨ b.val < o1 ∨ o1 + s1 ≤ b.val) :
    View.canon ((⟨Rect.unit ![o0, o1] ![s0, s1] inb, w⟩ : View.Piece (Elt Ideal) ⟨2, ![n0, n1]⟩ e) :: L) (ix2 a b) = View.canon L (ix2 a b) := by
  refine View.canon_cons_of_not_mem _ L ?_
  rw [Rect.mem_set_unit]
  intro hall
  have h0 : o0 ≤ a.val ∧ a.val < o0 + s0 := hall 0
  have h1 : o1 ≤ b.val ∧ b.val < o1 + s1 := hall 1
  omega

/-- An index inside the newest block. -/
theorem canon_hit (o0 o1 s0 s1 : Nat) (inb) (w : (Rect.unit (s := ⟨2, ![n0, n1]⟩) ![o0, o1] ![s0, s1] inb).shape.Idx → Elt Ideal e)
    (L : List (View.Piece (Elt Ideal) ⟨2, ![n0, n1]⟩ e)) (a : Fin n0) (b : Fin n1) (x : Fin s0) (y : Fin s1)
    (h0 : a.val = o0 + x.val) (h1 : b.val = o1 + y.val) :
    View.canon ((⟨Rect.unit ![o0, o1] ![s0, s1] inb, w⟩ : View.Piece (Elt Ideal) ⟨2, ![n0, n1]⟩ e) :: L) (ix2 a b) = w (@ix2 s0 s1 x y) := by
  have he : (Rect.unit (s := ⟨2, ![n0, n1]⟩) ![o0, o1] ![s0, s1] inb).emb (@ix2 s0 s1 x y) = ix2 a b := by
    funext c
    match c with
    | ⟨0, _⟩ => exact Fin.ext (by show o0 + 1 * x.val = a.val; omega)
    | ⟨1, _⟩ => exact Fin.ext (by show o1 + 1 * y.val = b.val; omega)
  rw [← he]
  exact View.canon_cons_emb _ w L _

variable {sig : RefSig} {κ : Kind} {sp : Space} (v : View sig κ sp ⟨2, ![n0, n1]⟩ e) (f : v.ty.Contents (Elt Ideal))

/-- An index outside the newest block written over some contents. -/
theorem read_miss (o0 o1 s0 s1 : Nat) (inb) (w : (Rect.unit (s := ⟨2, ![n0, n1]⟩) ![o0, o1] ![s0, s1] inb).shape.Idx → Elt Ideal e)
    (L : List (View.Piece (Elt Ideal) ⟨2, ![n0, n1]⟩ e)) (a : Fin n0) (b : Fin n1)
    (h : a.val < o0 ∨ o0 + s0 ≤ a.val ∨ b.val < o1 ∨ o1 + s1 ≤ b.val) :
    v.read (Elt Ideal) (v.writes (Elt Ideal) f ((⟨Rect.unit ![o0, o1] ![s0, s1] inb, w⟩ : View.Piece (Elt Ideal) ⟨2, ![n0, n1]⟩ e) :: L)) (ix2 a b)
      = v.read (Elt Ideal) (v.writes (Elt Ideal) f L) (ix2 a b) := by
  by_cases h0 : a.val < o0 ∨ o0 + s0 ≤ a.val
  · exact View.read_writes_cons_unit_of_not_mem v f inb w L (ix2 a b) rfl 0 h0
  · refine View.read_writes_cons_unit_of_not_mem v f inb w L (ix2 a b) rfl 1 ?_
    show b.val < o1 ∨ o1 + s1 ≤ b.val
    omega

/-- An index inside the newest block written over some contents. -/
theorem read_hit (o0 o1 s0 s1 : Nat) (inb) (w : (Rect.unit (s := ⟨2, ![n0, n1]⟩) ![o0, o1] ![s0, s1] inb).shape.Idx → Elt Ideal e)
    (L : List (View.Piece (Elt Ideal) ⟨2, ![n0, n1]⟩ e)) (a : Fin n0) (b : Fin n1) (x : Fin s0) (y : Fin s1)
    (h0 : a.val = o0 + x.val) (h1 : b.val = o1 + y.val) :
    v.read (Elt Ideal) (v.writes (Elt Ideal) f ((⟨Rect.unit ![o0, o1] ![s0, s1] inb, w⟩ : View.Piece (Elt Ideal) ⟨2, ![n0, n1]⟩ e) :: L)) (ix2 a b)
      = w (@ix2 s0 s1 x y) := by
  refine View.read_writes_cons_unit_of_mem v f inb w L (ix2 a b) (@ix2 s0 s1 x y) rfl fun c => ?_
  match c with
  | ⟨0, _⟩ => exact h0
  | ⟨1, _⟩ => exact h1

/-- A load through a block of a written buffer. -/
theorem readCov_at (o0 o1 s0 s1 : Nat) (inb : ∀ a, (![o0, o1] : Fin 2 → Nat) a + (![s0, s1] : Fin 2 → Nat) a ≤ (![n0, n1] : Fin 2 → Nat) a)
    (L : List (View.Piece (Elt Ideal) ⟨2, ![n0, n1]⟩ e)) (x : Fin s0) (y : Fin s1) (a : Fin n0) (b : Fin n1)
    (h0 : a.val = o0 + x.val) (h1 : b.val = o1 + y.val) :
    v.readCov L (Rect.unit (s := ⟨2, ![n0, n1]⟩) ![o0, o1] ![s0, s1] inb).toLoadRect (@ix2 s0 s1 x y) = View.canon L (ix2 a b) := by
  rw [View.readCov_eq_canon']
  refine congrArg (View.canon L) (funext fun c => ?_)
  match c with
  | ⟨0, _⟩ => exact Fin.ext (by show o0 + 1 * x.val = a.val; omega)
  | ⟨1, _⟩ => exact Fin.ext (by show o1 + 1 * y.val = b.val; omega)

/-- A load through a block of known contents. -/
theorem ld_at (o0 o1 s0 s1 : Nat) (inb : ∀ a, (![o0, o1] : Fin 2 → Nat) a + (![s0, s1] : Fin 2 → Nat) a ≤ (![n0, n1] : Fin 2 → Nat) a)
    (X : (⟨2, ![n0, n1]⟩ : Shape).Idx → Elt Ideal e) (x : Fin s0) (y : Fin s1) (a : Fin n0) (b : Fin n1)
    (h0 : a.val = o0 + x.val) (h1 : b.val = o1 + y.val) :
    View.ld X (Rect.unit (s := ⟨2, ![n0, n1]⟩) ![o0, o1] ![s0, s1] inb) (@ix2 s0 s1 x y) = X (ix2 a b) := by
  refine congrArg X (funext fun c => ?_)
  match c with
  | ⟨0, _⟩ => exact Fin.ext (by show o0 + 1 * x.val = a.val; omega)
  | ⟨1, _⟩ => exact Fin.ext (by show o1 + 1 * y.val = b.val; omega)

section three

variable {p0 p1 p2 : Nat}

/-- An index outside the newest block, of three axes. -/
theorem canon_miss3 (o1 s1 : Nat) (inb) (w : (Rect.unit (s := ⟨3, ![p0, p1, p2]⟩) ![0, o1, 0] ![p0, s1, p2] inb).shape.Idx → Elt Ideal e)
    (L : List (View.Piece (Elt Ideal) ⟨3, ![p0, p1, p2]⟩ e)) (a : Fin p0) (b : Fin p1) (c : Fin p2)
    (h : b.val < o1 ∨ o1 + s1 ≤ b.val) :
    View.canon ((⟨Rect.unit ![0, o1, 0] ![p0, s1, p2] inb, w⟩ : View.Piece (Elt Ideal) ⟨3, ![p0, p1, p2]⟩ e) :: L) (ix3 a b c) = View.canon L (ix3 a b c) := by
  refine View.canon_cons_of_not_mem _ L ?_
  rw [Rect.mem_set_unit]
  intro hall
  have h1 : o1 ≤ b.val ∧ b.val < o1 + s1 := hall 1
  omega

/-- An index inside the newest block, of three axes. -/
theorem canon_hit3 (o1 s1 : Nat) (inb) (w : (Rect.unit (s := ⟨3, ![p0, p1, p2]⟩) ![0, o1, 0] ![p0, s1, p2] inb).shape.Idx → Elt Ideal e)
    (L : List (View.Piece (Elt Ideal) ⟨3, ![p0, p1, p2]⟩ e)) (a : Fin p0) (b : Fin p1) (c : Fin p2) (y : Fin s1)
    (h1 : b.val = o1 + y.val) :
    View.canon ((⟨Rect.unit ![0, o1, 0] ![p0, s1, p2] inb, w⟩ : View.Piece (Elt Ideal) ⟨3, ![p0, p1, p2]⟩ e) :: L) (ix3 a b c) = w (@ix3 p0 s1 p2 a y c) := by
  have he : (Rect.unit (s := ⟨3, ![p0, p1, p2]⟩) ![0, o1, 0] ![p0, s1, p2] inb).emb (@ix3 p0 s1 p2 a y c) = ix3 a b c := by
    funext d
    match d with
    | ⟨0, _⟩ => exact Fin.ext (by show 0 + 1 * a.val = a.val; omega)
    | ⟨1, _⟩ => exact Fin.ext (by show o1 + 1 * y.val = b.val; omega)
    | ⟨2, _⟩ => exact Fin.ext (by show 0 + 1 * c.val = c.val; omega)
  rw [← he]
  exact View.canon_cons_emb _ w L _

end three

section scratch

variable (i1 i2 i3)
  (u : (Rect.unit (s := ⟨2, ![520, 768]⟩) ![8, 512] ![512, 256] i1).shape.Idx → Elt Ideal (.f32 : EltTy))
  (w : (Rect.unit (s := ⟨2, ![520, 768]⟩) ![8, 0] ![512, 512] i2).shape.Idx → Elt Ideal (.f32 : EltTy))
  (z : (Rect.unit (s := ⟨2, ![520, 768]⟩) ![0, 0] ![8, 768] i3).shape.Idx → Elt Ideal (.f32 : EltTy))
  (q : Fin 512 → Fin 768 → EReal) (old : Fin 8 → Fin 768 → EReal)

/-- A row behind eight older rows: the older rows first, then the rows themselves. -/
def ext (old : Fin 8 → Fin 768 → EReal) (q : Fin 512 → Fin 768 → EReal) (a : Fin 520) (b : Fin 768) : EReal :=
  if h : a.val < 8 then old ⟨a.val, h⟩ b else q ⟨a.val - 8, by omega⟩ b

/-- Rows written in two column blocks, read back past the older rows. -/
theorem rows_canon (L : List (View.Piece (Elt Ideal) ⟨2, ![520, 768]⟩ (.f32 : EltTy)))
    (hu : ∀ (r : Fin 512) (j : Fin 256), u (@ix2 512 256 r j) = q r ⟨512 + j.val, by omega⟩)
    (hw : ∀ (r : Fin 512) (j : Fin 512), w (@ix2 512 512 r j) = q r ⟨j.val, by omega⟩)
    (a : Fin 520) (b : Fin 768) (h : 8 ≤ a.val) :
    View.canon ((⟨Rect.unit ![8, 512] ![512, 256] i1, u⟩ : View.Piece (Elt Ideal) ⟨2, ![520, 768]⟩ (.f32 : EltTy))
      :: (⟨Rect.unit ![8, 0] ![512, 512] i2, w⟩ : View.Piece (Elt Ideal) ⟨2, ![520, 768]⟩ (.f32 : EltTy)) :: L) (ix2 a b) = ext old q a b := by
  have hn : ¬ a.val < 8 := by omega
  by_cases hb : b.val < 512
  · refine (canon_miss 8 512 512 256 i1 u _ a b (by omega)).trans ((canon_hit 8 0 512 512 i2 w _ a b ⟨a.val - 8, by omega⟩ ⟨b.val, hb⟩ (by show a.val = 8 + (a.val - 8); omega) (by show b.val = 0 + b.val; omega)).trans ?_)
    rw [hw, ext, dif_neg hn]
  · refine (canon_hit 8 512 512 256 i1 u _ a b ⟨a.val - 8, by omega⟩ ⟨b.val - 512, by omega⟩ (by show a.val = 8 + (a.val - 8); omega) (by show b.val = 512 + (b.val - 512); omega)).trans ?_
    rw [hu, ext, dif_neg hn]
    exact congrArg (q _) (Fin.ext (by show 512 + (b.val - 512) = b.val; omega))

/-- Rows written behind eight zero rows. -/
theorem rows_zero (hz : ∀ (r : Fin 8) (j : Fin 768), z (@ix2 8 768 r j) = 0)
    (hu : ∀ (r : Fin 512) (j : Fin 256), u (@ix2 512 256 r j) = q r ⟨512 + j.val, by omega⟩)
    (hw : ∀ (r : Fin 512) (j : Fin 512), w (@ix2 512 512 r j) = q r ⟨j.val, by omega⟩)
    (a : Fin 520) (b : Fin 768) :
    View.canon [(⟨Rect.unit ![8, 512] ![512, 256] i1, u⟩ : View.Piece (Elt Ideal) ⟨2, ![520, 768]⟩ (.f32 : EltTy)),
      (⟨Rect.unit ![8, 0] ![512, 512] i2, w⟩ : View.Piece (Elt Ideal) ⟨2, ![520, 768]⟩ (.f32 : EltTy)),
      (⟨Rect.unit ![0, 0] ![8, 768] i3, z⟩ : View.Piece (Elt Ideal) ⟨2, ![520, 768]⟩ (.f32 : EltTy))] (ix2 a b) = ext (fun _ _ => 0) q a b := by
  by_cases h : a.val < 8
  · refine (canon_miss 8 512 512 256 i1 u _ a b (by omega)).trans ((canon_miss 8 0 512 512 i2 w _ a b (by omega)).trans
      ((canon_hit 0 0 8 768 i3 z _ a b ⟨a.val, h⟩ b (by show a.val = 0 + a.val; omega) (by omega)).trans ?_))
    rw [hz, ext, dif_pos h]
  · exact rows_canon i1 i2 u w q _ _ hu hw a b (by omega)

variable (v : View sig κ sp ⟨2, ![520, 768]⟩ (.f32 : EltTy)) (f : v.ty.Contents (Elt Ideal))

/-- Rows written behind eight older rows of some contents. -/
theorem rows_read (hf : ∀ (a : Fin 8) (b : Fin 768), v.read (Elt Ideal) f (ix2 ⟨a.val, by omega⟩ b) = old a b)
    (hu : ∀ (r : Fin 512) (j : Fin 256), u (@ix2 512 256 r j) = q r ⟨512 + j.val, by omega⟩)
    (hw : ∀ (r : Fin 512) (j : Fin 512), w (@ix2 512 512 r j) = q r ⟨j.val, by omega⟩)
    (a : Fin 520) (b : Fin 768) :
    v.read (Elt Ideal) (v.writes (Elt Ideal) f [(⟨Rect.unit ![8, 512] ![512, 256] i1, u⟩ : View.Piece (Elt Ideal) ⟨2, ![520, 768]⟩ (.f32 : EltTy)),
      (⟨Rect.unit ![8, 0] ![512, 512] i2, w⟩ : View.Piece (Elt Ideal) ⟨2, ![520, 768]⟩ (.f32 : EltTy))]) (ix2 a b) = ext old q a b := by
  by_cases h : a.val < 8
  · refine (read_miss v f 8 512 512 256 i1 u _ a b (by omega)).trans ((read_miss v f 8 0 512 512 i2 w _ a b (by omega)).trans ?_)
    rw [ext, dif_pos h, ← hf ⟨a.val, h⟩ b]
    rfl
  · have hn := h
    by_cases hb : b.val < 512
    · refine (read_miss v f 8 512 512 256 i1 u _ a b (by omega)).trans ((read_hit v f 8 0 512 512 i2 w _ a b ⟨a.val - 8, by omega⟩ ⟨b.val, hb⟩ (by show a.val = 8 + (a.val - 8); omega) (by show b.val = 0 + b.val; omega)).trans ?_)
      rw [hw, ext, dif_neg hn]
    · refine (read_hit v f 8 512 512 256 i1 u _ a b ⟨a.val - 8, by omega⟩ ⟨b.val - 512, by omega⟩ (by show a.val = 8 + (a.val - 8); omega) (by show b.val = 512 + (b.val - 512); omega)).trans ?_
      rw [hu, ext, dif_neg hn]
      exact congrArg (q _) (Fin.ext (by show 512 + (b.val - 512) = b.val; omega))

end scratch

end Cert.Pieces

end
-- ==== Proof.InprojIdeal.Payloads.lean ====
/- What the input projections' kernel computes on its blocks, read at an index over the extended reals. -/
module

public import proofs.«01_k».proof.Proof.Gen.InprojIdeal.Value
public import proofs.«01_k».proof.Proof.Math.Rms
public import proofs.«01_k».proof.Proof.Math.Decay
public import proofs.«01_k».proof.Proof.Math.Pieces
public import Idealize.ShloMosaic.Lib.Pipeline.ValueKit

@[expose] public section

set_option maxRecDepth 16384

noncomputable section

namespace Cert.InprojIdeal

open Idealize.ShloMosaic Idealize.ShloMosaic.TcCoe Idealize.SL.Sem Cert.InprojIdeal.Gen

/-- The normalized rows, at an index. -/
theorem pay2_apply (x : Vec Ideal S512x1024 .f32) (g : Vec Ideal S1x1024 .f32) (r : Fin 512) (j : Fin 1024) :
    k0_pay2 x g (ix2 r j) = Rms.rms (fun k => x (ix2 r k)) (g (ix2 0 j)) j := by
  pointwise [k0_pay2]
  rfl

/-- The third branch's columns, at an index. -/
theorem pay6_apply (x : Vec Ideal S512x1024 .f32) (g : Vec Ideal S1x1024 .f32) (W : Vec Ideal S1024x896 .bf16) (r : Fin 512) (j : Fin 768) :
    k0_pay6 x g W (ix2 r j) = ∑ k : Fin 1024, k0_pay2 x g (ix2 r k) * W (ix2 k ⟨j.val, by omega⟩) := by
  pointwise [k0_pay6, k0_pay5]

/-- The small columns, at an index. -/
theorem pay7_apply (x : Vec Ideal S512x1024 .f32) (g : Vec Ideal S1x1024 .f32) (W : Vec Ideal S1024x896 .bf16) (r : Fin 512) (j : Fin 128) :
    k0_pay7 x g W (ix2 r j) = ∑ k : Fin 1024, k0_pay2 x g (ix2 r k) * W (ix2 k ⟨768 + j.val, by omega⟩) := by
  pointwise [k0_pay7, k0_pay5]

/-- The last branch's columns, at an index. -/
theorem pay8_apply (H : FVec Ideal S512x1024 .bf16) (W : Vec Ideal S1024x768 .bf16) (r : Fin 512) (j : Fin 768) :
    k0_pay8 H W (ix2 r j) = ∑ k : Fin 1024, H (ix2 r k) * W (ix2 k j) := by
  pointwise [k0_pay8]

/-- The first columns to convolve, at an index. -/
theorem pay10_apply (H : FVec Ideal S512x1024 .bf16) (W : Vec Ideal S1024x512 .bf16) (r : Fin 512) (j : Fin 512) :
    k0_pay10 H W (ix2 r j) = ∑ k : Fin 1024, H (ix2 r k) * W (ix2 k j) := by
  pointwise [k0_pay10]

/-- The last columns to convolve, at an index. -/
theorem pay96_apply (H : FVec Ideal S512x1024 .bf16) (W : Vec Ideal S1024x512 .bf16) (r : Fin 512) (j : Fin 256) :
    k0_pay96 H W (ix2 r j) = ∑ k : Fin 1024, H (ix2 r k) * W (ix2 k ⟨j.val, by omega⟩) := by
  pointwise [k0_pay96, k0_pay95]

/-- The first branch's gate columns, at an index. -/
theorem pay97_apply (H : FVec Ideal S512x1024 .bf16) (W : Vec Ideal S1024x512 .bf16) (r : Fin 512) (j : Fin 256) :
    k0_pay97 H W (ix2 r j) = ∑ k : Fin 1024, H (ix2 r k) * W (ix2 k ⟨256 + j.val, by omega⟩) := by
  pointwise [k0_pay97, k0_pay95]

/-- The decay gate before its log-sigmoid, at an index. -/
def gate (v : FVec Ideal S512x128 .f32) (x4 : Vec Ideal S128x128 .bf16) (x5 : Vec Ideal S1x128 .f32) (r : Fin 512) (j : Fin 128) : EReal :=
  (∑ l : Fin 128, v (ix2 r l) * x4 (ix2 l j)) + x5 (ix2 0 j)

/-- The log-sigmoid of the decay gate, at an index. -/
theorem pay133_apply (v : FVec Ideal S512x128 .f32) (x4 : Vec Ideal S128x128 .bf16) (x5 : Vec Ideal S1x128 .f32) (r : Fin 512) (j : Fin 128) :
    k0_pay133 v x4 x5 (ix2 r j) = min (gate v x4 x5 r j) 0 - Ideal.log1p (Ideal.exp (0 - max (gate v x4 x5 r j) (-(gate v x4 x5 r j)))) := by
  pointwise [k0_pay133, gate]
  rfl

/-- The log-decay, at an index. -/
theorem pay1_apply (v : FVec Ideal S512x128 .f32) (x4 : Vec Ideal S128x128 .bf16) (x5 : Vec Ideal S1x128 .f32) (r : Fin 512) (j : Fin 128) :
    k0_pay1 (k0_pay133 v x4 x5) (FloatOps.ofBits .f32 1031798784#32) (ix2 r j) = Decay.logDecay (gate v x4 x5 r j) := by
  pointwise [k0_pay1]
  rw [pay133_apply]
  exact Decay.logDecay_eq _

/-- The zero rows before a sequence. -/
theorem pay3_apply (r : Fin 8) (j : Fin 768) : (k0_pay3 : FVec Ideal S8x768 .f32) (ix2 r j) = 0 := by
  pointwise [k0_pay3]

/-- Four taps summed and gated by their own sigmoid. -/
def mix (a0 t0 a1 t1 a2 t2 a3 t3 : EReal) : EReal :=
  (a0 * t0 + a1 * t1 + a2 * t2 + a3 * t3) * Ideal.logistic (a0 * t0 + a1 * t1 + a2 * t2 + a3 * t3)

variable (a0 a1 a2 a3 : Vec Ideal S1x256 .f32) (t0 t1 t2 t3 : Vec Ideal S512x256 .f32) (r : Fin 512) (j : Fin 256)

/-- The first group of convolved columns, at an index. -/
theorem pay99_apply : k0_pay99 k0_pay98 a0 t0 a1 t1 a2 t2 a3 t3 (ix2 r j)
    = mix (a0 (ix2 0 j)) (t0 (ix2 r j)) (a1 (ix2 0 j)) (t1 (ix2 r j)) (a2 (ix2 0 j)) (t2 (ix2 r j)) (a3 (ix2 0 j)) (t3 (ix2 r j)) := by
  pointwise [k0_pay99, k0_pay98, mix]

/-- The second group of convolved columns, at an index. -/
theorem pay102_apply : k0_pay102 (k0_pay101 a0 t0) a1 t1 a2 t2 a3 t3 (ix2 r j)
    = mix (a0 (ix2 0 j)) (t0 (ix2 r j)) (a1 (ix2 0 j)) (t1 (ix2 r j)) (a2 (ix2 0 j)) (t2 (ix2 r j)) (a3 (ix2 0 j)) (t3 (ix2 r j)) := by
  pointwise [k0_pay102, k0_pay101, mix]

/-- The third group of convolved columns, at an index. -/
theorem pay105_apply : k0_pay105 (k0_pay104 a0 t0 a1 t1) a2 t2 a3 t3 (ix2 r j)
    = mix (a0 (ix2 0 j)) (t0 (ix2 r j)) (a1 (ix2 0 j)) (t1 (ix2 r j)) (a2 (ix2 0 j)) (t2 (ix2 r j)) (a3 (ix2 0 j)) (t3 (ix2 r j)) := by
  pointwise [k0_pay105, k0_pay104, mix]

/-- The rows kept for the next block, first group. -/
theorem pay100_apply (v : Vec Ideal S8x256 .f32) (a : Fin 8) : k0_pay100 v (ix2 a j) = v (ix2 a j) := by
  pointwise [k0_pay100]

/-- The rows kept for the next block, second group. -/
theorem pay103_apply (v : Vec Ideal S8x256 .f32) (a : Fin 8) : k0_pay103 v (ix2 a j) = v (ix2 a j) := by
  pointwise [k0_pay103]

/-- The rows kept for the next block, third group. -/
theorem pay106_apply (v : Vec Ideal S8x256 .f32) (a : Fin 8) : k0_pay106 v (ix2 a j) = v (ix2 a j) := by
  pointwise [k0_pay106]

end Cert.InprojIdeal

end
-- ==== Proof.InprojIdeal.Values.lean ====
/- The last branch's values as the input projections' kernel lays them out, read at an index. -/
module

public import proofs.«01_k».proof.Proof.Gen.InprojIdeal.Value
public import proofs.«01_k».proof.Proof.Math.Rms
public import proofs.«01_k».proof.Proof.Math.Decay
public import proofs.«01_k».proof.Proof.Math.Pieces
public import Idealize.ShloMosaic.Lib.Pipeline.ValueKit

@[expose] public section

set_option maxRecDepth 16384

noncomputable section

namespace Cert.InprojIdeal

open Idealize.ShloMosaic Idealize.ShloMosaic.TcCoe Idealize.SL.Sem Cert.InprojIdeal.Gen

/-- The one row of ones among zeros. -/
theorem pay86_apply (a : Fin 16) (r : Fin 512) : (k0_pay86 : FVec Ideal S16x512 .bf16) (ix2 a r) = if a.val = 0 then 1 else 0 := by
  pointwise [k0_pay86]
  fin_cases a <;> first | rfl | simp [Scalar.select, IntOp.cmpi]

/-- Head 0's values. -/
theorem val0_apply (D : FVec Ideal S512x768 .f32) (d : Fin 64) (r : Fin 512) : (k0_pay87 D) (ix3 0 d r) = D (ix2 r ⟨512 + (0 + d.val), by omega⟩) := by
  pointwise [k0_pay87, k0_pay85]

/-- Head 0's row of ones. -/
theorem one0_apply (a : Fin 16) (r : Fin 512) : (k0_pay88 : FVec Ideal S1x16x512 .bf16) (ix3 0 a r) = if a.val = 0 then 1 else 0 := by
  rw [← pay86_apply a r]
  pointwise [k0_pay88]

/-- Head 1's values. -/
theorem val1_apply (D : FVec Ideal S512x768 .f32) (d : Fin 64) (r : Fin 512) : (k0_pay89 D) (ix3 0 d r) = D (ix2 r ⟨512 + (64 + d.val), by omega⟩) := by
  pointwise [k0_pay89, k0_pay85]

/-- Head 1's row of ones. -/
theorem one1_apply (a : Fin 16) (r : Fin 512) : (k0_pay90 k0_pay86 : FVec Ideal S1x16x512 .bf16) (ix3 0 a r) = if a.val = 0 then 1 else 0 := by
  rw [← pay86_apply a r]
  pointwise [k0_pay90]

/-- Head 2's values. -/
theorem val2_apply (D : FVec Ideal S512x768 .f32) (d : Fin 64) (r : Fin 512) : (k0_pay91 (k0_pay85 D)) (ix3 0 d r) = D (ix2 r ⟨512 + (128 + d.val), by omega⟩) := by
  pointwise [k0_pay91, k0_pay85]

/-- Head 2's row of ones. -/
theorem one2_apply (a : Fin 16) (r : Fin 512) : (k0_pay92 k0_pay86 : FVec Ideal S1x16x512 .bf16) (ix3 0 a r) = if a.val = 0 then 1 else 0 := by
  rw [← pay86_apply a r]
  pointwise [k0_pay92]

/-- Head 3's values. -/
theorem val3_apply (D : FVec Ideal S512x768 .f32) (d : Fin 64) (r : Fin 512) : (k0_pay93 (k0_pay85 D)) (ix3 0 d r) = D (ix2 r ⟨512 + (192 + d.val), by omega⟩) := by
  pointwise [k0_pay93, k0_pay85]

/-- Head 3's row of ones. -/
theorem one3_apply (a : Fin 16) (r : Fin 512) : (k0_pay94 k0_pay86 : FVec Ideal S1x16x512 .bf16) (ix3 0 a r) = if a.val = 0 then 1 else 0 := by
  rw [← pay86_apply a r]
  pointwise [k0_pay94]

end Cert.InprojIdeal

end
-- ==== Proof.InprojIdeal.Blocks.lean ====
/- The blocks of the third and the last branch that the input projections' kernel stores at a grid step. -/
module

public import proofs.«01_k».proof.Proof.Gen.InprojIdeal.Value
public import proofs.«01_k».proof.Proof.InprojIdeal.Payloads
public import proofs.«01_k».proof.Proof.InprojIdeal.Values
public import proofs.«01_k».proof.Proof.Math.Decay
public import proofs.«01_k».proof.Proof.Math.Pieces
public import Idealize.ShloMosaic.Lib.Pipeline.ValueKit

@[expose] public section

set_option maxRecDepth 16384

noncomputable section

namespace Cert.InprojIdeal

open Idealize.ShloMosaic Idealize.ShloMosaic.TcCoe Idealize.SL.Sem Cert.InprojIdeal.Gen

/-- A projected column of a block's normalized rows, from the blocks of the arrays. -/
def col (x0 : Vec Ideal S512x1024 .f32) (x1 : Vec Ideal S1x1024 .f32) (x2 : Vec Ideal S1024x3200 .bf16) (r : Fin 512) (j : Fin 3200) : EReal :=
  ∑ k : Fin 1024, k0_pay2 x0 x1 (ix2 r k) * x2 (ix2 k j)

variable (x0 : Vec Ideal S512x1024 .f32) (x1 : Vec Ideal S1x1024 .f32) (x2 : Vec Ideal S1024x3200 .bf16) (x3 : Vec Ideal S4x768 .f32) (x4 : Vec Ideal S128x128 .bf16) (x5 : Vec Ideal S1x128 .f32)

/-- The third branch's columns. -/
theorem colC (inb) (r : Fin 512) (j : Fin 768) :
    k0_pay6 x0 x1 (View.ld x2 (Rect.unit (s := S1024x3200) ![0, 1536] ![1024, 896] inb)) (ix2 r j) = col x0 x1 x2 r ⟨1536 + j.val, by omega⟩ :=
  (pay6_apply x0 x1 _ r j).trans (Finset.sum_congr rfl fun k _ => congrArg (fun z : EReal => k0_pay2 x0 x1 (ix2 r k) * z)
    (Pieces.ld_at 0 1536 1024 896 inb x2 k ⟨j.val, by omega⟩ k _ (by omega) (by show 1536 + j.val = 1536 + j.val; omega)))

/-- The small columns. -/
theorem colS (inb) (r : Fin 512) (j : Fin 128) :
    k0_pay7 x0 x1 (View.ld x2 (Rect.unit (s := S1024x3200) ![0, 1536] ![1024, 896] inb)) (ix2 r j) = col x0 x1 x2 r ⟨2304 + j.val, by omega⟩ :=
  (pay7_apply x0 x1 _ r j).trans (Finset.sum_congr rfl fun k _ => congrArg (fun z : EReal => k0_pay2 x0 x1 (ix2 r k) * z)
    (Pieces.ld_at 0 1536 1024 896 inb x2 k ⟨768 + j.val, by omega⟩ k _ (by omega) (by show 2304 + j.val = 1536 + (768 + j.val); omega)))

/-- The last branch's columns. -/
theorem colV (inb) (r : Fin 512) (j : Fin 768) :
    k0_pay8 (k0_pay2 x0 x1) (View.ld x2 (Rect.unit (s := S1024x3200) ![0, 2432] ![1024, 768] inb)) (ix2 r j) = col x0 x1 x2 r ⟨2432 + j.val, by omega⟩ :=
  (pay8_apply _ _ r j).trans (Finset.sum_congr rfl fun k _ => congrArg (fun z : EReal => k0_pay2 x0 x1 (ix2 r k) * z)
    (Pieces.ld_at 0 2432 1024 768 inb x2 k j k _ (by omega) (by show 2432 + j.val = 2432 + j.val; omega)))

/-- The first columns to convolve. -/
theorem colLo (inb) (r : Fin 512) (j : Fin 512) :
    k0_pay10 (k0_pay2 x0 x1) (View.ld x2 (Rect.unit (s := S1024x3200) ![0, 0] ![1024, 512] inb)) (ix2 r j) = col x0 x1 x2 r ⟨0 + j.val, by omega⟩ :=
  (pay10_apply _ _ r j).trans (Finset.sum_congr rfl fun k _ => congrArg (fun z : EReal => k0_pay2 x0 x1 (ix2 r k) * z)
    (Pieces.ld_at 0 0 1024 512 inb x2 k j k _ (by omega) (by show 0 + j.val = 0 + j.val; omega)))

/-- The last columns to convolve. -/
theorem colHi (inb) (r : Fin 512) (j : Fin 256) :
    k0_pay96 (k0_pay2 x0 x1) (View.ld x2 (Rect.unit (s := S1024x3200) ![0, 512] ![1024, 512] inb)) (ix2 r j) = col x0 x1 x2 r ⟨512 + j.val, by omega⟩ :=
  (pay96_apply _ _ r j).trans (Finset.sum_congr rfl fun k _ => congrArg (fun z : EReal => k0_pay2 x0 x1 (ix2 r k) * z)
    (Pieces.ld_at 0 512 1024 512 inb x2 k ⟨j.val, by omega⟩ k _ (by omega) (by show 512 + j.val = 512 + j.val; omega)))

/-- The first branch's gate columns. -/
theorem colZ (inb) (r : Fin 512) (j : Fin 256) :
    k0_pay97 (k0_pay2 x0 x1) (View.ld x2 (Rect.unit (s := S1024x3200) ![0, 512] ![1024, 512] inb)) (ix2 r j) = col x0 x1 x2 r ⟨768 + j.val, by omega⟩ :=
  (pay97_apply _ _ r j).trans (Finset.sum_congr rfl fun k _ => congrArg (fun z : EReal => k0_pay2 x0 x1 (ix2 r k) * z)
    (Pieces.ld_at 0 512 1024 512 inb x2 k ⟨256 + j.val, by omega⟩ k _ (by omega) (by show 768 + j.val = 512 + (256 + j.val); omega)))

/-- A value of the third branch's block. -/
def blkC (r : Fin 512) (j : Fin 896) : EReal :=
  if h : j.val < 768 then col x0 x1 x2 r ⟨1536 + j.val, by omega⟩
  else Decay.logDecay ((∑ l : Fin 128, col x0 x1 x2 r ⟨2304 + l.val, by omega⟩ * x4 (ix2 l ⟨j.val - 768, by omega⟩)) + x5 (ix2 0 ⟨j.val - 768, by omega⟩))

/-- The pieces of the third branch's block, read at an index. -/
theorem canonC (i1 i2 i3 i4) (r : Fin 512) (j : Fin 896) :
    View.canon [(⟨Rect.unit ![0, 768] ![512, 128] i1, k0_pay1 (k0_pay133 (k0_pay7 x0 x1 (View.ld x2 (Rect.unit (s := S1024x3200) ![0, 1536] ![1024, 896] i3))) x4 x5) (FloatOps.ofBits .f32 1031798784#32)⟩ : View.Piece (Elt Ideal) S512x896 (.f32 : EltTy)),
      (⟨Rect.unit ![0, 0] ![512, 768] i2, k0_pay6 x0 x1 (View.ld x2 (Rect.unit (s := S1024x3200) ![0, 1536] ![1024, 896] i4))⟩ : View.Piece (Elt Ideal) S512x896 (.f32 : EltTy))] (ix2 r j)
      = blkC x0 x1 x2 x4 x5 r j := by
  by_cases h : j.val < 768
  · refine (Pieces.canon_miss 0 768 512 128 _ _ _ r j (by omega)).trans ((Pieces.canon_hit 0 0 512 768 _ _ _ r j r ⟨j.val, h⟩ (by omega) (by show j.val = 0 + j.val; omega)).trans ?_)
    rw [blkC, dif_pos h]
    exact colC x0 x1 x2 _ r _
  · refine (Pieces.canon_hit 0 768 512 128 _ _ _ r j r ⟨j.val - 768, by omega⟩ (by omega) (by show j.val = 768 + (j.val - 768); omega)).trans ?_
    rw [blkC, dif_neg h]
    refine (pay1_apply _ x4 x5 r _).trans (congrArg Decay.logDecay ?_)
    exact congrArg (fun z : EReal => z + x5 (ix2 0 ⟨j.val - 768, by omega⟩)) (Finset.sum_congr rfl fun l _ => congrArg (fun z : EReal => z * x4 (ix2 l ⟨j.val - 768, by omega⟩)) (colS x0 x1 x2 _ r l))

/-- A value of the last branch's block. -/
def blkV (h : Fin 4) (d : Fin 80) (r : Fin 512) : EReal :=
  if h' : d.val < 64 then col x0 x1 x2 r ⟨2944 + (h.val * 64 + d.val), by omega⟩ else if d.val = 64 then 1 else 0

/-- The pieces of the last branch's block, read at an index. -/
theorem canonV (i0 i1 i2 i3 i4 i5 i6 i7 i9) (h : Fin 4) (d : Fin 80) (r : Fin 512) :
    View.canon [(⟨Rect.unit ![0, 304, 0] ![1, 16, 512] i7, k0_pay94 (k0_pay86 (F := Ideal))⟩ : View.Piece (Elt Ideal) S1x320x512 (.bf16 : EltTy)),
      (⟨Rect.unit ![0, 240, 0] ![1, 64, 512] i6, k0_pay93 (k0_pay85 (k0_pay8 (k0_pay2 x0 x1) (View.ld x2 (Rect.unit (s := S1024x3200) ![0, 2432] ![1024, 768] i9))))⟩ : View.Piece (Elt Ideal) S1x320x512 (.bf16 : EltTy)),
      (⟨Rect.unit ![0, 224, 0] ![1, 16, 512] i5, k0_pay92 (k0_pay86 (F := Ideal))⟩ : View.Piece (Elt Ideal) S1x320x512 (.bf16 : EltTy)),
      (⟨Rect.unit ![0, 160, 0] ![1, 64, 512] i4, k0_pay91 (k0_pay85 (k0_pay8 (k0_pay2 x0 x1) (View.ld x2 (Rect.unit (s := S1024x3200) ![0, 2432] ![1024, 768] i9))))⟩ : View.Piece (Elt Ideal) S1x320x512 (.bf16 : EltTy)),
      (⟨Rect.unit ![0, 144, 0] ![1, 16, 512] i3, k0_pay90 (k0_pay86 (F := Ideal))⟩ : View.Piece (Elt Ideal) S1x320x512 (.bf16 : EltTy)),
      (⟨Rect.unit ![0, 80, 0] ![1, 64, 512] i2, k0_pay89 (k0_pay8 (k0_pay2 x0 x1) (View.ld x2 (Rect.unit (s := S1024x3200) ![0, 2432] ![1024, 768] i9)))⟩ : View.Piece (Elt Ideal) S1x320x512 (.bf16 : EltTy)),
      (⟨Rect.unit ![0, 64, 0] ![1, 16, 512] i1, k0_pay88 (F := Ideal)⟩ : View.Piece (Elt Ideal) S1x320x512 (.bf16 : EltTy)),
      (⟨Rect.unit ![0, 0, 0] ![1, 64, 512] i0, k0_pay87 (k0_pay8 (k0_pay2 x0 x1) (View.ld x2 (Rect.unit (s := S1024x3200) ![0, 2432] ![1024, 768] i9)))⟩ : View.Piece (Elt Ideal) S1x320x512 (.bf16 : EltTy))] (ix3 0 ⟨h.val * 80 + d.val, by omega⟩ r) = blkV x0 x1 x2 h d r := by
  by_cases hd : d.val < 64
  · rw [blkV, dif_pos hd]
    match h with
    | ⟨0, _⟩ =>
      refine (Pieces.canon_miss3 304 16 _ _ _ 0 _ r (by show 0 * 80 + d.val < 304 ∨ 304 + 16 ≤ 0 * 80 + d.val; omega)).trans ((Pieces.canon_miss3 240 64 _ _ _ 0 _ r (by show 0 * 80 + d.val < 240 ∨ 240 + 64 ≤ 0 * 80 + d.val; omega)).trans ((Pieces.canon_miss3 224 16 _ _ _ 0 _ r (by show 0 * 80 + d.val < 224 ∨ 224 + 16 ≤ 0 * 80 + d.val; omega)).trans ((Pieces.canon_miss3 160 64 _ _ _ 0 _ r (by show 0 * 80 + d.val < 160 ∨ 160 + 64 ≤ 0 * 80 + d.val; omega)).trans ((Pieces.canon_miss3 144 16 _ _ _ 0 _ r (by show 0 * 80 + d.val < 144 ∨ 144 + 16 ≤ 0 * 80 + d.val; omega)).trans ((Pieces.canon_miss3 80 64 _ _ _ 0 _ r (by show 0 * 80 + d.val < 80 ∨ 80 + 64 ≤ 0 * 80 + d.val; omega)).trans ((Pieces.canon_miss3 64 16 _ _ _ 0 _ r (by show 0 * 80 + d.val < 64 ∨ 64 + 16 ≤ 0 * 80 + d.val; omega)).trans ((Pieces.canon_hit3 0 64 _ _ _ 0 _ r ⟨d.val, hd⟩ (by show 0 * 80 + d.val = 0 + d.val; omega)).trans ?_)))))))
      refine (val0_apply _ ⟨d.val, hd⟩ r).trans ((colV x0 x1 x2 i9 r ⟨512 + (0 + d.val), by omega⟩).trans ?_)
      exact congrArg (col x0 x1 x2 r) (Fin.ext (by show 2432 + (512 + (0 + d.val)) = 2944 + (0 * 64 + d.val); omega))
    | ⟨1, _⟩ =>
      refine (Pieces.canon_miss3 304 16 _ _ _ 0 _ r (by show 1 * 80 + d.val < 304 ∨ 304 + 16 ≤ 1 * 80 + d.val; omega)).trans ((Pieces.canon_miss3 240 64 _ _ _ 0 _ r (by show 1 * 80 + d.val < 240 ∨ 240 + 64 ≤ 1 * 80 + d.val; omega)).trans ((Pieces.canon_miss3 224 16 _ _ _ 0 _ r (by show 1 * 80 + d.val < 224 ∨ 224 + 16 ≤ 1 * 80 + d.val; omega)).trans ((Pieces.canon_miss3 160 64 _ _ _ 0 _ r (by show 1 * 80 + d.val < 160 ∨ 160 + 64 ≤ 1 * 80 + d.val; omega)).trans ((Pieces.canon_miss3 144 16 _ _ _ 0 _ r (by show 1 * 80 + d.val < 144 ∨ 144 + 16 ≤ 1 * 80 + d.val; omega)).trans ((Pieces.canon_hit3 80 64 _ _ _ 0 _ r ⟨d.val, hd⟩ (by show 1 * 80 + d.val = 80 + d.val; omega)).trans ?_)))))
      refine (val1_apply _ ⟨d.val, hd⟩ r).trans ((colV x0 x1 x2 i9 r ⟨512 + (64 + d.val), by omega⟩).trans ?_)
      exact congrArg (col x0 x1 x2 r) (Fin.ext (by show 2432 + (512 + (64 + d.val)) = 2944 + (1 * 64 + d.val); omega))
    | ⟨2, _⟩ =>
      refine (Pieces.canon_miss3 304 16 _ _ _ 0 _ r (by show 2 * 80 + d.val < 304 ∨ 304 + 16 ≤ 2 * 80 + d.val; omega)).trans ((Pieces.canon_miss3 240 64 _ _ _ 0 _ r (by show 2 * 80 + d.val < 240 ∨ 240 + 64 ≤ 2 * 80 + d.val; omega)).trans ((Pieces.canon_miss3 224 16 _ _ _ 0 _ r (by show 2 * 80 + d.val < 224 ∨ 224 + 16 ≤ 2 * 80 + d.val; omega)).trans ((Pieces.canon_hit3 160 64 _ _ _ 0 _ r ⟨d.val, hd⟩ (by show 2 * 80 + d.val = 160 + d.val; omega)).trans ?_)))
      refine (val2_apply _ ⟨d.val, hd⟩ r).trans ((colV x0 x1 x2 i9 r ⟨512 + (128 + d.val), by omega⟩).trans ?_)
      exact congrArg (col x0 x1 x2 r) (Fin.ext (by show 2432 + (512 + (128 + d.val)) = 2944 + (2 * 64 + d.val); omega))
    | ⟨3, _⟩ =>
      refine (Pieces.canon_miss3 304 16 _ _ _ 0 _ r (by show 3 * 80 + d.val < 304 ∨ 304 + 16 ≤ 3 * 80 + d.val; omega)).trans ((Pieces.canon_hit3 240 64 _ _ _ 0 _ r ⟨d.val, hd⟩ (by show 3 * 80 + d.val = 240 + d.val; omega)).trans ?_)
      refine (val3_apply _ ⟨d.val, hd⟩ r).trans ((colV x0 x1 x2 i9 r ⟨512 + (192 + d.val), by omega⟩).trans ?_)
      exact congrArg (col x0 x1 x2 r) (Fin.ext (by show 2432 + (512 + (192 + d.val)) = 2944 + (3 * 64 + d.val); omega))
  · rw [blkV, dif_neg hd]
    have e : (if (⟨d.val - 64, by omega⟩ : Fin 16).val = 0 then (1 : EReal) else 0) = if d.val = 64 then 1 else 0 :=
      if_congr (show d.val - 64 = 0 ↔ d.val = 64 by omega) rfl rfl
    rw [← e]
    match h with
    | ⟨0, _⟩ =>
      refine (Pieces.canon_miss3 304 16 _ _ _ 0 _ r (by show 0 * 80 + d.val < 304 ∨ 304 + 16 ≤ 0 * 80 + d.val; omega)).trans ((Pieces.canon_miss3 240 64 _ _ _ 0 _ r (by show 0 * 80 + d.val < 240 ∨ 240 + 64 ≤ 0 * 80 + d.val; omega)).trans ((Pieces.canon_miss3 224 16 _ _ _ 0 _ r (by show 0 * 80 + d.val < 224 ∨ 224 + 16 ≤ 0 * 80 + d.val; omega)).trans ((Pieces.canon_miss3 160 64 _ _ _ 0 _ r (by show 0 * 80 + d.val < 160 ∨ 160 + 64 ≤ 0 * 80 + d.val; omega)).trans ((Pieces.canon_miss3 144 16 _ _ _ 0 _ r (by show 0 * 80 + d.val < 144 ∨ 144 + 16 ≤ 0 * 80 + d.val; omega)).trans ((Pieces.canon_miss3 80 64 _ _ _ 0 _ r (by show 0 * 80 + d.val < 80 ∨ 80 + 64 ≤ 0 * 80 + d.val; omega)).trans ((Pieces.canon_hit3 64 16 _ _ _ 0 _ r ⟨d.val - 64, by omega⟩ (by show 0 * 80 + d.val = 64 + (d.val - 64); omega)).trans ?_))))))
      exact one0_apply ⟨d.val - 64, by omega⟩ r
    | ⟨1, _⟩ =>
      refine (Pieces.canon_miss3 304 16 _ _ _ 0 _ r (by show 1 * 80 + d.val < 304 ∨ 304 + 16 ≤ 1 * 80 + d.val; omega)).trans ((Pieces.canon_miss3 240 64 _ _ _ 0 _ r (by show 1 * 80 + d.val < 240 ∨ 240 + 64 ≤ 1 * 80 + d.val; omega)).trans ((Pieces.canon_miss3 224 16 _ _ _ 0 _ r (by show 1 * 80 + d.val < 224 ∨ 224 + 16 ≤ 1 * 80 + d.val; omega)).trans ((Pieces.canon_miss3 160 64 _ _ _ 0 _ r (by show 1 * 80 + d.val < 160 ∨ 160 + 64 ≤ 1 * 80 + d.val; omega)).trans ((Pieces.canon_hit3 144 16 _ _ _ 0 _ r ⟨d.val - 64, by omega⟩ (by show 1 * 80 + d.val = 144 + (d.val - 64); omega)).trans ?_))))
      exact one1_apply ⟨d.val - 64, by omega⟩ r
    | ⟨2, _⟩ =>
      refine (Pieces.canon_miss3 304 16 _ _ _ 0 _ r (by show 2 * 80 + d.val < 304 ∨ 304 + 16 ≤ 2 * 80 + d.val; omega)).trans ((Pieces.canon_miss3 240 64 _ _ _ 0 _ r (by show 2 * 80 + d.val < 240 ∨ 240 + 64 ≤ 2 * 80 + d.val; omega)).trans ((Pieces.canon_hit3 224 16 _ _ _ 0 _ r ⟨d.val - 64, by omega⟩ (by show 2 * 80 + d.val = 224 + (d.val - 64); omega)).trans ?_))
      exact one2_apply ⟨d.val - 64, by omega⟩ r
    | ⟨3, _⟩ =>
      refine (Pieces.canon_hit3 304 16 _ _ _ 0 _ r ⟨d.val - 64, by omega⟩ (by show 3 * 80 + d.val = 304 + (d.val - 64); omega)).trans ?_
      exact one3_apply ⟨d.val - 64, by omega⟩ r

variable (m : (ℓ : Loc nD τ sig) → Buf (Elt Ideal) ℓ)

/-- The third branch's block at a grid step. -/
theorem outsC (c : Dev nD) (t : Fin cfg0.N) (r : Fin 512) (j : Fin 896) :
    (outsAt0 m c t.val t.isLt).2.1 (ix2 r j) = blkC (iblk m c 0 t) (iblk m c 1 t) (iblk m c 2 t) (iblk m c 4 t) (iblk m c 5 t) r j := by
  by_cases h0 : t.val % 8 = 0
  · rw [outsAt0_A m c t h0]
    frame_out
    exact canonC _ _ _ _ _ _ _ _ _ r j
  · rw [outsAt0_B m c t h0]
    frame_out
    exact canonC _ _ _ _ _ _ _ _ _ r j

/-- The last branch's block at a grid step. -/
theorem outsV (c : Dev nD) (t : Fin cfg0.N) (h : Fin 4) (d : Fin 80) (r : Fin 512) :
    (outsAt0 m c t.val t.isLt).2.2.2.2.2.2.2.1 (ix3 0 ⟨h.val * 80 + d.val, by omega⟩ r) = blkV (iblk m c 0 t) (iblk m c 1 t) (iblk m c 2 t) h d r := by
  by_cases h0 : t.val % 8 = 0
  · rw [outsAt0_A m c t h0]
    frame_out
    exact canonV _ _ _ _ _ _ _ _ _ _ _ _ h d r
  · rw [outsAt0_B m c t h0]
    frame_out
    exact canonV _ _ _ _ _ _ _ _ _ _ _ _ h d r

end Cert.InprojIdeal

end
-- ==== Proof.InprojIdeal.First.lean ====
/- The block of the first branch that the input projections' kernel stores at a grid step: its convolved columns
   take the rows before the block from what the step before left. -/
module

public import proofs.«01_k».proof.Proof.Gen.InprojIdeal.Value
public import proofs.«01_k».proof.Proof.InprojIdeal.Blocks
public import proofs.«01_k».proof.Proof.Math.Decay
public import proofs.«01_k».proof.Proof.Math.Pieces
public import Idealize.ShloMosaic.Lib.Pipeline.ValueKit

@[expose] public section

set_option maxRecDepth 16384

noncomputable section

namespace Cert.InprojIdeal

open Idealize.ShloMosaic Idealize.ShloMosaic.TcCoe Idealize.SL.Sem Cert.InprojIdeal.Gen

section

variable (x0 : Vec Ideal S512x1024 .f32) (x1 : Vec Ideal S1x1024 .f32) (x2 : Vec Ideal S1024x3200 .bf16) (x3 : Vec Ideal S4x768 .f32)

/-- The rows to convolve. -/
def qkv (r : Fin 512) (b : Fin 768) : EReal := col x0 x1 x2 r ⟨b.val, by omega⟩

/-- The first columns to convolve, as rows. -/
theorem qkvLo (inb) (r : Fin 512) (j : Fin 512) :
    k0_pay10 (k0_pay2 x0 x1) (View.ld x2 (Rect.unit (s := S1024x3200) ![0, 0] ![1024, 512] inb)) (ix2 r j) = qkv x0 x1 x2 r ⟨j.val, by omega⟩ :=
  (colLo x0 x1 x2 inb r j).trans (congrArg (col x0 x1 x2 r) (Fin.ext (by show 0 + j.val = j.val; omega)))

/-- The last columns to convolve, as rows. -/
theorem qkvHi (inb) (r : Fin 512) (j : Fin 256) :
    k0_pay96 (k0_pay2 x0 x1) (View.ld x2 (Rect.unit (s := S1024x3200) ![0, 512] ![1024, 512] inb)) (ix2 r j) = qkv x0 x1 x2 r ⟨512 + j.val, by omega⟩ :=
  colHi x0 x1 x2 inb r j

/-- The last eight rows, behind eight older rows. -/
theorem ext_last (old : Fin 8 → Fin 768 → EReal) (q : Fin 512 → Fin 768 → EReal) (a : Fin 8) (b : Fin 768) :
    Pieces.ext old q ⟨512 + a.val, by omega⟩ b = q ⟨504 + a.val, by omega⟩ b := by
  rw [Pieces.ext, dif_neg (by show ¬ 512 + a.val < 8; omega)]
  exact congrArg (fun z => q z b) (Fin.ext (by show 512 + a.val - 8 = 504 + a.val; omega))

/-- A convolved column of a row behind eight older rows. -/
def convAt (E : Fin 520 → Fin 768 → EReal) (r : Fin 512) (b : Fin 768) : EReal :=
  mix (x3 (ix2 0 b)) (E ⟨5 + r.val, by omega⟩ b) (x3 (ix2 1 b)) (E ⟨6 + r.val, by omega⟩ b) (x3 (ix2 2 b)) (E ⟨7 + r.val, by omega⟩ b) (x3 (ix2 3 b)) (E ⟨8 + r.val, by omega⟩ b)

/-- Equal taps mix equally. -/
theorem mix_congr {a0 t0 a1 t1 a2 t2 a3 t3 b0 u0 b1 u1 b2 u2 b3 u3 : EReal} (h0 : a0 = b0) (g0 : t0 = u0) (h1 : a1 = b1) (g1 : t1 = u1)
    (h2 : a2 = b2) (g2 : t2 = u2) (h3 : a3 = b3) (g3 : t3 = u3) : mix a0 t0 a1 t1 a2 t2 a3 t3 = mix b0 u0 b1 u1 b2 u2 b3 u3 := by
  rw [h0, g0, h1, g1, h2, g2, h3, g3]

/-- A value of the first branch's block, from its rows behind eight older rows. -/
def blkA (old : Fin 8 → Fin 768 → EReal) (r : Fin 512) (j : Fin 1152) : EReal :=
  if h : j.val < 768 then convAt x3 (Pieces.ext old (qkv x0 x1 x2)) r ⟨j.val, h⟩
  else if h' : j.val < 1024 then col x0 x1 x2 r ⟨768 + (j.val - 768), by omega⟩
  else col x0 x1 x2 r ⟨2304 + (j.val - 1024), by omega⟩

end

variable (m : (ℓ : Loc nD τ sig) → Buf (Elt Ideal) ℓ)

set_option maxHeartbeats 1000000 in
/-- What a grid step leaves of its rows for the next: the last eight. -/
theorem carry (c : Dev nD) (t : Fin cfg0.N) (a : Fin 8) (b : Fin 768) :
    (outsAt0 m c t.val t.isLt).2.2.2.2.2.2.2.2.1 (ix2 ⟨a.val, by omega⟩ b) = qkv (iblk m c 0 t) (iblk m c 1 t) (iblk m c 2 t) ⟨504 + a.val, by omega⟩ b := by
  by_cases h0 : t.val % 8 = 0
  · rw [outsAt0_A m c t h0]
    frame_out
    by_cases h2 : b.val < 512
    · by_cases h1 : b.val < 256
      · refine (Pieces.canon_miss 0 512 8 256 _ _ _ ⟨a.val, by omega⟩ b (by omega)).trans ((Pieces.canon_miss 0 256 8 256 _ _ _ ⟨a.val, by omega⟩ b (by omega)).trans ((Pieces.canon_hit 0 0 8 256 _ _ _ ⟨a.val, by omega⟩ b a ⟨b.val, by omega⟩ (by show a.val = 0 + a.val; omega) (by show b.val = 0 + b.val; omega)).trans ?_))
        refine (pay100_apply ⟨b.val, by omega⟩ _ a).trans ?_
        refine (Pieces.readCov_at (View.whole cc0_scratch0) 512 0 8 256 _ _ a ⟨b.val, by omega⟩ ⟨512 + a.val, by omega⟩ b rfl (by show b.val = 0 + b.val; omega)).trans ?_
        exact (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega)).trans (ext_last _ _ a b)
      · refine (Pieces.canon_miss 0 512 8 256 _ _ _ ⟨a.val, by omega⟩ b (by omega)).trans ((Pieces.canon_hit 0 256 8 256 _ _ _ ⟨a.val, by omega⟩ b a ⟨(b.val - 256), by omega⟩ (by show a.val = 0 + a.val; omega) (by show b.val = 256 + (b.val - 256); omega)).trans ?_)
        refine (pay103_apply ⟨(b.val - 256), by omega⟩ _ a).trans ?_
        refine (Pieces.readCov_at (View.whole cc0_scratch0) 512 256 8 256 _ _ a ⟨(b.val - 256), by omega⟩ ⟨512 + a.val, by omega⟩ b rfl (by show b.val = 256 + (b.val - 256); omega)).trans ?_
        exact ((Pieces.canon_miss 0 0 8 256 _ _ _ _ _ (Or.inr (Or.inr (Or.inr (by show 0 + 256 ≤ b.val; omega))))).trans (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega))).trans (ext_last _ _ a b)
    · refine (Pieces.canon_hit 0 512 8 256 _ _ _ ⟨a.val, by omega⟩ b a ⟨(b.val - 512), by omega⟩ (by show a.val = 0 + a.val; omega) (by show b.val = 512 + (b.val - 512); omega)).trans ?_
      refine (pay106_apply ⟨(b.val - 512), by omega⟩ _ a).trans ?_
      refine (Pieces.readCov_at (View.whole cc0_scratch0) 512 512 8 256 _ _ a ⟨(b.val - 512), by omega⟩ ⟨512 + a.val, by omega⟩ b rfl (by show b.val = 512 + (b.val - 512); omega)).trans ?_
      exact ((Pieces.canon_miss 0 256 8 256 _ _ _ _ _ (Or.inr (Or.inr (Or.inr (by show 256 + 256 ≤ b.val; omega))))).trans ((Pieces.canon_miss 0 0 8 256 _ _ _ _ _ (Or.inr (Or.inr (Or.inr (by show 0 + 256 ≤ b.val; omega))))).trans (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega)))).trans (ext_last _ _ a b)
  · rw [outsAt0_B m c t h0]
    frame_out
    by_cases h2 : b.val < 512
    · by_cases h1 : b.val < 256
      · refine (Pieces.canon_miss 0 512 8 256 _ _ _ ⟨a.val, by omega⟩ b (by omega)).trans ((Pieces.canon_miss 0 256 8 256 _ _ _ ⟨a.val, by omega⟩ b (by omega)).trans ((Pieces.canon_hit 0 0 8 256 _ _ _ ⟨a.val, by omega⟩ b a ⟨b.val, by omega⟩ (by show a.val = 0 + a.val; omega) (by show b.val = 0 + b.val; omega)).trans ?_))
        refine (pay100_apply ⟨b.val, by omega⟩ _ a).trans ?_
        refine (Pieces.readCov_at (View.whole cc0_scratch0) 512 0 8 256 _ _ a ⟨b.val, by omega⟩ ⟨512 + a.val, by omega⟩ b rfl (by show b.val = 0 + b.val; omega)).trans ?_
        exact (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega)).trans (ext_last _ _ a b)
      · refine (Pieces.canon_miss 0 512 8 256 _ _ _ ⟨a.val, by omega⟩ b (by omega)).trans ((Pieces.canon_hit 0 256 8 256 _ _ _ ⟨a.val, by omega⟩ b a ⟨(b.val - 256), by omega⟩ (by show a.val = 0 + a.val; omega) (by show b.val = 256 + (b.val - 256); omega)).trans ?_)
        refine (pay103_apply ⟨(b.val - 256), by omega⟩ _ a).trans ?_
        refine (Pieces.readCov_at (View.whole cc0_scratch0) 512 256 8 256 _ _ a ⟨(b.val - 256), by omega⟩ ⟨512 + a.val, by omega⟩ b rfl (by show b.val = 256 + (b.val - 256); omega)).trans ?_
        exact ((Pieces.canon_miss 0 0 8 256 _ _ _ _ _ (Or.inr (Or.inr (Or.inr (by show 0 + 256 ≤ b.val; omega))))).trans (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega))).trans (ext_last _ _ a b)
    · refine (Pieces.canon_hit 0 512 8 256 _ _ _ ⟨a.val, by omega⟩ b a ⟨(b.val - 512), by omega⟩ (by show a.val = 0 + a.val; omega) (by show b.val = 512 + (b.val - 512); omega)).trans ?_
      refine (pay106_apply ⟨(b.val - 512), by omega⟩ _ a).trans ?_
      refine (Pieces.readCov_at (View.whole cc0_scratch0) 512 512 8 256 _ _ a ⟨(b.val - 512), by omega⟩ ⟨512 + a.val, by omega⟩ b rfl (by show b.val = 512 + (b.val - 512); omega)).trans ?_
      exact ((Pieces.canon_miss 0 256 8 256 _ _ _ _ _ (Or.inr (Or.inr (Or.inr (by show 256 + 256 ≤ b.val; omega))))).trans ((Pieces.canon_miss 0 0 8 256 _ _ _ _ _ (Or.inr (Or.inr (Or.inr (by show 0 + 256 ≤ b.val; omega))))).trans (Pieces.rows_canon _ _ _ _ _ (fun _ _ => 0) _ (qkvHi (iblk m c 0 t) (iblk m c 1 t) (iblk m c 2 t) _) (qkvLo (iblk m c 0 t) (iblk m c 1 t) (iblk m c 2 t) _) _ _ (by show 8 ≤ 512 + a.val; omega)))).trans (ext_last _ _ a b)

/-- The rows before a grid step's own: zeros at the first step of a sequence, else what the step before left. -/
def oldRows (c : Dev nD) (t : Fin cfg0.N) (a : Fin 8) (b : Fin 768) : EReal :=
  if t.val % 8 = 0 then 0
  else qkv (iblk m c 0 ⟨t.val - 1, by omega⟩) (iblk m c 1 ⟨t.val - 1, by omega⟩) (iblk m c 2 ⟨t.val - 1, by omega⟩) ⟨504 + a.val, by omega⟩ b

/-- The first branch's block at a grid step. -/
theorem outsA (c : Dev nD) (t : Fin cfg0.N) (r : Fin 512) (j : Fin 1152) :
    (outsAt0 m c t.val t.isLt).1 (ix2 r j) = blkA (iblk m c 0 t) (iblk m c 1 t) (iblk m c 2 t) (iblk m c 3 t) (oldRows m c t) r j := by
  by_cases h0 : t.val % 8 = 0
  · have ho : oldRows m c t = fun _ _ => 0 := by
      funext a b
      exact if_pos h0
    rw [ho, outsAt0_A m c t h0]
    frame_out
    by_cases h4 : j.val < 768
    · rw [blkA, dif_pos h4]
      by_cases h2 : j.val < 512
      · by_cases h1 : j.val < 256
        · refine (Pieces.canon_miss 0 512 512 256 _ _ _ r j (by omega)).trans ((Pieces.canon_miss 0 256 512 256 _ _ _ r j (by omega)).trans ((Pieces.canon_hit 0 0 512 256 _ _ _ r j r ⟨j.val, by omega⟩ (by omega) (by show j.val = 0 + j.val; omega)).trans ?_))
          refine (pay99_apply _ _ _ _ _ _ _ _ r ⟨j.val, by omega⟩).trans ?_
          exact mix_congr (Pieces.ld_at 0 0 1 256 _ (iblk m c 3 t) 0 ⟨j.val, by omega⟩ 0 ⟨j.val, h4⟩ rfl (by show j.val = 0 + j.val; omega))
            ((Pieces.readCov_at (View.whole cc0_scratch0) 5 0 512 256 _ _ r ⟨j.val, by omega⟩ ⟨5 + r.val, by omega⟩ ⟨j.val, h4⟩ rfl (by show j.val = 0 + j.val; omega)).trans (Pieces.rows_zero _ _ _ _ _ _ _ pay3_apply (qkvHi (iblk m c 0 t) (iblk m c 1 t) (iblk m c 2 t) _) (qkvLo (iblk m c 0 t) (iblk m c 1 t) (iblk m c 2 t) _) _ _))
            (Pieces.ld_at 1 0 1 256 _ (iblk m c 3 t) 0 ⟨j.val, by omega⟩ 1 ⟨j.val, h4⟩ rfl (by show j.val = 0 + j.val; omega))
            ((Pieces.readCov_at (View.whole cc0_scratch0) 6 0 512 256 _ _ r ⟨j.val, by omega⟩ ⟨6 + r.val, by omega⟩ ⟨j.val, h4⟩ rfl (by show j.val = 0 + j.val; omega)).trans (Pieces.rows_zero _ _ _ _ _ _ _ pay3_apply (qkvHi (iblk m c 0 t) (iblk m c 1 t) (iblk m c 2 t) _) (qkvLo (iblk m c 0 t) (iblk m c 1 t) (iblk m c 2 t) _) _ _))
            (Pieces.ld_at 2 0 1 256 _ (iblk m c 3 t) 0 ⟨j.val, by omega⟩ 2 ⟨j.val, h4⟩ rfl (by show j.val = 0 + j.val; omega))
            ((Pieces.readCov_at (View.whole cc0_scratch0) 7 0 512 256 _ _ r ⟨j.val, by omega⟩ ⟨7 + r.val, by omega⟩ ⟨j.val, h4⟩ rfl (by show j.val = 0 + j.val; omega)).trans (Pieces.rows_zero _ _ _ _ _ _ _ pay3_apply (qkvHi (iblk m c 0 t) (iblk m c 1 t) (iblk m c 2 t) _) (qkvLo (iblk m c 0 t) (iblk m c 1 t) (iblk m c 2 t) _) _ _))
            (Pieces.ld_at 3 0 1 256 _ (iblk m c 3 t) 0 ⟨j.val, by omega⟩ 3 ⟨j.val, h4⟩ rfl (by show j.val = 0 + j.val; omega))
            ((Pieces.readCov_at (View.whole cc0_scratch0) 8 0 512 256 _ _ r ⟨j.val, by omega⟩ ⟨8 + r.val, by omega⟩ ⟨j.val, h4⟩ rfl (by show j.val = 0 + j.val; omega)).trans (Pieces.rows_zero _ _ _ _ _ _ _ pay3_apply (qkvHi (iblk m c 0 t) (iblk m c 1 t) (iblk m c 2 t) _) (qkvLo (iblk m c 0 t) (iblk m c 1 t) (iblk m c 2 t) _) _ _))
        · refine (Pieces.canon_miss 0 512 512 256 _ _ _ r j (by omega)).trans ((Pieces.canon_hit 0 256 512 256 _ _ _ r j r ⟨(j.val - 256), by omega⟩ (by omega) (by show j.val = 256 + (j.val - 256); omega)).trans ?_)
          refine (pay102_apply _ _ _ _ _ _ _ _ r ⟨(j.val - 256), by omega⟩).trans ?_
          exact mix_congr (Pieces.ld_at 0 256 1 256 _ (iblk m c 3 t) 0 ⟨(j.val - 256), by omega⟩ 0 ⟨j.val, h4⟩ rfl (by show j.val = 256 + (j.val - 256); omega))
            ((Pieces.readCov_at (View.whole cc0_scratch0) 5 256 512 256 _ _ r ⟨(j.val - 256), by omega⟩ ⟨5 + r.val, by omega⟩ ⟨j.val, h4⟩ rfl (by show j.val = 256 + (j.val - 256); omega)).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _)))
            (Pieces.ld_at 1 256 1 256 _ (iblk m c 3 t) 0 ⟨(j.val - 256), by omega⟩ 1 ⟨j.val, h4⟩ rfl (by show j.val = 256 + (j.val - 256); omega))
            ((Pieces.readCov_at (View.whole cc0_scratch0) 6 256 512 256 _ _ r ⟨(j.val - 256), by omega⟩ ⟨6 + r.val, by omega⟩ ⟨j.val, h4⟩ rfl (by show j.val = 256 + (j.val - 256); omega)).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _)))
            (Pieces.ld_at 2 256 1 256 _ (iblk m c 3 t) 0 ⟨(j.val - 256), by omega⟩ 2 ⟨j.val, h4⟩ rfl (by show j.val = 256 + (j.val - 256); omega))
            ((Pieces.readCov_at (View.whole cc0_scratch0) 7 256 512 256 _ _ r ⟨(j.val - 256), by omega⟩ ⟨7 + r.val, by omega⟩ ⟨j.val, h4⟩ rfl (by show j.val = 256 + (j.val - 256); omega)).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _)))
            (Pieces.ld_at 3 256 1 256 _ (iblk m c 3 t) 0 ⟨(j.val - 256), by omega⟩ 3 ⟨j.val, h4⟩ rfl (by show j.val = 256 + (j.val - 256); omega))
            ((Pieces.readCov_at (View.whole cc0_scratch0) 8 256 512 256 _ _ r ⟨(j.val - 256), by omega⟩ ⟨8 + r.val, by omega⟩ ⟨j.val, h4⟩ rfl (by show j.val = 256 + (j.val - 256); omega)).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _)))
      · refine (Pieces.canon_hit 0 512 512 256 _ _ _ r j r ⟨(j.val - 512), by omega⟩ (by omega) (by show j.val = 512 + (j.val - 512); omega)).trans ?_
        refine (pay105_apply _ _ _ _ _ _ _ _ r ⟨(j.val - 512), by omega⟩).trans ?_
        exact mix_congr (Pieces.ld_at 0 512 1 256 _ (iblk m c 3 t) 0 ⟨(j.val - 512), by omega⟩ 0 ⟨j.val, h4⟩ rfl (by show j.val = 512 + (j.val - 512); omega))
          ((Pieces.readCov_at (View.whole cc0_scratch0) 5 512 512 256 _ _ r ⟨(j.val - 512), by omega⟩ ⟨5 + r.val, by omega⟩ ⟨j.val, h4⟩ rfl (by show j.val = 512 + (j.val - 512); omega)).trans ((Pieces.canon_miss 0 256 8 256 _ _ _ _ _ (Or.inr (Or.inr (Or.inr (by show 256 + 256 ≤ j.val; omega))))).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _))))
          (Pieces.ld_at 1 512 1 256 _ (iblk m c 3 t) 0 ⟨(j.val - 512), by omega⟩ 1 ⟨j.val, h4⟩ rfl (by show j.val = 512 + (j.val - 512); omega))
          ((Pieces.readCov_at (View.whole cc0_scratch0) 6 512 512 256 _ _ r ⟨(j.val - 512), by omega⟩ ⟨6 + r.val, by omega⟩ ⟨j.val, h4⟩ rfl (by show j.val = 512 + (j.val - 512); omega)).trans ((Pieces.canon_miss 0 256 8 256 _ _ _ _ _ (Or.inr (Or.inr (Or.inr (by show 256 + 256 ≤ j.val; omega))))).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _))))
          (Pieces.ld_at 2 512 1 256 _ (iblk m c 3 t) 0 ⟨(j.val - 512), by omega⟩ 2 ⟨j.val, h4⟩ rfl (by show j.val = 512 + (j.val - 512); omega))
          ((Pieces.readCov_at (View.whole cc0_scratch0) 7 512 512 256 _ _ r ⟨(j.val - 512), by omega⟩ ⟨7 + r.val, by omega⟩ ⟨j.val, h4⟩ rfl (by show j.val = 512 + (j.val - 512); omega)).trans ((Pieces.canon_miss 0 256 8 256 _ _ _ _ _ (Or.inr (Or.inr (Or.inr (by show 256 + 256 ≤ j.val; omega))))).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _))))
          (Pieces.ld_at 3 512 1 256 _ (iblk m c 3 t) 0 ⟨(j.val - 512), by omega⟩ 3 ⟨j.val, h4⟩ rfl (by show j.val = 512 + (j.val - 512); omega))
          ((Pieces.readCov_at (View.whole cc0_scratch0) 8 512 512 256 _ _ r ⟨(j.val - 512), by omega⟩ ⟨8 + r.val, by omega⟩ ⟨j.val, h4⟩ rfl (by show j.val = 512 + (j.val - 512); omega)).trans ((Pieces.canon_miss 0 256 8 256 _ _ _ _ _ (Or.inr (Or.inr (Or.inr (by show 256 + 256 ≤ j.val; omega))))).trans ((Pieces.canon_miss 0 0 8 256 _ _ _ _ _ (Or.inr (Or.inr (Or.inr (by show 0 + 256 ≤ j.val; omega))))).trans (Pieces.rows_zero _ _ _ _ _ _ _ pay3_apply (qkvHi (iblk m c 0 t) (iblk m c 1 t) (iblk m c 2 t) _) (qkvLo (iblk m c 0 t) (iblk m c 1 t) (iblk m c 2 t) _) _ _))))
    · rw [blkA, dif_neg h4]
      by_cases h5 : j.val < 1024
      · rw [dif_pos h5]
        exact (Pieces.canon_miss 0 512 512 256 _ _ _ r j (by omega)).trans ((Pieces.canon_miss 0 256 512 256 _ _ _ r j (by omega)).trans ((Pieces.canon_miss 0 0 512 256 _ _ _ r j (by omega)).trans ((Pieces.canon_hit 0 768 512 256 _ _ _ r j r ⟨j.val - 768, by omega⟩ (by omega) (by show j.val = 768 + (j.val - 768); omega)).trans (colZ (iblk m c 0 t) (iblk m c 1 t) (iblk m c 2 t) _ r _))))
      · rw [dif_neg h5]
        exact (Pieces.canon_miss 0 512 512 256 _ _ _ r j (by omega)).trans ((Pieces.canon_miss 0 256 512 256 _ _ _ r j (by omega)).trans ((Pieces.canon_miss 0 0 512 256 _ _ _ r j (by omega)).trans ((Pieces.canon_miss 0 768 512 256 _ _ _ r j (by omega)).trans ((Pieces.canon_hit 0 1024 512 128 _ _ _ r j r ⟨j.val - 1024, by omega⟩ (by omega) (by show j.val = 1024 + (j.val - 1024); omega)).trans (colS (iblk m c 0 t) (iblk m c 1 t) (iblk m c 2 t) _ r _)))))
  · have ho : ∀ (a : Fin 8) (b : Fin 768), oldRows m c t a b = qkv (iblk m c 0 ⟨t.val - 1, by omega⟩) (iblk m c 1 ⟨t.val - 1, by omega⟩) (iblk m c 2 ⟨t.val - 1, by omega⟩) ⟨504 + a.val, by omega⟩ b :=
      fun a b => if_neg h0
    have hr : ∀ (h) (a : Fin 8) (b : Fin 768), (View.whole cc0_scratch0).read (Elt Ideal) (Memref.IsWhole.unread (m := Memref.whole cc0_scratch0) (Val := Elt Ideal) h (outsAt0 m c (t.val - 1) (by omega)).2.2.2.2.2.2.2.2.1) (ix2 ⟨a.val, by omega⟩ b) = oldRows m c t a b :=
      fun h a b => (congrFun (h.read_unread _) _).trans ((carry m c ⟨t.val - 1, by omega⟩ a b).trans (ho a b).symm)
    rw [outsAt0_B m c t h0]
    frame_out
    by_cases h4 : j.val < 768
    · rw [blkA, dif_pos h4]
      by_cases h2 : j.val < 512
      · by_cases h1 : j.val < 256
        · refine (Pieces.canon_miss 0 512 512 256 _ _ _ r j (by omega)).trans ((Pieces.canon_miss 0 256 512 256 _ _ _ r j (by omega)).trans ((Pieces.canon_hit 0 0 512 256 _ _ _ r j r ⟨j.val, by omega⟩ (by omega) (by show j.val = 0 + j.val; omega)).trans ?_))
          refine (pay99_apply _ _ _ _ _ _ _ _ r ⟨j.val, by omega⟩).trans ?_
          exact mix_congr (Pieces.ld_at 0 0 1 256 _ (iblk m c 3 t) 0 ⟨j.val, by omega⟩ 0 ⟨j.val, h4⟩ rfl (by show j.val = 0 + j.val; omega))
            ((Pieces.ld_at 5 0 512 256 _ _ r ⟨j.val, by omega⟩ ⟨5 + r.val, by omega⟩ ⟨j.val, h4⟩ rfl (by show j.val = 0 + j.val; omega)).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))
            (Pieces.ld_at 1 0 1 256 _ (iblk m c 3 t) 0 ⟨j.val, by omega⟩ 1 ⟨j.val, h4⟩ rfl (by show j.val = 0 + j.val; omega))
            ((Pieces.ld_at 6 0 512 256 _ _ r ⟨j.val, by omega⟩ ⟨6 + r.val, by omega⟩ ⟨j.val, h4⟩ rfl (by show j.val = 0 + j.val; omega)).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))
            (Pieces.ld_at 2 0 1 256 _ (iblk m c 3 t) 0 ⟨j.val, by omega⟩ 2 ⟨j.val, h4⟩ rfl (by show j.val = 0 + j.val; omega))
            ((Pieces.ld_at 7 0 512 256 _ _ r ⟨j.val, by omega⟩ ⟨7 + r.val, by omega⟩ ⟨j.val, h4⟩ rfl (by show j.val = 0 + j.val; omega)).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))
            (Pieces.ld_at 3 0 1 256 _ (iblk m c 3 t) 0 ⟨j.val, by omega⟩ 3 ⟨j.val, h4⟩ rfl (by show j.val = 0 + j.val; omega))
            ((Pieces.readCov_at (View.whole cc0_scratch0) 8 0 512 256 _ _ r ⟨j.val, by omega⟩ ⟨8 + r.val, by omega⟩ ⟨j.val, h4⟩ rfl (by show j.val = 0 + j.val; omega)).trans (Pieces.rows_canon _ _ _ _ _ _ _ (qkvHi (iblk m c 0 t) (iblk m c 1 t) (iblk m c 2 t) _) (qkvLo (iblk m c 0 t) (iblk m c 1 t) (iblk m c 2 t) _) _ _ (by show 8 ≤ 8 + r.val; omega)))
        · refine (Pieces.canon_miss 0 512 512 256 _ _ _ r j (by omega)).trans ((Pieces.canon_hit 0 256 512 256 _ _ _ r j r ⟨(j.val - 256), by omega⟩ (by omega) (by show j.val = 256 + (j.val - 256); omega)).trans ?_)
          refine (pay102_apply _ _ _ _ _ _ _ _ r ⟨(j.val - 256), by omega⟩).trans ?_
          exact mix_congr (Pieces.ld_at 0 256 1 256 _ (iblk m c 3 t) 0 ⟨(j.val - 256), by omega⟩ 0 ⟨j.val, h4⟩ rfl (by show j.val = 256 + (j.val - 256); omega))
            ((Pieces.ld_at 5 256 512 256 _ _ r ⟨(j.val - 256), by omega⟩ ⟨5 + r.val, by omega⟩ ⟨j.val, h4⟩ rfl (by show j.val = 256 + (j.val - 256); omega)).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _)))
            (Pieces.ld_at 1 256 1 256 _ (iblk m c 3 t) 0 ⟨(j.val - 256), by omega⟩ 1 ⟨j.val, h4⟩ rfl (by show j.val = 256 + (j.val - 256); omega))
            ((Pieces.ld_at 6 256 512 256 _ _ r ⟨(j.val - 256), by omega⟩ ⟨6 + r.val, by omega⟩ ⟨j.val, h4⟩ rfl (by show j.val = 256 + (j.val - 256); omega)).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _)))
            (Pieces.ld_at 2 256 1 256 _ (iblk m c 3 t) 0 ⟨(j.val - 256), by omega⟩ 2 ⟨j.val, h4⟩ rfl (by show j.val = 256 + (j.val - 256); omega))
            ((Pieces.ld_at 7 256 512 256 _ _ r ⟨(j.val - 256), by omega⟩ ⟨7 + r.val, by omega⟩ ⟨j.val, h4⟩ rfl (by show j.val = 256 + (j.val - 256); omega)).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _)))
            (Pieces.ld_at 3 256 1 256 _ (iblk m c 3 t) 0 ⟨(j.val - 256), by omega⟩ 3 ⟨j.val, h4⟩ rfl (by show j.val = 256 + (j.val - 256); omega))
            ((Pieces.readCov_at (View.whole cc0_scratch0) 8 256 512 256 _ _ r ⟨(j.val - 256), by omega⟩ ⟨8 + r.val, by omega⟩ ⟨j.val, h4⟩ rfl (by show j.val = 256 + (j.val - 256); omega)).trans ((Pieces.canon_miss 0 0 8 256 _ _ _ _ _ (Or.inr (Or.inr (Or.inr (by show 0 + 256 ≤ j.val; omega))))).trans (Pieces.rows_canon _ _ _ _ _ _ _ (qkvHi (iblk m c 0 t) (iblk m c 1 t) (iblk m c 2 t) _) (qkvLo (iblk m c 0 t) (iblk m c 1 t) (iblk m c 2 t) _) _ _ (by show 8 ≤ 8 + r.val; omega))))
      · refine (Pieces.canon_hit 0 512 512 256 _ _ _ r j r ⟨(j.val - 512), by omega⟩ (by omega) (by show j.val = 512 + (j.val - 512); omega)).trans ?_
        refine (pay105_apply _ _ _ _ _ _ _ _ r ⟨(j.val - 512), by omega⟩).trans ?_
        exact mix_congr (Pieces.ld_at 0 512 1 256 _ (iblk m c 3 t) 0 ⟨(j.val - 512), by omega⟩ 0 ⟨j.val, h4⟩ rfl (by show j.val = 512 + (j.val - 512); omega))
          ((Pieces.ld_at 5 512 512 256 _ _ r ⟨(j.val - 512), by omega⟩ ⟨5 + r.val, by omega⟩ ⟨j.val, h4⟩ rfl (by show j.val = 512 + (j.val - 512); omega)).trans ((Pieces.read_miss (View.whole cc0_scratch0) _ 0 256 8 256 _ _ _ _ _ (Or.inr (Or.inr (Or.inr (by show 256 + 256 ≤ j.val; omega))))).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))))
          (Pieces.ld_at 1 512 1 256 _ (iblk m c 3 t) 0 ⟨(j.val - 512), by omega⟩ 1 ⟨j.val, h4⟩ rfl (by show j.val = 512 + (j.val - 512); omega))
          ((Pieces.ld_at 6 512 512 256 _ _ r ⟨(j.val - 512), by omega⟩ ⟨6 + r.val, by omega⟩ ⟨j.val, h4⟩ rfl (by show j.val = 512 + (j.val - 512); omega)).trans ((Pieces.read_miss (View.whole cc0_scratch0) _ 0 256 8 256 _ _ _ _ _ (Or.inr (Or.inr (Or.inr (by show 256 + 256 ≤ j.val; omega))))).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))))
          (Pieces.ld_at 2 512 1 256 _ (iblk m c 3 t) 0 ⟨(j.val - 512), by omega⟩ 2 ⟨j.val, h4⟩ rfl (by show j.val = 512 + (j.val - 512); omega))
          ((Pieces.ld_at 7 512 512 256 _ _ r ⟨(j.val - 512), by omega⟩ ⟨7 + r.val, by omega⟩ ⟨j.val, h4⟩ rfl (by show j.val = 512 + (j.val - 512); omega)).trans ((Pieces.read_miss (View.whole cc0_scratch0) _ 0 256 8 256 _ _ _ _ _ (Or.inr (Or.inr (Or.inr (by show 256 + 256 ≤ j.val; omega))))).trans ((Pieces.read_miss (View.whole cc0_scratch0) _ 0 0 8 256 _ _ _ _ _ (Or.inr (Or.inr (Or.inr (by show 0 + 256 ≤ j.val; omega))))).trans (Pieces.rows_read _ _ _ _ _ _ (View.whole cc0_scratch0) _ (hr _) (qkvHi (iblk m c 0 t) (iblk m c 1 t) (iblk m c 2 t) _) (qkvLo (iblk m c 0 t) (iblk m c 1 t) (iblk m c 2 t) _) _ _))))
          (Pieces.ld_at 3 512 1 256 _ (iblk m c 3 t) 0 ⟨(j.val - 512), by omega⟩ 3 ⟨j.val, h4⟩ rfl (by show j.val = 512 + (j.val - 512); omega))
          ((Pieces.readCov_at (View.whole cc0_scratch0) 8 512 512 256 _ _ r ⟨(j.val - 512), by omega⟩ ⟨8 + r.val, by omega⟩ ⟨j.val, h4⟩ rfl (by show j.val = 512 + (j.val - 512); omega)).trans ((Pieces.canon_miss 0 256 8 256 _ _ _ _ _ (Or.inr (Or.inr (Or.inr (by show 256 + 256 ≤ j.val; omega))))).trans ((Pieces.canon_miss 0 0 8 256 _ _ _ _ _ (Or.inr (Or.inr (Or.inr (by show 0 + 256 ≤ j.val; omega))))).trans (Pieces.rows_canon _ _ _ _ _ _ _ (qkvHi (iblk m c 0 t) (iblk m c 1 t) (iblk m c 2 t) _) (qkvLo (iblk m c 0 t) (iblk m c 1 t) (iblk m c 2 t) _) _ _ (by show 8 ≤ 8 + r.val; omega)))))
    · rw [blkA, dif_neg h4]
      by_cases h5 : j.val < 1024
      · rw [dif_pos h5]
        exact (Pieces.canon_miss 0 512 512 256 _ _ _ r j (by omega)).trans ((Pieces.canon_miss 0 256 512 256 _ _ _ r j (by omega)).trans ((Pieces.canon_miss 0 0 512 256 _ _ _ r j (by omega)).trans ((Pieces.canon_hit 0 768 512 256 _ _ _ r j r ⟨j.val - 768, by omega⟩ (by omega) (by show j.val = 768 + (j.val - 768); omega)).trans (colZ (iblk m c 0 t) (iblk m c 1 t) (iblk m c 2 t) _ r _))))
      · rw [dif_neg h5]
        exact (Pieces.canon_miss 0 512 512 256 _ _ _ r j (by omega)).trans ((Pieces.canon_miss 0 256 512 256 _ _ _ r j (by omega)).trans ((Pieces.canon_miss 0 0 512 256 _ _ _ r j (by omega)).trans ((Pieces.canon_miss 0 768 512 256 _ _ _ r j (by omega)).trans ((Pieces.canon_hit 0 1024 512 128 _ _ _ r j r ⟨j.val - 1024, by omega⟩ (by omega) (by show j.val = 1024 + (j.val - 1024); omega)).trans (colS (iblk m c 0 t) (iblk m c 1 t) (iblk m c 2 t) _ r _)))))

end Cert.InprojIdeal

end
-- ==== Proof.InprojIdeal.Segments.lean ====
/- The kernel's gathered weights, read segment by segment: the fifteen blocks of columns laid side by side. -/
module

public import proofs.«01_k».proof.Proof.Gen.InprojIdeal.Value
public import Idealize.ShloMosaic.Lib.Pipeline.ValueKit

@[expose] public section

set_option maxRecDepth 16384

noncomputable section

namespace Cert.InprojIdeal

open Idealize.ShloMosaic Idealize.ShloMosaic.TcCoe Idealize.SL.Sem Cert.InprojIdeal.Gen

/-- Block 0 of the gathered columns. -/
theorem seg0 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 768) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨0 + j.val, by omega⟩) = x0 (ix2 k j) := by
  rw [concatenate_cons_apply]
  rw [concatenateAt_cons, dif_pos (by show 0 + j.val < 768; omega)]
  refine congrArg x0 (funext fun b => Fin.ext ?_)
  match b with
  | ⟨0, _⟩ => rfl
  | ⟨1, _⟩ => show 0 + j.val = j.val; omega

/-- Block 1 of the gathered columns. -/
theorem seg1 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 256) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨768 + j.val, by omega⟩) = x1 (ix2 k j) := by
  rw [concatenate_cons_apply]
  rw [concatenateAt_cons, dif_neg (by show ¬ (768 + j.val < 768); omega)]
  rw [concatenateAt_cons, dif_pos (by show 768 + j.val - 768 < 256; omega)]
  refine congrArg x1 (funext fun b => Fin.ext ?_)
  match b with
  | ⟨0, _⟩ => rfl
  | ⟨1, _⟩ => show 768 + j.val - 768 = j.val; omega

/-- Block 7 of the gathered columns. -/
theorem seg7 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 128) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨1536 + j.val, by omega⟩) = x7 (ix2 k j) := by
  rw [concatenate_cons_apply]
  rw [concatenateAt_cons, dif_neg (by show ¬ (1536 + j.val < 768); omega)]
  rw [concatenateAt_cons, dif_neg (by show ¬ (1536 + j.val - 768 < 256); omega)]
  rw [concatenateAt_cons, dif_neg (by show ¬ (1536 + j.val - 768 - 256 < 256); omega)]
  rw [concatenateAt_cons, dif_neg (by show ¬ (1536 + j.val - 768 - 256 - 256 < 128); omega)]
  rw [concatenateAt_cons, dif_neg (by show ¬ (1536 + j.val - 768 - 256 - 256 - 128 < 64); omega)]
  rw [concatenateAt_cons, dif_neg (by show ¬ (1536 + j.val - 768 - 256 - 256 - 128 - 64 < 32); omega)]
  rw [concatenateAt_cons, dif_neg (by show ¬ (1536 + j.val - 768 - 256 - 256 - 128 - 64 - 32 < 32); omega)]
  rw [concatenateAt_cons, dif_pos (by show 1536 + j.val - 768 - 256 - 256 - 128 - 64 - 32 - 32 < 128; omega)]
  refine congrArg x7 (funext fun b => Fin.ext ?_)
  match b with
  | ⟨0, _⟩ => rfl
  | ⟨1, _⟩ => show 1536 + j.val - 768 - 256 - 256 - 128 - 64 - 32 - 32 = j.val; omega

/-- Block 8 of the gathered columns. -/
theorem seg8 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 128) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨1664 + j.val, by omega⟩) = x8 (ix2 k j) := by
  rw [concatenate_cons_apply]
  rw [concatenateAt_cons, dif_neg (by show ¬ (1664 + j.val < 768); omega)]
  rw [concatenateAt_cons, dif_neg (by show ¬ (1664 + j.val - 768 < 256); omega)]
  rw [concatenateAt_cons, dif_neg (by show ¬ (1664 + j.val - 768 - 256 < 256); omega)]
  rw [concatenateAt_cons, dif_neg (by show ¬ (1664 + j.val - 768 - 256 - 256 < 128); omega)]
  rw [concatenateAt_cons, dif_neg (by show ¬ (1664 + j.val - 768 - 256 - 256 - 128 < 64); omega)]
  rw [concatenateAt_cons, dif_neg (by show ¬ (1664 + j.val - 768 - 256 - 256 - 128 - 64 < 32); omega)]
  rw [concatenateAt_cons, dif_neg (by show ¬ (1664 + j.val - 768 - 256 - 256 - 128 - 64 - 32 < 32); omega)]
  rw [concatenateAt_cons, dif_neg (by show ¬ (1664 + j.val - 768 - 256 - 256 - 128 - 64 - 32 - 32 < 128); omega)]
  rw [concatenateAt_cons, dif_pos (by show 1664 + j.val - 768 - 256 - 256 - 128 - 64 - 32 - 32 - 128 < 128; omega)]
  refine congrArg x8 (funext fun b => Fin.ext ?_)
  match b with
  | ⟨0, _⟩ => rfl
  | ⟨1, _⟩ => show 1664 + j.val - 768 - 256 - 256 - 128 - 64 - 32 - 32 - 128 = j.val; omega

/-- Block 9 of the gathered columns. -/
theorem seg9 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 256) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨1792 + j.val, by omega⟩) = x9 (ix2 k j) := by
  rw [concatenate_cons_apply]
  rw [concatenateAt_cons, dif_neg (by show ¬ (1792 + j.val < 768); omega)]
  rw [concatenateAt_cons, dif_neg (by show ¬ (1792 + j.val - 768 < 256); omega)]
  rw [concatenateAt_cons, dif_neg (by show ¬ (1792 + j.val - 768 - 256 < 256); omega)]
  rw [concatenateAt_cons, dif_neg (by show ¬ (1792 + j.val - 768 - 256 - 256 < 128); omega)]
  rw [concatenateAt_cons, dif_neg (by show ¬ (1792 + j.val - 768 - 256 - 256 - 128 < 64); omega)]
  rw [concatenateAt_cons, dif_neg (by show ¬ (1792 + j.val - 768 - 256 - 256 - 128 - 64 < 32); omega)]
  rw [concatenateAt_cons, dif_neg (by show ¬ (1792 + j.val - 768 - 256 - 256 - 128 - 64 - 32 < 32); omega)]
  rw [concatenateAt_cons, dif_neg (by show ¬ (1792 + j.val - 768 - 256 - 256 - 128 - 64 - 32 - 32 < 128); omega)]
  rw [concatenateAt_cons, dif_neg (by show ¬ (1792 + j.val - 768 - 256 - 256 - 128 - 64 - 32 - 32 - 128 < 128); omega)]
  rw [concatenateAt_cons, dif_pos (by show 1792 + j.val - 768 - 256 - 256 - 128 - 64 - 32 - 32 - 128 - 128 < 256; omega)]
  refine congrArg x9 (funext fun b => Fin.ext ?_)
  match b with
  | ⟨0, _⟩ => rfl
  | ⟨1, _⟩ => show 1792 + j.val - 768 - 256 - 256 - 128 - 64 - 32 - 32 - 128 - 128 = j.val; omega

/-- Block 10 of the gathered columns. -/
theorem seg10 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 256) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨2048 + j.val, by omega⟩) = x10 (ix2 k j) := by
  rw [concatenate_cons_apply]
  rw [concatenateAt_cons, dif_neg (by show ¬ (2048 + j.val < 768); omega)]
  rw [concatenateAt_cons, dif_neg (by show ¬ (2048 + j.val - 768 < 256); omega)]
  rw [concatenateAt_cons, dif_neg (by show ¬ (2048 + j.val - 768 - 256 < 256); omega)]
  rw [concatenateAt_cons, dif_neg (by show ¬ (2048 + j.val - 768 - 256 - 256 < 128); omega)]
  rw [concatenateAt_cons, dif_neg (by show ¬ (2048 + j.val - 768 - 256 - 256 - 128 < 64); omega)]
  rw [concatenateAt_cons, dif_neg (by show ¬ (2048 + j.val - 768 - 256 - 256 - 128 - 64 < 32); omega)]
  rw [concatenateAt_cons, dif_neg (by show ¬ (2048 + j.val - 768 - 256 - 256 - 128 - 64 - 32 < 32); omega)]
  rw [concatenateAt_cons, dif_neg (by show ¬ (2048 + j.val - 768 - 256 - 256 - 128 - 64 - 32 - 32 < 128); omega)]
  rw [concatenateAt_cons, dif_neg (by show ¬ (2048 + j.val - 768 - 256 - 256 - 128 - 64 - 32 - 32 - 128 < 128); omega)]
  rw [concatenateAt_cons, dif_neg (by show ¬ (2048 + j.val - 768 - 256 - 256 - 128 - 64 - 32 - 32 - 128 - 128 < 256); omega)]
  rw [concatenateAt_cons, dif_pos (by show 2048 + j.val - 768 - 256 - 256 - 128 - 64 - 32 - 32 - 128 - 128 - 256 < 256; omega)]
  refine congrArg x10 (funext fun b => Fin.ext ?_)
  match b with
  | ⟨0, _⟩ => rfl
  | ⟨1, _⟩ => show 2048 + j.val - 768 - 256 - 256 - 128 - 64 - 32 - 32 - 128 - 128 - 256 = j.val; omega

/-- Block 11 of the gathered columns. -/
theorem seg11 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 128) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨2304 + j.val, by omega⟩) = x11 (ix2 k j) := by
  rw [concatenate_cons_apply]
  rw [concatenateAt_cons, dif_neg (by show ¬ (2304 + j.val < 768); omega)]
  rw [concatenateAt_cons, dif_neg (by show ¬ (2304 + j.val - 768 < 256); omega)]
  rw [concatenateAt_cons, dif_neg (by show ¬ (2304 + j.val - 768 - 256 < 256); omega)]
  rw [concatenateAt_cons, dif_neg (by show ¬ (2304 + j.val - 768 - 256 - 256 < 128); omega)]
  rw [concatenateAt_cons, dif_neg (by show ¬ (2304 + j.val - 768 - 256 - 256 - 128 < 64); omega)]
  rw [concatenateAt_cons, dif_neg (by show ¬ (2304 + j.val - 768 - 256 - 256 - 128 - 64 < 32); omega)]
  rw [concatenateAt_cons, dif_neg (by show ¬ (2304 + j.val - 768 - 256 - 256 - 128 - 64 - 32 < 32); omega)]
  rw [concatenateAt_cons, dif_neg (by show ¬ (2304 + j.val - 768 - 256 - 256 - 128 - 64 - 32 - 32 < 128); omega)]
  rw [concatenateAt_cons, dif_neg (by show ¬ (2304 + j.val - 768 - 256 - 256 - 128 - 64 - 32 - 32 - 128 < 128); omega)]
  rw [concatenateAt_cons, dif_neg (by show ¬ (2304 + j.val - 768 - 256 - 256 - 128 - 64 - 32 - 32 - 128 - 128 < 256); omega)]
  rw [concatenateAt_cons, dif_neg (by show ¬ (2304 + j.val - 768 - 256 - 256 - 128 - 64 - 32 - 32 - 128 - 128 - 256 < 256); omega)]
  rw [concatenateAt_cons, dif_pos (by show 2304 + j.val - 768 - 256 - 256 - 128 - 64 - 32 - 32 - 128 - 128 - 256 - 256 < 128; omega)]
  refine congrArg x11 (funext fun b => Fin.ext ?_)
  match b with
  | ⟨0, _⟩ => rfl
  | ⟨1, _⟩ => show 2304 + j.val - 768 - 256 - 256 - 128 - 64 - 32 - 32 - 128 - 128 - 256 - 256 = j.val; omega

/-- Block 14 of the gathered columns. -/
theorem seg14 (x0 : FVec Ideal S1024x768 .bf16) (x1 : FVec Ideal S1024x256 .bf16) (x2 : FVec Ideal S1024x256 .bf16) (x3 : FVec Ideal S1024x128 .bf16) (x4 : FVec Ideal S1024x64 .bf16) (x5 : FVec Ideal S1024x32 .bf16) (x6 : FVec Ideal S1024x32 .bf16) (x7 : FVec Ideal S1024x128 .bf16) (x8 : FVec Ideal S1024x128 .bf16) (x9 : FVec Ideal S1024x256 .bf16) (x10 : FVec Ideal S1024x256 .bf16) (x11 : FVec Ideal S1024x128 .bf16) (x12 : FVec Ideal S1024x256 .bf16) (x13 : FVec Ideal S1024x256 .bf16) (x14 : FVec Ideal S1024x256 .bf16) (k : Fin 1024) (j : Fin 256) h :
    (concatenate S1024x3200 1 [⟨S1024x768, x0⟩, ⟨S1024x256, x1⟩, ⟨S1024x256, x2⟩, ⟨S1024x128, x3⟩, ⟨S1024x64, x4⟩, ⟨S1024x32, x5⟩, ⟨S1024x32, x6⟩, ⟨S1024x128, x7⟩, ⟨S1024x128, x8⟩, ⟨S1024x256, x9⟩, ⟨S1024x256, x10⟩, ⟨S1024x128, x11⟩, ⟨S1024x256, x12⟩, ⟨S1024x256, x13⟩, ⟨S1024x256, x14⟩] h : FVec Ideal S1024x3200 .bf16) (ix2 k ⟨2944 + j.val, by omega⟩) = x14 (ix2 k j) := by
  rw [concatenate_cons_apply]
  rw [concatenateAt_cons, dif_neg (by show ¬ (2944 + j.val < 768); omega)]
  rw [concatenateAt_cons, dif_neg (by show ¬ (2944 + j.val - 768 < 256); omega)]
  rw [concatenateAt_cons, dif_neg (by show ¬ (2944 + j.val - 768 - 256 < 256); omega)]
  rw [concatenateAt_cons, dif_neg (by show ¬ (2944 + j.val - 768 - 256 - 256 < 128); omega)]
  rw [concatenateAt_cons, dif_neg (by show ¬ (2944 + j.val - 768 - 256 - 256 - 128 < 64); omega)]
  rw [concatenateAt_cons, dif_neg (by show ¬ (2944 + j.val - 768 - 256 - 256 - 128 - 64 < 32); omega)]
  rw [concatenateAt_cons, dif_neg (by show ¬ (2944 + j.val - 768 - 256 - 256 - 128 - 64 - 32 < 32); omega)]
  rw [concatenateAt_cons, dif_neg (by show ¬ (2944 + j.val - 768 - 256 - 256 - 128 - 64 - 32 - 32 < 128); omega)]
  rw [concatenateAt_cons, dif_neg (by show ¬ (2944 + j.val - 768 - 256 - 256 - 128 - 64 - 32 - 32 - 128 < 128); omega)]
  rw [concatenateAt_cons, dif_neg (by show ¬ (2944 + j.val - 768 - 256 - 256 - 128 - 64 - 32 - 32 - 128 - 128 < 256); omega)]
  rw [concatenateAt_cons, dif_neg (by show ¬ (2944 + j.val - 768 - 256 - 256 - 128 - 64 - 32 - 32 - 128 - 128 - 256 < 256); omega)]
  rw [concatenateAt_cons, dif_neg (by show ¬ (2944 + j.val - 768 - 256 - 256 - 128 - 64 - 32 - 32 - 128 - 128 - 256 - 256 < 128); omega)]
  rw [concatenateAt_cons, dif_neg (by show ¬ (2944 + j.val - 768 - 256 - 256 - 128 - 64 - 32 - 32 - 128 - 128 - 256 - 256 - 128 < 256); omega)]
  rw [concatenateAt_cons, dif_neg (by show ¬ (2944 + j.val - 768 - 256 - 256 - 128 - 64 - 32 - 32 - 128 - 128 - 256 - 256 - 128 - 256 < 256); omega)]
  rw [concatenateAt_singleton]
  refine congrArg x14 (funext fun b => Fin.ext ?_)
  match b with
  | ⟨0, _⟩ => rfl
  | ⟨1, _⟩ => show 2944 + j.val - 768 - 256 - 256 - 128 - 64 - 32 - 32 - 128 - 128 - 256 - 256 - 128 - 256 - 256 = j.val; omega

end Cert.InprojIdeal

end
-- ==== Proof.InprojIdeal.HostReads.lean ====
/- The arrays the input projections' kernel is called with, read at an index: what its host code made of the arguments. -/
module

public import proofs.«01_k».proof.Proof.InprojIdeal.Segments
public import Idealize.ShloMosaic.Lib.Pipeline.ValueKit
public import Idealize.ShloMosaic.Lib.StableHlo.ReadAt

@[expose] public section

set_option maxRecDepth 16384

noncomputable section

namespace Cert.InprojIdeal

open Idealize.ShloMosaic Idealize.ShloMosaic.TcCoe Idealize.SL.Sem Cert.InprojIdeal.Gen

/-- A host line cut inside its third stretch. -/
theorem after_cut (n : Nat) (A B C R : List (HloOp τ sig (Elt Ideal))) (W : Valuation τ sig (Elt Ideal)) :
    StableHlo.after (A ++ (B ++ (C ++ R))) W = StableHlo.after (C.drop n ++ R) (StableHlo.after (A ++ (B ++ C.take n)) W) := by
  rw [← StableHlo.after_append]
  congr 1
  rw [List.append_assoc, List.append_assoc, ← List.append_assoc (C.take n), List.take_append_drop]

/-- The host operations up to the casts of the gathered weights. -/
abbrev begun : List (HloOp τ sig (Elt Ideal)) :=
  hostOps0 ++ (hostOps0_1 ++ hostOps0_2.take 6)

/-- The host operations from the casts of the gathered weights on. -/
abbrev rest : List (HloOp τ sig (Elt Ideal)) :=
  hostOps0_2.drop 6 ++ (hostOps0_3 ++ (hostOps0_4 ++ (hostOps0_5 ++ hostOps0_6)))

/-- What the host line leaves in a buffer, in two stretches. -/
theorem V_cut (m : (ℓ : Loc nD τ sig) → Buf (Elt Ideal) ℓ) (c : Dev nD) (b : Ref sig .tc) :
    V m c b = StableHlo.after rest (StableHlo.after begun (fun b => m (c, b))) b := by
  have h : (List.flatten [hostOps0, hostOps0_1, hostOps0_2, hostOps0_3, hostOps0_4, hostOps0_5, hostOps0_6] : List (HloOp τ sig (Elt Ideal)))
      = hostOps0 ++ (hostOps0_1 ++ (hostOps0_2 ++ (hostOps0_3 ++ (hostOps0_4 ++ (hostOps0_5 ++ hostOps0_6))))) := by
    simp only [List.flatten_cons, List.flatten_nil, List.append_nil]
  exact (congrArg (fun l => StableHlo.after l (fun b => m (c, b)) b) h).trans (congrFun (after_cut 6 hostOps0 hostOps0_1 hostOps0_2 _ _) b)

variable (W : Valuation τ sig (Elt Ideal))

/-- Block 0 of the gathered weights. -/
theorem cat0 (k : Fin 1024) (j : Fin 768) :
    (StableHlo.after rest W (Proc.tc.devRef main_v64) : FVec Ideal S1024x3200 .bf16) (ix2 k ⟨0 + j.val, by omega⟩) = (W (Proc.tc.devRef main_v26) : FVec Ideal S1024x768 .f32) (ix2 k j) := by
  simp only [rest, hostOps0_2, List.drop]
  after_reads_simp
  simp only [Matrix.cons_val]
  after_reads_simp
  exact seg0 _ _ _ _ _ _ _ _ _ _ _ _ _ _ _ k j _

/-- Block 0 before its cast. -/
theorem src0 (k : Fin 1024) (j : Fin 768) :
    (StableHlo.after begun W (Proc.tc.devRef main_v26) : FVec Ideal S1024x768 .f32) (ix2 k j) = (W (Proc.tc.devRef main_arg2) : FVec Ideal S1024x3004 .f32) (ix2 k ⟨0 + j.val, by omega⟩) := by
  simp only [begun, hostOps0_2, List.take]
  after_reads_simp
  pointwise
  try simp only [Nat.zero_add]

/-- Block 1 of the gathered weights. -/
theorem cat1 (k : Fin 1024) (j : Fin 256) :
    (StableHlo.after rest W (Proc.tc.devRef main_v64) : FVec Ideal S1024x3200 .bf16) (ix2 k ⟨768 + j.val, by omega⟩) = (W (Proc.tc.devRef main_v27) : FVec Ideal S1024x256 .f32) (ix2 k j) := by
  simp only [rest, hostOps0_2, List.drop]
  after_reads_simp
  simp only [Matrix.cons_val]
  after_reads_simp
  exact seg1 _ _ _ _ _ _ _ _ _ _ _ _ _ _ _ k j _

/-- Block 1 before its cast. -/
theorem src1 (k : Fin 1024) (j : Fin 256) :
    (StableHlo.after begun W (Proc.tc.devRef main_v27) : FVec Ideal S1024x256 .f32) (ix2 k j) = (W (Proc.tc.devRef main_arg2) : FVec Ideal S1024x3004 .f32) (ix2 k ⟨768 + j.val, by omega⟩) := by
  simp only [begun, hostOps0_2, List.take]
  after_reads_simp
  pointwise
  try simp only [Nat.zero_add]

/-- Block 7 of the gathered weights. -/
theorem cat7 (k : Fin 1024) (j : Fin 128) :
    (StableHlo.after rest W (Proc.tc.devRef main_v64) : FVec Ideal S1024x3200 .bf16) (ix2 k ⟨1536 + j.val, by omega⟩) = (W (Proc.tc.devRef main_v33) : FVec Ideal S1024x128 .f32) (ix2 k j) := by
  simp only [rest, hostOps0_2, List.drop]
  after_reads_simp
  simp only [Matrix.cons_val]
  after_reads_simp
  exact seg7 _ _ _ _ _ _ _ _ _ _ _ _ _ _ _ k j _

/-- Block 7 before its cast. -/
theorem src7 (k : Fin 1024) (j : Fin 128) :
    (StableHlo.after begun W (Proc.tc.devRef main_v33) : FVec Ideal S1024x128 .f32) (ix2 k j) = (W (Proc.tc.devRef main_arg2) : FVec Ideal S1024x3004 .f32) (ix2 k ⟨1448 + j.val, by omega⟩) := by
  simp only [begun, hostOps0_2, List.take]
  after_reads_simp
  pointwise
  try simp only [Nat.zero_add]

/-- Block 8 of the gathered weights. -/
theorem cat8 (k : Fin 1024) (j : Fin 128) :
    (StableHlo.after rest W (Proc.tc.devRef main_v64) : FVec Ideal S1024x3200 .bf16) (ix2 k ⟨1664 + j.val, by omega⟩) = (W (Proc.tc.devRef main_v34) : FVec Ideal S1024x128 .f32) (ix2 k j) := by
  simp only [rest, hostOps0_2, List.drop]
  after_reads_simp
  simp only [Matrix.cons_val]
  after_reads_simp
  exact seg8 _ _ _ _ _ _ _ _ _ _ _ _ _ _ _ k j _

/-- Block 8 before its cast. -/
theorem src8 (k : Fin 1024) (j : Fin 128) :
    (StableHlo.after begun W (Proc.tc.devRef main_v34) : FVec Ideal S1024x128 .f32) (ix2 k j) = (W (Proc.tc.devRef main_arg2) : FVec Ideal S1024x3004 .f32) (ix2 k ⟨1576 + j.val, by omega⟩) := by
  simp only [begun, hostOps0_2, List.take]
  after_reads_simp
  pointwise
  try simp only [Nat.zero_add]

/-- Block 9 of the gathered weights. -/
theorem cat9 (k : Fin 1024) (j : Fin 256) :
    (StableHlo.after rest W (Proc.tc.devRef main_v64) : FVec Ideal S1024x3200 .bf16) (ix2 k ⟨1792 + j.val, by omega⟩) = (W (Proc.tc.devRef main_v35) : FVec Ideal S1024x256 .f32) (ix2 k j) := by
  simp only [rest, hostOps0_2, List.drop]
  after_reads_simp
  simp only [Matrix.cons_val]
  after_reads_simp
  exact seg9 _ _ _ _ _ _ _ _ _ _ _ _ _ _ _ k j _

/-- Block 9 before its cast. -/
theorem src9 (k : Fin 1024) (j : Fin 256) :
    (StableHlo.after begun W (Proc.tc.devRef main_v35) : FVec Ideal S1024x256 .f32) (ix2 k j) = (W (Proc.tc.devRef main_arg2) : FVec Ideal S1024x3004 .f32) (ix2 k ⟨1704 + j.val, by omega⟩) := by
  simp only [begun, hostOps0_2, List.take]
  after_reads_simp
  pointwise
  try simp only [Nat.zero_add]

/-- Block 10 of the gathered weights. -/
theorem cat10 (k : Fin 1024) (j : Fin 256) :
    (StableHlo.after rest W (Proc.tc.devRef main_v64) : FVec Ideal S1024x3200 .bf16) (ix2 k ⟨2048 + j.val, by omega⟩) = (W (Proc.tc.devRef main_v36) : FVec Ideal S1024x256 .f32) (ix2 k j) := by
  simp only [rest, hostOps0_2, List.drop]
  after_reads_simp
  simp only [Matrix.cons_val]
  after_reads_simp
  exact seg10 _ _ _ _ _ _ _ _ _ _ _ _ _ _ _ k j _

/-- Block 10 before its cast. -/
theorem src10 (k : Fin 1024) (j : Fin 256) :
    (StableHlo.after begun W (Proc.tc.devRef main_v36) : FVec Ideal S1024x256 .f32) (ix2 k j) = (W (Proc.tc.devRef main_arg2) : FVec Ideal S1024x3004 .f32) (ix2 k ⟨1960 + j.val, by omega⟩) := by
  simp only [begun, hostOps0_2, List.take]
  after_reads_simp
  pointwise
  try simp only [Nat.zero_add]

/-- Block 11 of the gathered weights. -/
theorem cat11 (k : Fin 1024) (j : Fin 128) :
    (StableHlo.after rest W (Proc.tc.devRef main_v64) : FVec Ideal S1024x3200 .bf16) (ix2 k ⟨2304 + j.val, by omega⟩) = (W (Proc.tc.devRef main_v43) : FVec Ideal S1024x128 .f32) (ix2 k j) := by
  simp only [rest, hostOps0_2, List.drop]
  after_reads_simp
  simp only [Matrix.cons_val]
  after_reads_simp
  exact seg11 _ _ _ _ _ _ _ _ _ _ _ _ _ _ _ k j _

/-- Block 14 of the gathered weights. -/
theorem cat14 (k : Fin 1024) (j : Fin 256) :
    (StableHlo.after rest W (Proc.tc.devRef main_v64) : FVec Ideal S1024x3200 .bf16) (ix2 k ⟨2944 + j.val, by omega⟩) = (W (Proc.tc.devRef main_v40) : FVec Ideal S1024x256 .f32) (ix2 k j) := by
  simp only [rest, hostOps0_2, List.drop]
  after_reads_simp
  simp only [Matrix.cons_val]
  after_reads_simp
  exact seg14 _ _ _ _ _ _ _ _ _ _ _ _ _ _ _ k j _

/-- Block 14 before its cast. -/
theorem src14 (k : Fin 1024) (j : Fin 256) :
    (StableHlo.after begun W (Proc.tc.devRef main_v40) : FVec Ideal S1024x256 .f32) (ix2 k j) = (W (Proc.tc.devRef main_arg2) : FVec Ideal S1024x3004 .f32) (ix2 k ⟨2744 + j.val, by omega⟩) := by
  simp only [begun, hostOps0_2, List.take]
  after_reads_simp
  pointwise
  try simp only [Nat.zero_add]

/-- A small column: the two gates, the low-rank columns and the forget gate, then zeros. -/
def smallAt (f : Fin 3004 → EReal) (j : Fin 128) : EReal :=
  if h : j.val < 4 then f ⟨1028 + j.val, by omega⟩ else if h : j.val < 8 then f ⟨1024 + (j.val - 4), by omega⟩
  else if h : j.val < 24 then f ⟨2216 + (j.val - 8), by omega⟩ else if h : j.val < 28 then f ⟨3000 + (j.val - 24), by omega⟩ else 0

/-- The integer zero as a float. -/
theorem zero_float : FloatOps.sitofp (F := Ideal) .f32 (0#32) = (0 : EReal) := by
  show (((0#32).toInt : ℝ) : EReal) = 0
  simp

/-- The gathered small columns before their cast. -/
theorem src11 (k : Fin 1024) (j : Fin 128) :
    (StableHlo.after begun W (Proc.tc.devRef main_v43) : FVec Ideal S1024x128 .f32) (ix2 k j)
      = smallAt (fun l => (W (Proc.tc.devRef main_arg2) : FVec Ideal S1024x3004 .f32) (ix2 k l)) j := by
  simp only [begun, hostOps0_2, List.take]
  after_reads_simp
  try simp only [Matrix.cons_val]
  try after_reads_simp
  try simp -implicitDefEqProofs only [StableHlo.TRef.toBuf, StableHlo.TRef.ofBuf, cast_cast, cast_eq]
  clean_types
  pointwise [smallAt]
  after_reads_simp
  pointwise
  by_cases h1 : j.val < 4
  · rw [dif_pos (show j.val < 28 by omega), dif_pos h1, dif_pos h1]
  by_cases h2 : j.val < 8
  · rw [dif_pos (show j.val < 28 by omega), dif_neg h1, dif_neg h1, dif_pos (show j.val - 4 < 4 by omega), dif_pos h2]
  by_cases h3 : j.val < 24
  · rw [dif_pos (show j.val < 28 by omega), dif_neg h1, dif_neg h1, dif_neg (show ¬ j.val - 4 < 4 by omega), dif_neg h2, dif_pos (show j.val - 4 - 4 < 16 by omega), dif_pos h3]
    exact congrArg (fun l => (W (Proc.tc.devRef main_arg2) : FVec Ideal S1024x3004 .f32) (ix2 k l)) (Fin.ext (by show 2216 + (j.val - 4 - 4) = 2216 + (j.val - 8); omega))
  by_cases h4 : j.val < 28
  · rw [dif_pos h4, dif_neg h1, dif_neg h1, dif_neg (show ¬ j.val - 4 < 4 by omega), dif_neg h2, dif_neg (show ¬ j.val - 4 - 4 < 16 by omega), dif_neg h3, dif_pos h4]
    exact congrArg (fun l => (W (Proc.tc.devRef main_arg2) : FVec Ideal S1024x3004 .f32) (ix2 k l)) (Fin.ext (by show 3000 + (j.val - 4 - 4 - 16) = 3000 + (j.val - 24); omega))
  · rw [dif_neg h4, dif_neg h1, dif_neg h2, dif_neg h3, dif_neg h4]
    exact zero_float

/-- The low-rank weights behind eight zero rows. -/
theorem wgu (l j : Fin 128) :
    (StableHlo.after rest W (Proc.tc.devRef main_v66) : FVec Ideal S128x128 .bf16) (ix2 l j)
      = if h : 8 ≤ l.val ∧ l.val < 24 then (W (Proc.tc.devRef main_arg4) : FVec Ideal S16x128 .f32) (ix2 ⟨l.val - 8, by omega⟩ j) else (0 : EReal) := by
  simp only [rest, hostOps0_2, List.drop]
  after_reads_simp
  try simp -implicitDefEqProofs only [StableHlo.TRef.toBuf, StableHlo.TRef.ofBuf, cast_cast, cast_eq]
  clean_types
  pointwise
  by_cases h : 8 ≤ l.val ∧ l.val < 24
  · rw [dif_pos h, dif_pos ⟨h.1, by omega⟩]
  · rw [dif_neg h, dif_neg (fun h' => h ⟨h'.1, by omega⟩)]
    exact zero_float

/-- The gate bias as a row. -/
theorem gbias (j : Fin 128) :
    (StableHlo.after rest W (Proc.tc.devRef main_v67) : FVec Ideal S1x128 .f32) (ix2 0 j) = (W (Proc.tc.devRef main_arg5) : FVec Ideal S128 .f32) (ix1 j) := by
  simp only [rest, hostOps0_2, List.drop]
  after_reads_simp
  try simp -implicitDefEqProofs only [StableHlo.TRef.toBuf, StableHlo.TRef.ofBuf, cast_cast, cast_eq]
  clean_types
  pointwise

/-- The gains as a row. -/
theorem gain (k : Fin 1024) :
    (StableHlo.after rest (StableHlo.after begun W) (Proc.tc.devRef main_v25) : FVec Ideal S1x1024 .f32) (ix2 0 k) = (W (Proc.tc.devRef main_arg1) : FVec Ideal S1024 .f32) (ix1 k) := by
  have e : StableHlo.after rest (StableHlo.after begun W) (Proc.tc.devRef main_v25) = StableHlo.after begun W (Proc.tc.devRef main_v25) := by
    simp only [rest, hostOps0_2, List.drop]
    after_reads_simp
  rw [e]
  simp only [begun, hostOps0_2, List.take]
  after_reads_simp
  try simp -implicitDefEqProofs only [StableHlo.TRef.toBuf, StableHlo.TRef.ofBuf, cast_cast, cast_eq]
  clean_types
  pointwise

/-- The low-rank weights are an argument. -/
theorem begun4 : StableHlo.after begun W (Proc.tc.devRef main_arg4) = W (Proc.tc.devRef main_arg4) := by
  simp only [begun, hostOps0_2, List.take]
  after_reads_simp

/-- The gate bias is an argument. -/
theorem begun5 : StableHlo.after begun W (Proc.tc.devRef main_arg5) = W (Proc.tc.devRef main_arg5) := by
  simp only [begun, hostOps0_2, List.take]
  after_reads_simp

end Cert.InprojIdeal

end
-- ==== Proof.InprojRefIdeal.Value.lean ====
/- The results of the input projections' reference, read at an index over the extended reals. -/
module

public import proofs.«01_k».proof.Proof.Gen.InprojRefIdeal.Run
public import proofs.«01_k».proof.Proof.Math.Rms
public import proofs.«01_k».proof.Proof.Math.Decay

@[expose] public section

set_option maxRecDepth 16384

noncomputable section

namespace Cert.InprojRefIdeal

open Idealize.ShloMosaic Idealize.ShloMosaic.TcCoe Idealize.SL.Sem Cert.InprojRefIdeal.Gen

/-- The normalization of every row. -/
def hN (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The projection of every normalized row. -/
def proj (x : FVec Ideal S32768x1024 .f32) (g : FVec Ideal S1024 .f32) (w : FVec Ideal S1024x3004 .f32) : FVec Ideal S32768x3004 .f32 :=
  Host.dotGeneral dot_S32768x1024_S1024x3004_S32768x3004_1_0_0_1_n_n none (hN x g) w

/-- The decay gate before its log-sigmoid. -/
def logits (P : FVec Ideal S32768x3004 .f32) (a4 : FVec Ideal S16x128 .f32) (a5 : FVec Ideal S128 .f32) : FVec Ideal S32768x128 .f32 :=
  addf (Host.dotGeneral dot_S32768x16_S16x128_S32768x128_1_0_0_1_n_n none (extractStridedSlice S32768x16 ![0, 2216] P slices_S32768x3004_S32768x16_0_2216) a4) (broadcastInDim S32768x128 ![0, 1] bcast_S1x128_S32768x128_0_1 (broadcastInDim S1x128 ![1] bcast_S128_S1x128_1 a5))

/-- The log-decay: the log-sigmoid over its temperature. -/
def decay (y : FVec Ideal S32768x128 .f32) : FVec Ideal S32768x128 .f32 :=
  Host.divf (Host.negf (select (cmpf .une (subf (Host.negf y) (broadcastInDim S32768x128 ![] bcast_S_S32768x128 (constant S_ .f32 0x00000000#32))) (subf (Host.negf y) (broadcastInDim S32768x128 ![] bcast_S_S32768x128 (constant S_ .f32 0x00000000#32)))) (addf (Host.negf y) (broadcastInDim S32768x128 ![] bcast_S_S32768x128 (constant S_ .f32 0x00000000#32))) (addf (maximumf (Host.negf y) (broadcastInDim S32768x128 ![] bcast_S_S32768x128 (constant S_ .f32 0x00000000#32))) (Host.log1p (Host.exp (Host.negf (Host.absf (subf (Host.negf y) (broadcastInDim S32768x128 ![] bcast_S_S32768x128 (constant S_ .f32 0x00000000#32)))))))))) (broadcastInDim S32768x128 ![] bcast_S_S32768x128 (constant S_ .f32 0x41800000#32))

/-- The projected query, key and value of every sequence, behind three zero rows. -/
def padded (P : FVec Ideal S32768x3004 .f32) : FVec Ideal S8x4099x768 .f32 :=
  pad S8x4099x768 ![0, 3, 0] ![0, 0, 0] ![0, 0, 0] (shapeCast S8x4096x768 (extractStridedSlice S32768x768 ![0, 0] P slices_S32768x3004_S32768x768_0_0) shapeCasts_S32768x768_S8x4096x768) (sitofp .f32 (constantI S_ 32 0#32)) pads_S8x4096x768_S8x4099x768_000_300_000 h_S_

/-- Tap 0 of the convolution. -/
def tap0 (a3 : FVec Ideal S4x768 .f32) (p : FVec Ideal S8x4099x768 .f32) : FVec Ideal S8x4096x768 .f32 :=
  mulf (broadcastInDim S8x4096x768 ![0, 1, 2] bcast_S1x1x768_S8x4096x768_0_1_2 (broadcastInDim S1x1x768 ![2] bcast_S768_S1x1x768_2 (shapeCast S768 (extractStridedSlice S1x768 ![0, 0] a3 slices_S4x768_S1x768_0_0) shapeCasts_S1x768_S768))) (extractStridedSlice S8x4096x768 ![0, 0, 0] p slices_S8x4099x768_S8x4096x768_0_0_0)

/-- Tap 1 of the convolution. -/
def tap1 (a3 : FVec Ideal S4x768 .f32) (p : FVec Ideal S8x4099x768 .f32) : FVec Ideal S8x4096x768 .f32 :=
  mulf (broadcastInDim S8x4096x768 ![0, 1, 2] bcast_S1x1x768_S8x4096x768_0_1_2 (broadcastInDim S1x1x768 ![2] bcast_S768_S1x1x768_2 (shapeCast S768 (extractStridedSlice S1x768 ![1, 0] a3 slices_S4x768_S1x768_1_0) shapeCasts_S1x768_S768))) (extractStridedSlice S8x4096x768 ![0, 1, 0] p slices_S8x4099x768_S8x4096x768_0_1_0)

/-- Tap 2 of the convolution. -/
def tap2 (a3 : FVec Ideal S4x768 .f32) (p : FVec Ideal S8x4099x768 .f32) : FVec Ideal S8x4096x768 .f32 :=
  mulf (broadcastInDim S8x4096x768 ![0, 1, 2] bcast_S1x1x768_S8x4096x768_0_1_2 (broadcastInDim S1x1x768 ![2] bcast_S768_S1x1x768_2 (shapeCast S768 (extractStridedSlice S1x768 ![2, 0] a3 slices_S4x768_S1x768_2_0) shapeCasts_S1x768_S768))) (extractStridedSlice S8x4096x768 ![0, 2, 0] p slices_S8x4099x768_S8x4096x768_0_2_0)

/-- Tap 3 of the convolution. -/
def tap3 (a3 : FVec Ideal S4x768 .f32) (p : FVec Ideal S8x4099x768 .f32) : FVec Ideal S8x4096x768 .f32 :=
  mulf (broadcastInDim S8x4096x768 ![0, 1, 2] bcast_S1x1x768_S8x4096x768_0_1_2 (broadcastInDim S1x1x768 ![2] bcast_S768_S1x1x768_2 (shapeCast S768 (extractStridedSlice S1x768 ![3, 0] a3 slices_S4x768_S1x768_3_0) shapeCasts_S1x768_S768))) (extractStridedSlice S8x4096x768 ![0, 3, 0] p slices_S8x4099x768_S8x4096x768_0_3_0)

/-- The causal convolution over four rows. -/
def conv (a3 : FVec Ideal S4x768 .f32) (P : FVec Ideal S32768x3004 .f32) : FVec Ideal S8x4096x768 .f32 :=
  addf (addf (addf (addf (broadcastInDim S8x4096x768 ![] bcast_S_S8x4096x768 (constant S_ .f32 0x00000000#32)) (tap0 a3 (padded P))) (tap1 a3 (padded P))) (tap2 a3 (padded P))) (tap3 a3 (padded P))

/-- The product with its own sigmoid. -/
def silu (y : FVec Ideal S8x4096x768 .f32) : FVec Ideal S8x4096x768 .f32 :=
  mulf y (Host.divf (broadcastInDim S8x4096x768 ![] bcast_S_S8x4096x768 (constant S_ .f32 0x3F800000#32)) (addf (broadcastInDim S8x4096x768 ![] bcast_S_S8x4096x768 (constant S_ .f32 0x3F800000#32)) (Host.exp (Host.negf y))))

/-- The first result. -/
def outA (P : FVec Ideal S32768x3004 .f32) (a3 : FVec Ideal S4x768 .f32) : FVec Ideal S32768x1152 .f32 :=
  (concatenate S32768x1152 1 [⟨S32768x768, ((shapeCast S32768x768 (silu (conv a3 P)) shapeCasts_S8x4096x768_S32768x768))⟩, ⟨S32768x256, ((extractStridedSlice S32768x256 ![0, 768] P slices_S32768x3004_S32768x256_0_768))⟩, ⟨S32768x4, ((extractStridedSlice S32768x4 ![0, 1028] P slices_S32768x3004_S32768x4_0_1028))⟩, ⟨S32768x4, ((extractStridedSlice S32768x4 ![0, 1024] P slices_S32768x3004_S32768x4_0_1024))⟩, ⟨S32768x16, ((extractStridedSlice S32768x16 ![0, 2216] P slices_S32768x3004_S32768x16_0_2216))⟩, ⟨S32768x4, ((extractStridedSlice S32768x4 ![0, 3000] P slices_S32768x3004_S32768x4_0_3000))⟩, ⟨S32768x100, ((broadcastInDim S32768x100 ![] bcast_S_S32768x100 (constant S_ .f32 0x00000000#32)))⟩] concatenates_S32768x768_S32768x256_S32768x4_S32768x4_S32768x16_S32768x4_S32768x100_S32768x1152_d1)

/-- The second result. -/
def outC (P : FVec Ideal S32768x3004 .f32) (a4 : FVec Ideal S16x128 .f32) (a5 : FVec Ideal S128 .f32) : FVec Ideal S32768x896 .f32 :=
  (concatenate S32768x896 1 [⟨S32768x128, ((extractStridedSlice S32768x128 ![0, 1448] P slices_S32768x3004_S32768x128_0_1448))⟩, ⟨S32768x128, ((extractStridedSlice S32768x128 ![0, 1576] P slices_S32768x3004_S32768x128_0_1576))⟩, ⟨S32768x256, ((extractStridedSlice S32768x256 ![0, 1704] P slices_S32768x3004_S32768x256_0_1704))⟩, ⟨S32768x256, ((extractStridedSlice S32768x256 ![0, 1960] P slices_S32768x3004_S32768x256_0_1960))⟩, ⟨S32768x128, (decay (logits P a4 a5))⟩] concatenates_S32768x128_S32768x128_S32768x256_S32768x256_S32768x128_S32768x896_d1)

/-- The last branch's values, split into tiles and heads. -/
def perTile (P : FVec Ideal S32768x3004 .f32) : FVec Ideal S64x512x4x64 .f32 :=
  shapeCast S64x512x4x64 (extractStridedSlice S32768x256 ![0, 2744] P slices_S32768x3004_S32768x256_0_2744) shapeCasts_S32768x256_S64x512x4x64

/-- The third result. -/
def outV (P : FVec Ideal S32768x3004 .f32) : FVec Ideal S64x320x512 .bf16 :=
  truncf .bf16 (shapeCast S64x320x512 ((concatenate S64x4x80x512 2 [⟨S64x4x64x512, ((transpose S64x4x64x512 [0, 2, 3, 1] (perTile P) transposes_S64x512x4x64_S64x4x64x512_0_2_3_1))⟩, ⟨S64x4x1x512, ((broadcastInDim S64x4x1x512 ![] bcast_S_S64x4x1x512 (constant S_ .f32 0x3F800000#32)))⟩, ⟨S64x4x15x512, ((broadcastInDim S64x4x15x512 ![] bcast_S_S64x4x15x512 (constant S_ .f32 0x00000000#32)))⟩] concatenates_S64x4x64x512_S64x4x1x512_S64x4x15x512_S64x4x80x512_d2)) shapeCasts_S64x4x80x512_S64x320x512) bitsLt_bf16_f32

/-- The first result in these terms. -/
theorem resA_eq (m : (ℓ : Loc nD τ sig) → Buf (Elt Ideal) ℓ) (c : Dev nD) :
    Value.res_out0 m c = outA (proj (m ((c.tc : Thread nD τ).loc main_arg0)) (m ((c.tc : Thread nD τ).loc main_arg1)) (m ((c.tc : Thread nD τ).loc main_arg2))) (m ((c.tc : Thread nD τ).loc main_arg3)) := rfl

/-- The second result in these terms. -/
theorem resC_eq (m : (ℓ : Loc nD τ sig) → Buf (Elt Ideal) ℓ) (c : Dev nD) :
    Value.res_out1 m c = outC (proj (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5)) := rfl

/-- The reference's run, its results in these terms. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = outA (proj (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v72) = outC (proj (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg5))
      ∧ r.2.mem ((c.tc : Thread nD τ).loc main_v79) = outV (proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run m ρ

/-- A normalized element, at an index. -/
theorem hN_apply (x : FVec Ideal S32768x1024 .f32) (g : FVec Ideal S1024 .f32) (i : Fin 32768) (j : Fin 1024) :
    hN x g (ix2 i j) = Rms.rms (fun k => x (ix2 i k)) (g (ix1 j)) j := by
  pointwise [hN]
  rfl

/-- A projected element, at an index. -/
theorem proj_apply (x : FVec Ideal S32768x1024 .f32) (g : FVec Ideal S1024 .f32) (w : FVec Ideal S1024x3004 .f32) (i : Fin 32768) (q : Fin 3004) :
    proj x g w (ix2 i q) = ∑ k : Fin 1024, Rms.rms (fun k => x (ix2 i k)) (g (ix1 k)) k * w (ix2 k q) := by
  simp only [← hN_apply]
  pointwise [proj]

/-- The gate before its log-sigmoid, at an index. -/
theorem logits_apply (P : FVec Ideal S32768x3004 .f32) (a4 : FVec Ideal S16x128 .f32) (a5 : FVec Ideal S128 .f32) (i : Fin 32768) (j : Fin 128) :
    logits P a4 a5 (ix2 i j) = (∑ l : Fin 16, P (ix2 i ⟨2216 + l.val, by omega⟩) * a4 (ix2 l j)) + a5 (ix1 j) := by
  pointwise [logits]

/-- The log-decay, at an index. -/
theorem decay_apply (y : FVec Ideal S32768x128 .f32) (i : Fin 32768) (j : Fin 128) :
    decay y (ix2 i j) = Decay.logDecay (y (ix2 i j)) := by
  pointwise [decay]
  rw [if_neg (by simp)]
  rfl

/-- A row of the padded sequence. -/
theorem padded_apply (P : FVec Ideal S32768x3004 .f32) (s : Fin 8) (r : Fin 4099) (j : Fin 768) :
    padded P (ix3 s r j) = if h : 3 ≤ r.val then P (ix2 ⟨s.val * 4096 + (r.val - 3), by omega⟩ ⟨j.val, by omega⟩) else 0 := by
  pointwise [padded]
  have e0 : FloatOps.sitofp (F := Ideal) .f32 (0#32) = (0 : EReal) := by
    show (((0#32).toInt : ℝ) : EReal) = 0
    simp
  split_ifs with h1 h2 h2
  · rfl
  · exact absurd h1.1 h2
  · exact absurd ⟨h2, by omega⟩ h1
  · exact e0

/-- Tap 0, at an index. -/
theorem tap0_apply (a3 : FVec Ideal S4x768 .f32) (p : FVec Ideal S8x4099x768 .f32) (s : Fin 8) (r : Fin 4096) (j : Fin 768) :
    tap0 a3 p (ix3 s r j) = a3 (ix2 0 j) * p (ix3 s ⟨0 + r.val, by omega⟩ j) := by
  pointwise [tap0]

/-- Tap 1, at an index. -/
theorem tap1_apply (a3 : FVec Ideal S4x768 .f32) (p : FVec Ideal S8x4099x768 .f32) (s : Fin 8) (r : Fin 4096) (j : Fin 768) :
    tap1 a3 p (ix3 s r j) = a3 (ix2 1 j) * p (ix3 s ⟨1 + r.val, by omega⟩ j) := by
  pointwise [tap1]

/-- Tap 2, at an index. -/
theorem tap2_apply (a3 : FVec Ideal S4x768 .f32) (p : FVec Ideal S8x4099x768 .f32) (s : Fin 8) (r : Fin 4096) (j : Fin 768) :
    tap2 a3 p (ix3 s r j) = a3 (ix2 2 j) * p (ix3 s ⟨2 + r.val, by omega⟩ j) := by
  pointwise [tap2]

/-- Tap 3, at an index. -/
theorem tap3_apply (a3 : FVec Ideal S4x768 .f32) (p : FVec Ideal S8x4099x768 .f32) (s : Fin 8) (r : Fin 4096) (j : Fin 768) :
    tap3 a3 p (ix3 s r j) = a3 (ix2 3 j) * p (ix3 s ⟨3 + r.val, by omega⟩ j) := by
  pointwise [tap3]

/-- The convolution, at an index. -/
theorem conv_apply (a3 : FVec Ideal S4x768 .f32) (P : FVec Ideal S32768x3004 .f32) (s : Fin 8) (r : Fin 4096) (j : Fin 768) :
    conv a3 P (ix3 s r j) = tap0 a3 (padded P) (ix3 s r j) + tap1 a3 (padded P) (ix3 s r j) + tap2 a3 (padded P) (ix3 s r j) + tap3 a3 (padded P) (ix3 s r j) := by
  pointwise [conv]

/-- The product with its own sigmoid, at an index. -/
theorem silu_apply (y : FVec Ideal S8x4096x768 .f32) (s : Fin 8) (r : Fin 4096) (j : Fin 768) :
    silu y (ix3 s r j) = y (ix3 s r j) * Ideal.logistic (y (ix3 s r j)) := by
  pointwise [silu]
  rw [Ideal.logistic]

/-- The last branch's values, at an index. -/
theorem perTile_apply (P : FVec Ideal S32768x3004 .f32) (b : Fin 64) (r : Fin 512) (h : Fin 4) (d : Fin 64) :
    perTile P (ix4 b r h d) = P (ix2 ⟨b.val * 512 + r.val, by omega⟩ ⟨2744 + (h.val * 64 + d.val), by omega⟩) := by
  pointwise [perTile]

/-- The third branch's row, at an index. -/
theorem outC_apply (P : FVec Ideal S32768x3004 .f32) (a4 : FVec Ideal S16x128 .f32) (a5 : FVec Ideal S128 .f32) (i : Fin 32768) (j : Fin 896) :
    outC P a4 a5 (ix2 i j) = if h : j.val < 768 then P (ix2 i ⟨1448 + j.val, by omega⟩) else decay (logits P a4 a5) (ix2 i ⟨j.val - 768, by omega⟩) := by
  pointwise [outC]
  by_cases hj : j.val < 768
  · rw [dif_pos hj]
    split_ifs <;> first
      | (exfalso; omega)
      | (refine congrArg P (congrArg (ix2 i) (Fin.ext ?_)); show (_ : Nat) = _; first | rfl | (dsimp only; omega))
  · rw [dif_neg hj]
    split_ifs <;> first
      | (exfalso; omega)
      | (refine congrArg (decay (logits P a4 a5)) (congrArg (ix2 i) (Fin.ext ?_)); show (_ : Nat) = _; first | rfl | (dsimp only; omega))

/-- The last branch's values, at an index. -/
theorem outV_apply (P : FVec Ideal S32768x3004 .f32) (b : Fin 64) (h : Fin 4) (d : Fin 80) (r : Fin 512) :
    outV P (ix3 b ⟨h.val * 80 + d.val, by omega⟩ r) = if h' : d.val < 64 then P (ix2 ⟨b.val * 512 + r.val, by omega⟩ ⟨2744 + (h.val * 64 + d.val), by omega⟩) else if d.val = 64 then 1 else 0 := by
  pointwise [outV]
  split_ifs <;> first
    | (exfalso; omega)
    | rfl
    | exact perTile_apply P b r h _
    | simp

/-- The first branch's convolved columns, at an index. -/
theorem outA_conv (P : FVec Ideal S32768x3004 .f32) (a3 : FVec Ideal S4x768 .f32) (s : Fin 8) (r : Fin 4096) (j : Fin 768) :
    outA P a3 (ix2 ⟨s.val * 4096 + r.val, by omega⟩ ⟨j.val, by omega⟩) = silu (conv a3 P) (ix3 s r j) := by
  pointwise [outA]

/-- The first branch's gate columns, at an index. -/
theorem outA_gate (P : FVec Ideal S32768x3004 .f32) (a3 : FVec Ideal S4x768 .f32) (i : Fin 32768) (j : Fin 256) :
    outA P a3 (ix2 i ⟨768 + j.val, by omega⟩) = P (ix2 i ⟨768 + j.val, by omega⟩) := by
  pointwise [outA]

/-- The first branch's small columns: the two gates, the low-rank columns and the forget gate, then zeros. -/
theorem outA_small (P : FVec Ideal S32768x3004 .f32) (a3 : FVec Ideal S4x768 .f32) (i : Fin 32768) (j : Fin 128) :
    outA P a3 (ix2 i ⟨1024 + j.val, by omega⟩) =
      if h : j.val < 4 then P (ix2 i ⟨1028 + j.val, by omega⟩) else if h : j.val < 8 then P (ix2 i ⟨1024 + (j.val - 4), by omega⟩)
      else if h : j.val < 24 then P (ix2 i ⟨2216 + (j.val - 8), by omega⟩) else if h : j.val < 28 then P (ix2 i ⟨3000 + (j.val - 24), by omega⟩) else 0 := by
  pointwise [outA]
  by_cases h1 : j.val < 4
  · rw [dif_pos h1]
    split_ifs <;> first
      | (exfalso; omega)
      | with_reducible rfl
      | (refine congrArg P (congrArg (ix2 i) (Fin.ext ?_)); show (_ : Nat) = _; first | omega | with_reducible rfl | (dsimp only; omega))
  rw [dif_neg h1]
  by_cases h2 : j.val < 8
  · rw [dif_pos h2]
    split_ifs <;> first
      | (exfalso; omega)
      | with_reducible rfl
      | (refine congrArg P (congrArg (ix2 i) (Fin.ext ?_)); show (_ : Nat) = _; first | omega | with_reducible rfl | (dsimp only; omega))
  rw [dif_neg h2]
  by_cases h3 : j.val < 24
  · rw [dif_pos h3]
    split_ifs <;> first
      | (exfalso; omega)
      | with_reducible rfl
      | (refine congrArg P (congrArg (ix2 i) (Fin.ext ?_)); show (_ : Nat) = _; first | omega | with_reducible rfl | (dsimp only; omega))
  rw [dif_neg h3]
  by_cases h4 : j.val < 28
  · rw [dif_pos h4]
    split_ifs <;> first
      | (exfalso; omega)
      | with_reducible rfl
      | (refine congrArg P (congrArg (ix2 i) (Fin.ext ?_)); show (_ : Nat) = _; first | omega | with_reducible rfl | (dsimp only; omega))
  rw [dif_neg h4]
  split_ifs <;> first
    | (exfalso; omega)
    | with_reducible rfl

end Cert.InprojRefIdeal

end
-- ==== Proof.InprojIdeal.Tie.lean ====
/- The input projection's kernel computes its reference: block by block the stored values are the reference's, and
   the blocks tile each result array. -/
module

public import proofs.«01_k».proof.Proof.InprojIdeal.First
public import proofs.«01_k».proof.Proof.InprojIdeal.HostReads
public import proofs.«01_k».proof.Proof.InprojRefIdeal.Value

@[expose] public section

set_option maxRecDepth 16384

noncomputable section

namespace Cert.InprojIdeal

open Idealize.ShloMosaic Idealize.ShloMosaic.TcCoe Idealize.SL.Sem Cert.InprojIdeal.Gen

/-- A sum of 128 terms of which only those from the eighth to the twenty-third count. -/
theorem sum_mid (f : Fin 128 → EReal) (hf : ∀ l : Fin 128, ¬ (8 ≤ l.val ∧ l.val < 24) → f l = 0) :
    ∑ l : Fin 128, f l = ∑ l : Fin 16, f ⟨8 + l.val, by omega⟩ := by
  have h1 : ∑ l : Fin 128, f l = (∑ i : Fin 8, f (Fin.castAdd 120 i)) + ∑ i : Fin 120, f (Fin.natAdd 8 i) := Fin.sum_univ_add (a := 8) (b := 120) f
  have h2 : ∑ i : Fin 120, f (Fin.natAdd 8 i) = (∑ i : Fin 16, f (Fin.natAdd 8 (Fin.castAdd 104 i))) + ∑ i : Fin 104, f (Fin.natAdd 8 (Fin.natAdd 16 i)) :=
    Fin.sum_univ_add (a := 16) (b := 104) fun i => f (Fin.natAdd 8 i)
  have z1 : ∑ i : Fin 8, f (Fin.castAdd 120 i) = 0 := Finset.sum_eq_zero fun i _ => hf _ (by show ¬ (8 ≤ i.val ∧ i.val < 24); omega)
  have z2 : ∑ i : Fin 104, f (Fin.natAdd 8 (Fin.natAdd 16 i)) = 0 := Finset.sum_eq_zero fun i _ => hf _ (by show ¬ (8 ≤ 8 + (16 + i.val) ∧ 8 + (16 + i.val) < 24); omega)
  rw [h1, h2, z1, z2, zero_add, add_zero]
  rfl

variable (m : (ℓ : Loc nD τ sig) → Buf (Elt Ideal) ℓ)

/-- Which block of each array a grid step takes. -/
theorem idx (t : Fin cfg0.N) : win0_0.index t = ![t.val, 0] ∧ win0_1.index t = ![0, 0] ∧ win0_2.index t = ![0, 0] ∧ win0_3.index t = ![0, 0] ∧ win0_4.index t = ![0, 0] ∧ win0_5.index t = ![0, 0] ∧ win0_13.index t = ![t.val, 0] ∧ win0_14.index t = ![t.val, 0] ∧ win0_20.index t = ![t.val, 0, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_13.index t = ![t.val, 0] ∧ win0_14.index t = ![t.val, 0] ∧ win0_20.index t = ![t.val, 0, 0]) t

/-- The number of a grid step. -/
theorem steps (t : Fin cfg0.N) : t.val < 64 := t.isLt

/-- The rows a grid step sees. -/
theorem iblk0 (c : Dev nD) (t : Fin cfg0.N) (r : Fin 512) (k : Fin 1024) (i : Fin 32768) (hi : i.val = t.val * 512 + r.val) :
    iblk m c 0 t (ix2 r k) = (m ((c.tc : Thread nD τ).loc main_arg0)) (ix2 i k) := by
  obtain ⟨e0, e1, e2, e3, e4, e5, e13, e14, e20⟩ := idx t
  have hb : t.val * 512 + r.val < 32768 := by omega
  have h : i = ⟨t.val * 512 + r.val, hb⟩ := Fin.ext hi
  rw [h]
  blk_ext! [iblk, V, e0]

/-- The gains a grid step sees. -/
theorem iblk1 (c : Dev nD) (t : Fin cfg0.N) (k : Fin 1024) :
    iblk m c 1 t (ix2 0 k) = (m ((c.tc : Thread nD τ).loc main_arg1)) (ix1 k) := by
  obtain ⟨e0, e1, e2, e3, e4, e5, e13, e14, e20⟩ := idx t
  have he : (win0_1.blk t).view.emb (ix2 (0 : Fin 1) k) = ix2 (0 : Fin 1) k := by
    blk_ext [e1]
  show V m c main_v25 ((win0_1.blk t).view.emb (ix2 (0 : Fin 1) k)) = _
  rw [he, V_cut]
  exact gain _ k

/-- The gathered weights a grid step sees. -/
theorem iblk2 (c : Dev nD) (t : Fin cfg0.N) (k : Fin 1024) (j : Fin 3200) :
    iblk m c 2 t (ix2 k j) = (StableHlo.after rest (StableHlo.after begun (fun b => m (c, b))) (Proc.tc.devRef main_v64) : FVec Ideal S1024x3200 .bf16) (ix2 k j) := by
  obtain ⟨e0, e1, e2, e3, e4, e5, e13, e14, e20⟩ := idx t
  have he : (win0_2.blk t).view.emb (ix2 k j) = ix2 k j := by
    blk_ext [e2]
  show V m c main_v64 ((win0_2.blk t).view.emb (ix2 k j)) = _
  rw [he, V_cut]

/-- The taps a grid step sees. -/
theorem iblk3 (c : Dev nD) (t : Fin cfg0.N) (q : Fin 4) (j : Fin 768) :
    iblk m c 3 t (ix2 q j) = (m ((c.tc : Thread nD τ).loc main_arg3)) (ix2 q j) := by
  obtain ⟨e0, e1, e2, e3, e4, e5, e13, e14, e20⟩ := idx t
  blk_ext! [iblk, V, e3]

/-- The low-rank weights a grid step sees. -/
theorem iblk4 (c : Dev nD) (t : Fin cfg0.N) (l j : Fin 128) :
    iblk m c 4 t (ix2 l j) = if h : 8 ≤ l.val ∧ l.val < 24 then (m ((c.tc : Thread nD τ).loc main_arg4)) (ix2 ⟨l.val - 8, by omega⟩ j) else (0 : EReal) := by
  obtain ⟨e0, e1, e2, e3, e4, e5, e13, e14, e20⟩ := idx t
  have he : (win0_4.blk t).view.emb (ix2 l j) = ix2 l j := by
    blk_ext [e4]
  show V m c main_v66 ((win0_4.blk t).view.emb (ix2 l j)) = _
  rw [he, V_cut]
  refine (wgu _ l j).trans ?_
  rw [begun4]

/-- The gate bias a grid step sees. -/
theorem iblk5 (c : Dev nD) (t : Fin cfg0.N) (j : Fin 128) :
    iblk m c 5 t (ix2 0 j) = (m ((c.tc : Thread nD τ).loc main_arg5)) (ix1 j) := by
  obtain ⟨e0, e1, e2, e3, e4, e5, e13, e14, e20⟩ := idx t
  have he : (win0_5.blk t).view.emb (ix2 (0 : Fin 1) j) = ix2 (0 : Fin 1) j := by
    blk_ext [e5]
  show V m c main_v67 ((win0_5.blk t).view.emb (ix2 (0 : Fin 1) j)) = _
  rw [he, V_cut]
  refine (gbias _ j).trans ?_
  rw [begun5]

/-- The reference's projection of what was launched. -/
abbrev projOf (c : Dev nD) : FVec Ideal InprojRefIdeal.S32768x3004 .f32 :=
  InprojRefIdeal.proj (m ((c.tc : Thread nD τ).loc main_arg0)) (m ((c.tc : Thread nD τ).loc main_arg1)) (m ((c.tc : Thread nD τ).loc main_arg2))

/-- What a grid step multiplies with a column of weights: the normed rows. -/
theorem normed (c : Dev nD) (t : Fin cfg0.N) (r : Fin 512) (k : Fin 1024) (i : Fin 32768) (hi : i.val = t.val * 512 + r.val) :
    k0_pay2 (iblk m c 0 t) (iblk m c 1 t) (ix2 r k)
      = Rms.rms (fun k => (m ((c.tc : Thread nD τ).loc main_arg0)) (ix2 i k)) ((m ((c.tc : Thread nD τ).loc main_arg1)) (ix1 k)) k := by
  rw [pay2_apply, iblk1]
  exact congrArg (fun f => Rms.rms f ((m ((c.tc : Thread nD τ).loc main_arg1)) (ix1 k)) k) (funext fun k => iblk0 m c t r k i hi)

/-- A column of a grid step is a column of the projection, where the gathered weights are that column's. -/
theorem col_eq (c : Dev nD) (t : Fin cfg0.N) (r : Fin 512) (i : Fin 32768) (hi : i.val = t.val * 512 + r.val) (j : Fin 3200) (q : Fin 3004)
    (h : ∀ k, (StableHlo.after rest (StableHlo.after begun (fun b => m (c, b))) (Proc.tc.devRef main_v64) : FVec Ideal S1024x3200 .bf16) (ix2 k j) = (m ((c.tc : Thread nD τ).loc main_arg2) : FVec Ideal S1024x3004 .f32) (ix2 k q)) :
    col (iblk m c 0 t) (iblk m c 1 t) (iblk m c 2 t) r j = projOf m c (ix2 i q) := by
  rw [col, projOf, InprojRefIdeal.proj_apply]
  exact Finset.sum_congr rfl fun k _ => congrArg₂ (fun a b : EReal => a * b) (normed m c t r k i hi) ((iblk2 m c t k j).trans (h k))

section

variable (c : Dev nD) (t : Fin cfg0.N) (r : Fin 512) (i : Fin 32768) (hi : i.val = t.val * 512 + r.val)

include hi

/-- Columns of block 0. -/
theorem at0 (j : Fin 768) : col (iblk m c 0 t) (iblk m c 1 t) (iblk m c 2 t) r ⟨0 + j.val, by omega⟩ = projOf m c (ix2 i ⟨0 + j.val, by omega⟩) :=
  col_eq m c t r i hi _ _ fun k => (cat0 _ k j).trans (src0 _ k j)

/-- Columns of block 1. -/
theorem at1 (j : Fin 256) : col (iblk m c 0 t) (iblk m c 1 t) (iblk m c 2 t) r ⟨768 + j.val, by omega⟩ = projOf m c (ix2 i ⟨768 + j.val, by omega⟩) :=
  col_eq m c t r i hi _ _ fun k => (cat1 _ k j).trans (src1 _ k j)

/-- Columns of block 7. -/
theorem at7 (j : Fin 128) : col (iblk m c 0 t) (iblk m c 1 t) (iblk m c 2 t) r ⟨1536 + j.val, by omega⟩ = projOf m c (ix2 i ⟨1448 + j.val, by omega⟩) :=
  col_eq m c t r i hi _ _ fun k => (cat7 _ k j).trans (src7 _ k j)

/-- Columns of block 8. -/
theorem at8 (j : Fin 128) : col (iblk m c 0 t) (iblk m c 1 t) (iblk m c 2 t) r ⟨1664 + j.val, by omega⟩ = projOf m c (ix2 i ⟨1576 + j.val, by omega⟩) :=
  col_eq m c t r i hi _ _ fun k => (cat8 _ k j).trans (src8 _ k j)

/-- Columns of block 9. -/
theorem at9 (j : Fin 256) : col (iblk m c 0 t) (iblk m c 1 t) (iblk m c 2 t) r ⟨1792 + j.val, by omega⟩ = projOf m c (ix2 i ⟨1704 + j.val, by omega⟩) :=
  col_eq m c t r i hi _ _ fun k => (cat9 _ k j).trans (src9 _ k j)

/-- Columns of block 10. -/
theorem at10 (j : Fin 256) : col (iblk m c 0 t) (iblk m c 1 t) (iblk m c 2 t) r ⟨2048 + j.val, by omega⟩ = projOf m c (ix2 i ⟨1960 + j.val, by omega⟩) :=
  col_eq m c t r i hi _ _ fun k => (cat10 _ k j).trans (src10 _ k j)

/-- Columns of block 14. -/
theorem at14 (j : Fin 256) : col (iblk m c 0 t) (iblk m c 1 t) (iblk m c 2 t) r ⟨2944 + j.val, by omega⟩ = projOf m c (ix2 i ⟨2744 + j.val, by omega⟩) :=
  col_eq m c t r i hi _ _ fun k => (cat14 _ k j).trans (src14 _ k j)

/-- The columns to convolve. -/
theorem atQkv (j : Fin 768) : qkv (iblk m c 0 t) (iblk m c 1 t) (iblk m c 2 t) r j = projOf m c (ix2 i ⟨j.val, by omega⟩) := by
  refine (congrArg (col (iblk m c 0 t) (iblk m c 1 t) (iblk m c 2 t) r) (Fin.ext (show j.val = 0 + j.val by omega))).trans ((at0 m c t r i hi j).trans ?_)
  exact congrArg (fun l => projOf m c (ix2 i l)) (Fin.ext (show 0 + j.val = j.val by omega))

/-- The third branch's columns. -/
theorem atC (j : Fin 768) : col (iblk m c 0 t) (iblk m c 1 t) (iblk m c 2 t) r ⟨1536 + j.val, by omega⟩ = projOf m c (ix2 i ⟨1448 + j.val, by omega⟩) := by
  have key : ∀ (a a' : Fin 3200) (b b' : Fin 3004), a.val = a'.val → b.val = b'.val →
      col (iblk m c 0 t) (iblk m c 1 t) (iblk m c 2 t) r a' = projOf m c (ix2 i b') → col (iblk m c 0 t) (iblk m c 1 t) (iblk m c 2 t) r a = projOf m c (ix2 i b) := by
    intro a a' b b' ha hb h
    rw [Fin.ext ha, Fin.ext hb, h]
  by_cases h1 : j.val < 128
  · exact at7 m c t r i hi ⟨j.val, h1⟩
  by_cases h2 : j.val < 256
  · exact key _ _ _ _ (show 1536 + j.val = 1664 + (j.val - 128) by omega) (show 1448 + j.val = 1576 + (j.val - 128) by omega) (at8 m c t r i hi ⟨j.val - 128, by omega⟩)
  by_cases h3 : j.val < 512
  · exact key _ _ _ _ (show 1536 + j.val = 1792 + (j.val - 256) by omega) (show 1448 + j.val = 1704 + (j.val - 256) by omega) (at9 m c t r i hi ⟨j.val - 256, by omega⟩)
  · exact key _ _ _ _ (show 1536 + j.val = 2048 + (j.val - 512) by omega) (show 1448 + j.val = 1960 + (j.val - 512) by omega) (at10 m c t r i hi ⟨j.val - 512, by omega⟩)

/-- The small columns. -/
theorem atS (j : Fin 128) : col (iblk m c 0 t) (iblk m c 1 t) (iblk m c 2 t) r ⟨2304 + j.val, by omega⟩ = smallAt (fun l => projOf m c (ix2 i l)) j := by
  have hw : ∀ k, (StableHlo.after rest (StableHlo.after begun (fun b => m (c, b))) (Proc.tc.devRef main_v64) : FVec Ideal S1024x3200 .bf16) (ix2 k ⟨2304 + j.val, by omega⟩)
      = smallAt (fun l => (m ((c.tc : Thread nD τ).loc main_arg2) : FVec Ideal S1024x3004 .f32) (ix2 k l)) j := fun k => (cat11 _ k j).trans (src11 _ k j)
  unfold smallAt at hw ⊢
  by_cases h1 : j.val < 4
  · simp only [dif_pos h1] at hw ⊢
    exact col_eq m c t r i hi _ _ hw
  simp only [dif_neg h1] at hw ⊢
  by_cases h2 : j.val < 8
  · simp only [dif_pos h2] at hw ⊢
    exact col_eq m c t r i hi _ _ hw
  simp only [dif_neg h2] at hw ⊢
  by_cases h3 : j.val < 24
  · simp only [dif_pos h3] at hw ⊢
    exact col_eq m c t r i hi _ _ hw
  simp only [dif_neg h3] at hw ⊢
  by_cases h4 : j.val < 28
  · simp only [dif_pos h4] at hw ⊢
    exact col_eq m c t r i hi _ _ hw
  simp only [dif_neg h4] at hw ⊢
  rw [col]
  refine Finset.sum_eq_zero fun k _ => ?_
  exact (congrArg (fun z : EReal => k0_pay2 (iblk m c 0 t) (iblk m c 1 t) (ix2 r k) * z) ((iblk2 m c t k _).trans (hw k))).trans (mul_zero _)

/-- The third branch's block is the reference's rows. -/
theorem blkC_eq (j : Fin 896) :
    blkC (iblk m c 0 t) (iblk m c 1 t) (iblk m c 2 t) (iblk m c 4 t) (iblk m c 5 t) r j
      = InprojRefIdeal.outC (projOf m c) (m ((c.tc : Thread nD τ).loc main_arg4)) (m ((c.tc : Thread nD τ).loc main_arg5)) (ix2 i j) := by
  rw [InprojRefIdeal.outC_apply, blkC]
  by_cases h : j.val < 768
  · rw [dif_pos h, dif_pos h]
    exact atC m c t r i hi ⟨j.val, h⟩
  rw [dif_neg h, dif_neg h, InprojRefIdeal.decay_apply, InprojRefIdeal.logits_apply, iblk5]
  refine congrArg (fun z : EReal => Decay.logDecay (z + (m ((c.tc : Thread nD τ).loc main_arg5)) (ix1 ⟨j.val - 768, by omega⟩))) ?_
  refine (sum_mid _ fun l hl => ?_).trans (Finset.sum_congr rfl fun l _ => ?_)
  · rw [iblk4, dif_neg hl, mul_zero]
  · rw [iblk4, dif_pos (show 8 ≤ 8 + l.val ∧ 8 + l.val < 24 by omega), atS m c t r i hi ⟨8 + l.val, by omega⟩]
    unfold smallAt
    rw [dif_neg (show ¬ 8 + l.val < 4 by omega), dif_neg (show ¬ 8 + l.val < 8 by omega), dif_pos (show 8 + l.val < 24 by omega)]
    refine congrArg₂ (fun a b : EReal => a * b) (congrArg (fun q => projOf m c (ix2 i q)) (Fin.ext (show 2216 + (8 + l.val - 8) = 2216 + l.val by omega))) ?_
    exact congrArg (fun q : Fin 16 => (m ((c.tc : Thread nD τ).loc main_arg4)) (ix2 q ⟨j.val - 768, by omega⟩)) (Fin.ext (show 8 + l.val - 8 = l.val by omega))

end

/-- The last branch's block is the reference's values. -/
theorem blkV_eq (c : Dev nD) (t : Fin cfg0.N) (b : Fin 64) (hb : t.val = b.val) (h : Fin 4) (d : Fin 80) (r : Fin 512) :
    blkV (iblk m c 0 t) (iblk m c 1 t) (iblk m c 2 t) h d r = InprojRefIdeal.outV (projOf m c) (ix3 b ⟨h.val * 80 + d.val, by omega⟩ r) := by
  rw [InprojRefIdeal.outV_apply, blkV]
  by_cases h' : d.val < 64
  · rw [dif_pos h', dif_pos h']
    exact at14 m c t r ⟨b.val * 512 + r.val, by omega⟩ (by show b.val * 512 + r.val = _; rw [hb]) ⟨h.val * 64 + d.val, by omega⟩
  · rw [dif_neg h', dif_neg h']

/-- The rows a grid step convolves are the reference's, behind the zeros before a sequence. -/
theorem ext_padded (c : Dev nD) (t : Fin cfg0.N) (s : Fin 8) (u : Nat) (hu : u < 8) (ht : t.val = s.val * 8 + u) (a : Fin 520) (p : Fin 4099) (hp : p.val + 5 = u * 512 + a.val) (j : Fin 768) :
    Pieces.ext (oldRows m c t) (qkv (iblk m c 0 t) (iblk m c 1 t) (iblk m c 2 t)) a j = InprojRefIdeal.padded (projOf m c) (ix3 s p j) := by
  rw [InprojRefIdeal.padded_apply, Pieces.ext]
  by_cases h8 : a.val < 8
  · rw [dif_pos h8, oldRows]
    by_cases h0 : u = 0
    · rw [if_pos (by omega), dif_neg (by omega)]
    · rw [if_neg (by omega), dif_pos (by omega)]
      exact atQkv m c ⟨t.val - 1, _⟩ ⟨504 + a.val, by omega⟩ _ (by show s.val * 4096 + (p.val - 3) = (t.val - 1) * 512 + (504 + a.val); omega) j
  · rw [dif_neg h8, dif_pos (by omega)]
    exact atQkv m c t ⟨a.val - 8, by omega⟩ _ (by show s.val * 4096 + (p.val - 3) = t.val * 512 + (a.val - 8); omega) j

/-- The first branch's block is the reference's rows. -/
theorem blkA_eq (c : Dev nD) (t : Fin cfg0.N) (r : Fin 512) (i : Fin 32768) (hi : i.val = t.val * 512 + r.val) (j : Fin 1152) :
    blkA (iblk m c 0 t) (iblk m c 1 t) (iblk m c 2 t) (iblk m c 3 t) (oldRows m c t) r j
      = InprojRefIdeal.outA (projOf m c) (m ((c.tc : Thread nD τ).loc main_arg3)) (ix2 i j) := by
  have hN := steps t
  rw [blkA]
  by_cases h : j.val < 768
  · rw [dif_pos h]
    have hA := InprojRefIdeal.outA_conv (projOf m c) (m ((c.tc : Thread nD τ).loc main_arg3)) ⟨t.val / 8, by omega⟩ ⟨t.val % 8 * 512 + r.val, by omega⟩ ⟨j.val, h⟩
    have hij : InprojRefIdeal.outA (projOf m c) (m ((c.tc : Thread nD τ).loc main_arg3)) (ix2 i j)
        = InprojRefIdeal.silu (InprojRefIdeal.conv (m ((c.tc : Thread nD τ).loc main_arg3)) (projOf m c)) (ix3 ⟨t.val / 8, by omega⟩ ⟨t.val % 8 * 512 + r.val, by omega⟩ ⟨j.val, h⟩) := by
      rw [← hA]
      exact congrArg (fun q => InprojRefIdeal.outA (projOf m c) (m ((c.tc : Thread nD τ).loc main_arg3)) (ix2 q j)) (Fin.ext (show i.val = t.val / 8 * 4096 + (t.val % 8 * 512 + r.val) by omega))
    rw [hij, InprojRefIdeal.silu_apply, InprojRefIdeal.conv_apply, InprojRefIdeal.tap0_apply, InprojRefIdeal.tap1_apply, InprojRefIdeal.tap2_apply, InprojRefIdeal.tap3_apply]
    exact mix_congr
      (iblk3 m c t 0 ⟨j.val, h⟩) (ext_padded m c t ⟨t.val / 8, by omega⟩ (t.val % 8) (by omega) (by show t.val = t.val / 8 * 8 + t.val % 8; omega) _ _ (by show 0 + (t.val % 8 * 512 + r.val) + 5 = t.val % 8 * 512 + (5 + r.val); omega) ⟨j.val, h⟩)
      (iblk3 m c t 1 ⟨j.val, h⟩) (ext_padded m c t ⟨t.val / 8, by omega⟩ (t.val % 8) (by omega) (by show t.val = t.val / 8 * 8 + t.val % 8; omega) _ _ (by show 1 + (t.val % 8 * 512 + r.val) + 5 = t.val % 8 * 512 + (6 + r.val); omega) ⟨j.val, h⟩)
      (iblk3 m c t 2 ⟨j.val, h⟩) (ext_padded m c t ⟨t.val / 8, by omega⟩ (t.val % 8) (by omega) (by show t.val = t.val / 8 * 8 + t.val % 8; omega) _ _ (by show 2 + (t.val % 8 * 512 + r.val) + 5 = t.val % 8 * 512 + (7 + r.val); omega) ⟨j.val, h⟩)
      (iblk3 m c t 3 ⟨j.val, h⟩) (ext_padded m c t ⟨t.val / 8, by omega⟩ (t.val % 8) (by omega) (by show t.val = t.val / 8 * 8 + t.val % 8; omega) _ _ (by show 3 + (t.val % 8 * 512 + r.val) + 5 = t.val % 8 * 512 + (8 + r.val); omega) ⟨j.val, h⟩)
  rw [dif_neg h]
  by_cases h' : j.val < 1024
  · rw [dif_pos h']
    have hj : j = ⟨768 + (⟨j.val - 768, by omega⟩ : Fin 256).val, by dsimp only; omega⟩ := Fin.ext (by show j.val = 768 + (j.val - 768); omega)
    refine (at1 m c t r i hi ⟨j.val - 768, by omega⟩).trans ?_
    refine (InprojRefIdeal.outA_gate (projOf m c) (m ((c.tc : Thread nD τ).loc main_arg3)) i ⟨j.val - 768, by omega⟩).symm.trans ?_
    exact congrArg (fun q => InprojRefIdeal.outA (projOf m c) (m ((c.tc : Thread nD τ).loc main_arg3)) (ix2 i q)) hj.symm
  · rw [dif_neg h']
    have hj : j = ⟨1024 + (⟨j.val - 1024, by omega⟩ : Fin 128).val, by dsimp only; omega⟩ := Fin.ext (by show j.val = 1024 + (j.val - 1024); omega)
    refine (atS m c t r i hi ⟨j.val - 1024, by omega⟩).trans ?_
    refine (InprojRefIdeal.outA_small (projOf m c) (m ((c.tc : Thread nD τ).loc main_arg3)) i ⟨j.val - 1024, by omega⟩).symm.trans ?_
    exact congrArg (fun q => InprojRefIdeal.outA (projOf m c) (m ((c.tc : Thread nD τ).loc main_arg3)) (ix2 i q)) hj.symm

/-- The first result after the run. -/
theorem final_eq13 (c : Dev nD) :
    (dats m 0 c).arrAt 13 cfg0.N = InprojRefIdeal.outA (projOf m c) (m ((c.tc : Thread nD τ).loc main_arg3)) := by
  refine (dats m 0 c).arrAt_eq_of_covers 13 _ (by decide +kernel) fun t hf y => ?_
  blk_simp
  rw [after0_13]
  obtain ⟨e0, e1, e2, e3, e4, e5, e13, e14, e20⟩ := idx t
  have hN := steps t
  idx_vars y
  have he : ((View.whole main_v126_0).slice (win0_13.rect t)).emb (ix2 y0 y1) = ix2 ⟨t.val * 512 + y0.val, by omega⟩ y1 := by
    blk_ext [e13]
  rw [he]
  exact (outsA m c t y0 y1).trans (blkA_eq m c t y0 _ rfl y1)

/-- The second result after the run. -/
theorem final_eq14 (c : Dev nD) :
    (dats m 0 c).arrAt 14 cfg0.N = InprojRefIdeal.outC (projOf m c) (m ((c.tc : Thread nD τ).loc main_arg4)) (m ((c.tc : Thread nD τ).loc main_arg5)) := by
  refine (dats m 0 c).arrAt_eq_of_covers 14 _ (by decide +kernel) fun t hf y => ?_
  blk_simp
  rw [after0_14]
  obtain ⟨e0, e1, e2, e3, e4, e5, e13, e14, e20⟩ := idx t
  have hN := steps t
  idx_vars y
  have he : ((View.whole main_v126_1).slice (win0_14.rect t)).emb (ix2 y0 y1) = ix2 ⟨t.val * 512 + y0.val, by omega⟩ y1 := by
    blk_ext [e14]
  rw [he]
  exact (outsC m c t y0 y1).trans (blkC_eq m c t y0 _ rfl y1)

/-- The last result after the run. -/
theorem final_eq20 (c : Dev nD) :
    (dats m 0 c).arrAt 20 cfg0.N = InprojRefIdeal.outV (projOf m c) := by
  refine (dats m 0 c).arrAt_eq_of_covers 20 _ (by decide +kernel) fun t hf y => ?_
  blk_simp
  rw [after0_20]
  obtain ⟨e0, e1, e2, e3, e4, e5, e13, e14, e20⟩ := idx t
  have hN := steps t
  idx_vars y
  have he : ((View.whole main_v126_7).slice (win0_20.rect t)).emb (ix3 y0 y1 y2) = ix3 ⟨t.val, hN⟩ y1 y2 := by
    blk_ext [e20]
  rw [he]
  obtain rfl : y0 = 0 := Subsingleton.elim _ _
  have h1 : y1 = ⟨(⟨y1.val / 80, by omega⟩ : Fin 4).val * 80 + (⟨y1.val % 80, by omega⟩ : Fin 80).val, by dsimp only; omega⟩ := Fin.ext (by show y1.val = y1.val / 80 * 80 + y1.val % 80; omega)
  rw [h1]
  exact (outsV m c t _ _ y2).trans (blkV_eq m c t ⟨t.val, hN⟩ rfl _ _ y2)

end Cert.InprojIdeal

end
-- ==== Proof.lean ====
module

public import proofs.«01_k».proof.Defs
public import proofs.«01_k».proof.Proof.Gen.Chunk
public import proofs.«01_k».proof.Proof.Gen.Chunk.Skeleton
public import proofs.«01_k».proof.Proof.Gen.Chunk.Launch
public import proofs.«01_k».proof.Proof.Gen.Chunk.Points
public import proofs.«01_k».proof.Proof.Gen.Chunk.Frame
public import proofs.«01_k».proof.Proof.Gen.Chunk.Loops
public import proofs.«01_k».proof.Proof.Gen.ChunkIdeal
public import proofs.«01_k».proof.Proof.Gen.ChunkIdeal.Skeleton
public import proofs.«01_k».proof.Proof.Gen.ChunkIdeal.Launch
public import proofs.«01_k».proof.Proof.Gen.ChunkIdeal.Points
public import proofs.«01_k».proof.Proof.Gen.ChunkIdeal.Frame
public import proofs.«01_k».proof.Proof.Gen.ChunkIdeal.Loops
public import proofs.«01_k».proof.Proof.Gen.Causal
public import proofs.«01_k».proof.Proof.Gen.Causal.Skeleton
public import proofs.«01_k».proof.Proof.Gen.Causal.Launch
public import proofs.«01_k».proof.Proof.Gen.Causal.Points
public import proofs.«01_k».proof.Proof.Gen.Causal.Frame
public import proofs.«01_k».proof.Proof.Gen.Causal.Loops
public import proofs.«01_k».proof.Proof.Gen.CausalIdeal
public import proofs.«01_k».proof.Proof.Gen.CausalIdeal.Skeleton
public import proofs.«01_k».proof.Proof.Gen.CausalIdeal.Launch
public import proofs.«01_k».proof.Proof.Gen.CausalIdeal.Points
public import proofs.«01_k».proof.Proof.Gen.CausalIdeal.Frame
public import proofs.«01_k».proof.Proof.Gen.CausalIdeal.Loops
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MlpIdeal.Value
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.MergeIdeal.Value
public import proofs.«01_k».proof.Proof.Gen.ChunkRefIdeal
public import proofs.«01_k».proof.Proof.Gen.ChunkRefIdeal.Run
public import proofs.«01_k».proof.Proof.Gen.CausalRefIdeal
public import proofs.«01_k».proof.Proof.Gen.CausalRefIdeal.Run
public import proofs.«01_k».proof.Proof.Gen.MlpRefIdeal
public import proofs.«01_k».proof.Proof.Gen.MlpRefIdeal.Run
public import proofs.«01_k».proof.Proof.Gen.MergeRefIdeal
public import proofs.«01_k».proof.Proof.Gen.MergeRefIdeal.Run
public import proofs.«01_k».proof.Proof.Gen.InprojRefIdeal
public import proofs.«01_k».proof.Proof.Gen.InprojRefIdeal.Run
public import proofs.«01_k».proof.Proof.Gen.Pre_tame
public import proofs.«01_k».proof.Proof.Chunk.Run
public import proofs.«01_k».proof.Proof.ChunkIdeal.Run
public import proofs.«01_k».proof.Proof.Causal.Run
public import proofs.«01_k».proof.Proof.CausalIdeal.Run
public import proofs.«01_k».proof.Proof.ChunkIdeal.Tie
public import proofs.«01_k».proof.Proof.CausalIdeal.Tie
public import Idealize.ShloMosaic.Lib.Quiescent
public import Idealize.ShloMosaic.Adequacy
public import Idealize.ShloMosaic.Init
public import proofs.«01_k».proof.Proof.MlpIdeal.Tie
public import proofs.«01_k».proof.Proof.MergeIdeal.Tie
public import proofs.«01_k».proof.Proof.InprojIdeal.Tie

@[expose] public section

noncomputable section

namespace Cert.Proof

open Idealize.ShloMosaic Idealize.SL.Sem

/-- A host-only program holds no semaphore, so its run ends with every counter at zero; here for the chunk reference. -/
theorem frame_chunk_ref (m : (ℓ : Loc Cert.ChunkRefIdeal.nD Cert.ChunkRefIdeal.τ Cert.ChunkRefIdeal.sig) → Buf (Elt Ideal) ℓ) (g : Dev Cert.ChunkRefIdeal.nD → PrngReg) :
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1)
      ∧ r.2.mem ((c.tc : Thread Cert.ChunkRefIdeal.nD Cert.ChunkRefIdeal.τ).loc Cert.ChunkRefIdeal.main_arg2) = m ((c.tc : Thread Cert.ChunkRefIdeal.nD Cert.ChunkRefIdeal.τ).loc Cert.ChunkRefIdeal.main_arg2))
      ∧ r.2.sem = fun _ => 0) :=
  (θ_run _ _ _).mono (fun r h => ⟨fun c => (h c).2, sem_eq_zero_of_no_sems (by decide) r.2⟩) (Cert.ChunkRefIdeal.Value.run (F := Ideal) m g)

/-- A host-only program holds no semaphore, so its run ends with every counter at zero; here for the causal reference. -/
theorem frame_causal_ref (m : (ℓ : Loc Cert.CausalRefIdeal.nD Cert.CausalRefIdeal.τ Cert.CausalRefIdeal.sig) → Buf (Elt Ideal) ℓ) (g : Dev Cert.CausalRefIdeal.nD → PrngReg) :
    θ_run (Cert.CausalRefIdeal.defs (F := Ideal)) (onTc (τ := Cert.CausalRefIdeal.τ) (Cert.CausalRefIdeal.main (F := Ideal))) ⟨m, fun _ => 0, g⟩ (fun r => (∀ c : Dev Cert.CausalRefIdeal.nD,
      r.2.mem ((c.tc : Thread Cert.CausalRefIdeal.nD Cert.CausalRefIdeal.τ).loc Cert.CausalRefIdeal.main_arg0) = m ((c.tc : Thread Cert.CausalRefIdeal.nD Cert.CausalRefIdeal.τ).loc Cert.CausalRefIdeal.main_arg0)
      ∧ r.2.mem ((c.tc : Thread Cert.CausalRefIdeal.nD Cert.CausalRefIdeal.τ).loc Cert.CausalRefIdeal.main_arg1) = m ((c.tc : Thread Cert.CausalRefIdeal.nD Cert.CausalRefIdeal.τ).loc Cert.CausalRefIdeal.main_arg1)
      ∧ r.2.mem ((c.tc : Thread Cert.CausalRefIdeal.nD Cert.CausalRefIdeal.τ).loc Cert.CausalRefIdeal.main_arg2) = m ((c.tc : Thread Cert.CausalRefIdeal.nD Cert.CausalRefIdeal.τ).loc Cert.CausalRefIdeal.main_arg2))
      ∧ r.2.sem = fun _ => 0) :=
  (θ_run _ _ _).mono (fun r h => ⟨fun c => (h c).2, sem_eq_zero_of_no_sems (by decide) r.2⟩) (Cert.CausalRefIdeal.Value.run (F := Ideal) m g)

/-- A host-only program holds no semaphore, so its run ends with every counter at zero; here for the mlp reference. -/
theorem frame_mlp_ref (m : (ℓ : Loc Cert.MlpRefIdeal.nD Cert.MlpRefIdeal.τ Cert.MlpRefIdeal.sig) → Buf (Elt Ideal) ℓ) (g : Dev Cert.MlpRefIdeal.nD → PrngReg) :
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0) :=
  (θ_run _ _ _).mono (fun r h => ⟨fun c => (h c).2, sem_eq_zero_of_no_sems (by decide) r.2⟩) (Cert.MlpRefIdeal.Value.run (F := Ideal) m g)

/-- A host-only program holds no semaphore, so its run ends with every counter at zero; here for the merge reference. -/
theorem frame_merge_ref (m : (ℓ : Loc Cert.MergeRefIdeal.nD Cert.MergeRefIdeal.τ Cert.MergeRefIdeal.sig) → Buf (Elt Ideal) ℓ) (g : Dev Cert.MergeRefIdeal.nD → PrngReg) :
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0) :=
  (θ_run _ _ _).mono (fun r h => ⟨fun c => (h c).2, sem_eq_zero_of_no_sems (by decide) r.2⟩) (Cert.MergeRefIdeal.Value.run (F := Ideal) m g)

/-- The input projection's reference leaves its arguments unchanged and its semaphores at zero. -/
theorem frame_inproj_ref (m : (ℓ : Loc Cert.InprojRefIdeal.nD Cert.InprojRefIdeal.τ Cert.InprojRefIdeal.sig) → Buf (Elt Ideal) ℓ) (g : Dev Cert.InprojRefIdeal.nD → PrngReg) :
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10))
      ∧ r.2.sem = fun _ => 0) :=
  (θ_run _ _ _).mono (fun r h => ⟨fun c => (h c).2.2.2, sem_eq_zero_of_no_sems (by decide) r.2⟩) (Cert.InprojRefIdeal.Value.run (F := Ideal) m g)

/-- The chunk-causal flash kernel computes the attention of its queries, keys and values. -/
theorem algebraic_chunk [Cert.Pre_tame.Facts] : Cert.algebraic_ChunkIdeal_ChunkRefIdeal_pre_tame := by
  intro m g m' g' hpre hargs
  refine ⟨fun c => Cert.ChunkIdeal.refOut (m (c.tc.loc Cert.ChunkIdeal.main_arg0)) (m (c.tc.loc Cert.ChunkIdeal.main_arg1)) (m (c.tc.loc Cert.ChunkIdeal.main_arg2)), ?_, ?_⟩
  · refine (θ_run _ _ _).mono (fun r h c => ?_) (Cert.ChunkIdeal.run_out m g)
    obtain ⟨hq, hk, hv⟩ := Cert.Tame.tame_facts _ _ _ (hpre c)
    exact ⟨(h c).1.trans (Cert.ChunkIdeal.final_eq m c _ _ _ rfl rfl rfl hq hk hv), (h c).2⟩
  · refine (θ_run _ _ _).mono (fun r h c => ?_) (Cert.ChunkRefIdeal.Value.run (F := Ideal) m' g')
    refine ⟨(h c).1.trans ?_, (h c).2⟩
    beta_reduce
    rw [← (hargs c).1, ← (hargs c).2.1, ← (hargs c).2.2]
    exact Cert.ChunkRefIdeal.res_eq m' c

/-- The causal flash kernel computes the attention of its queries, keys and values. -/
theorem algebraic_causal [Cert.Pre_tame.Facts] : Cert.algebraic_CausalIdeal_CausalRefIdeal_pre_tame := by
  intro m g m' g' hpre hargs
  refine ⟨fun c => Cert.CausalIdeal.refOut (m (c.tc.loc Cert.CausalIdeal.main_arg0)) (m (c.tc.loc Cert.CausalIdeal.main_arg1)) (m (c.tc.loc Cert.CausalIdeal.main_arg2)), ?_, ?_⟩
  · refine (θ_run _ _ _).mono (fun r h c => ?_) (Cert.CausalIdeal.run_out m g)
    obtain ⟨hq, hk, hv⟩ := Cert.Tame.tame_facts _ _ _ (hpre c)
    exact ⟨(h c).1.trans (Cert.CausalIdeal.final_eq m c _ _ _ rfl rfl rfl hq hk hv), (h c).2⟩
  · refine (θ_run _ _ _).mono (fun r h c => ?_) (Cert.CausalRefIdeal.Value.run (F := Ideal) m' g')
    refine ⟨(h c).1.trans ?_, (h c).2⟩
    beta_reduce
    rw [← (hargs c).1, ← (hargs c).2.1, ← (hargs c).2.2]
    exact Cert.CausalRefIdeal.res_eq m' c

/-- The multilayer perceptron kernel computes the residual block of its reference. -/
theorem algebraic_mlp : Cert.algebraic_MlpIdeal_MlpRefIdeal := by
  intro m g m' g' hpre hargs
  refine ⟨fun c => Cert.MlpRefIdeal.out (m (c.tc.loc Cert.MlpIdeal.main_arg0)) (m (c.tc.loc Cert.MlpIdeal.main_arg1)) (m (c.tc.loc Cert.MlpIdeal.main_arg2)) (m (c.tc.loc Cert.MlpIdeal.main_arg3)) (m (c.tc.loc Cert.MlpIdeal.main_arg4)), ?_, ?_⟩
  · refine (θ_run _ _ _).mono (fun r h c => ?_) (Cert.MlpIdeal.Value.run_blocks m g)
    exact ⟨(h c).1.trans (Cert.MlpIdeal.final_eq m c), (h c).2⟩
  · refine (θ_run _ _ _).mono (fun r h c => ?_) (Cert.MlpRefIdeal.Value.run (F := Ideal) m' g')
    refine ⟨(h c).1.trans ?_, (h c).2⟩
    beta_reduce
    rw [← (hargs c).1, ← (hargs c).2.1, ← (hargs c).2.2.1, ← (hargs c).2.2.2.1, ← (hargs c).2.2.2.2]
    exact Cert.MlpRefIdeal.res_eq m' c

/-- The merge kernel computes the gated sum of the four branches, its projection and the residual. -/
theorem algebraic_merge : Cert.algebraic_MergeIdeal_MergeRefIdeal := by
  intro m g m' g' hpre hargs
  refine ⟨fun c => Cert.MergeRefIdeal.out (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)) (m (c.tc.loc Cert.MergeIdeal.main_arg7)) (m (c.tc.loc Cert.MergeIdeal.main_arg8)) (m (c.tc.loc Cert.MergeIdeal.main_arg9)) (m (c.tc.loc Cert.MergeIdeal.main_arg10)), ?_, ?_⟩
  · refine (θ_run _ _ _).mono (fun r h c => ?_) (Cert.MergeIdeal.Value.run_blocks m g)
    exact ⟨(h c).1.trans (Cert.MergeIdeal.final_eq m c), (h c).2⟩
  · refine (θ_run _ _ _).mono (fun r h c => ?_) (Cert.MergeRefIdeal.Value.run (F := Ideal) m' g')
    refine ⟨(h c).1.trans ?_, (h c).2⟩
    beta_reduce
    rw [← (hargs c).1, ← (hargs c).2.1, ← (hargs c).2.2.1, ← (hargs c).2.2.2.1, ← (hargs c).2.2.2.2.1, ← (hargs c).2.2.2.2.2.1, ← (hargs c).2.2.2.2.2.2.1, ← (hargs c).2.2.2.2.2.2.2.1, ← (hargs c).2.2.2.2.2.2.2.2.1, ← (hargs c).2.2.2.2.2.2.2.2.2.1, ← (hargs c).2.2.2.2.2.2.2.2.2.2]
    exact Cert.MergeRefIdeal.res_eq m' c

/-- The input projection's kernel computes, of its results, the three that are claimed. -/
theorem algebraic_inproj : Cert.algebraic_InprojIdeal_InprojRefIdeal := by
  intro m g m' g' hpre hargs
  refine ⟨fun c => Cert.InprojRefIdeal.outA (Cert.InprojRefIdeal.proj (m (c.tc.loc Cert.InprojIdeal.main_arg0)) (m (c.tc.loc Cert.InprojIdeal.main_arg1)) (m (c.tc.loc Cert.InprojIdeal.main_arg2))) (m (c.tc.loc Cert.InprojIdeal.main_arg3)),
    fun c => Cert.InprojRefIdeal.outC (Cert.InprojRefIdeal.proj (m (c.tc.loc Cert.InprojIdeal.main_arg0)) (m (c.tc.loc Cert.InprojIdeal.main_arg1)) (m (c.tc.loc Cert.InprojIdeal.main_arg2))) (m (c.tc.loc Cert.InprojIdeal.main_arg4)) (m (c.tc.loc Cert.InprojIdeal.main_arg5)),
    fun c => Cert.InprojRefIdeal.outV (Cert.InprojRefIdeal.proj (m (c.tc.loc Cert.InprojIdeal.main_arg0)) (m (c.tc.loc Cert.InprojIdeal.main_arg1)) (m (c.tc.loc Cert.InprojIdeal.main_arg2))), ?_, ?_⟩
  · refine (θ_run _ _ _).mono (fun r h c => ?_) (Cert.InprojIdeal.Value.run_blocks m g)
    obtain ⟨h0, h1, _, _, _, _, _, h7, hr⟩ := h c
    exact ⟨h0.trans (Cert.InprojIdeal.final_eq13 m c), h1.trans (Cert.InprojIdeal.final_eq14 m c), h7.trans (Cert.InprojIdeal.final_eq20 m c), hr⟩
  · refine (θ_run _ _ _).mono (fun r h c => ?_) (Cert.InprojRefIdeal.run_out m' g')
    obtain ⟨h0, h1, h7, hr⟩ := h c
    obtain ⟨a0, a1, a2, a3, a4, a5, _⟩ := hargs c
    beta_reduce
    rw [← a0, ← a1, ← a2, ← a3, ← a4, ← a5]
    exact ⟨h0, h1, h7, hr⟩

/-- The certificate: the frames of the five kernels, of their idealizations and of their references, and that each
    idealized kernel computes its reference. -/
theorem claim : Cert.Claim := ⟨Cert.Chunk.Gen.facts, Cert.ChunkIdeal.Gen.facts, Cert.ChunkRefIdeal.Gen.facts, Cert.Causal.Gen.facts, Cert.CausalIdeal.Gen.facts, Cert.CausalRefIdeal.Gen.facts, Cert.Mlp.Gen.facts, Cert.MlpIdeal.Gen.facts, Cert.MlpRefIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.Pre_tame.Gen.facts,
  fun m g _ => Cert.Chunk.frame_main m g,
  fun m g _ => Cert.ChunkIdeal.frame_main m g,
  fun m g _ => Cert.ChunkIdeal.frame_main m g,
  fun m g _ => frame_chunk_ref m g,
  fun m g _ => frame_chunk_ref m g,
  fun m g _ => Cert.Causal.frame_main m g,
  fun m g _ => Cert.CausalIdeal.frame_main m g,
  fun m g _ => Cert.CausalIdeal.frame_main m g,
  fun m g _ => frame_causal_ref m g,
  fun m g _ => frame_causal_ref m g,
  fun m g _ => Cert.Mlp.Gen.frame m g,
  fun m g _ => Cert.MlpIdeal.Gen.frame m g,
  fun m g _ => frame_mlp_ref m g,
  fun m g _ => Cert.Merge.Gen.frame m g,
  fun m g _ => Cert.MergeIdeal.Gen.frame m g,
  fun m g _ => frame_merge_ref m g,
  fun m g _ => Cert.Inproj.Gen.frame m g,
  fun m g _ => Cert.InprojIdeal.Gen.frame m g,
  fun m g _ => frame_inproj_ref m g,
  trivial,
  algebraic_chunk,
  trivial,
  algebraic_causal,
  trivial,
  algebraic_mlp,
  trivial,
  algebraic_merge,
  trivial,
  algebraic_inproj⟩

end Cert.Proof

end
